-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v9_2)) (v1 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_2) = v0 c
          ∧ r.2.mem ((c.tc : Thread Cert.Kernel6Ideal.nD Cert.Kernel6Ideal.τ).loc Cert.Kernel6Ideal.main_v9_3) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S10x8192x1024 : Shape := ⟨3, ![10, 8192, 1024]⟩
abbrev S8x257 : Shape := ⟨2, ![8, 257]⟩
abbrev S_ : Shape := ⟨0, ![]⟩

class Facts : Prop where
  bcast_S_S10x8192x1024 : S_.BroadcastsInDim S10x8192x1024 (![] : Fin 0 → Fin S10x8192x1024.rank)
  reducesTo_S10x8192x1024_S_d0_1_2 : S10x8192x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S10x8192x1024 .f32) (main_arg1 : FVec F S8x257 .f32) : IVec S_ 1 :=
  let main_v0 : FVec F S10x8192x1024 .f32 := Host.absf main_arg0
  let main_cst : FVec F S_ .f32 := constant S_ .f32 0x7F800000#32
  let main_v1 : FVec F S10x8192x1024 .f32 := broadcastInDim S10x8192x1024 ![] bcast_S_S10x8192x1024 main_cst
  let main_v2 : IVec S10x8192x1024 1 := cmpf .olt main_v0 main_v1
  let main_c : IVec S_ 1 := constantI S_ 1 1#1
  let main_v3 : IVec S_ 1 := (fun x v => Host.reduce IntOp.andi x v reducesTo_S10x8192x1024_S_d0_1_2 h_S_) main_v2 main_c
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  let main_c_1 : IVec S_ 1 := constantI S_ 1 1#1
  let main_v7 : IVec S_ 1 := (fun x v => Host.reduce IntOp.andi x v reducesTo_S8x257_S_d0_1 h_S_) main_v6 main_c_1
  let main_v8 : IVec S_ 1 := andi main_v3 main_v7
  main_v8
-- ==== Kernel.lean ====
abbrev S10x8192x1024 : Shape := ⟨3, ![10, 8192, 1024]⟩
abbrev S8x257 : Shape := ⟨2, ![8, 257]⟩
abbrev S8192x1024 : Shape := ⟨2, ![8192, 1024]⟩
abbrev S1x8192x128 : Shape := ⟨3, ![1, 8192, 128]⟩
abbrev S8192x128 : Shape := ⟨2, ![8192, 128]⟩
abbrev S32x128x256 : Shape := ⟨3, ![32, 128, 256]⟩
abbrev S768x256 : Shape := ⟨2, ![768, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S128x128 : Shape := ⟨2, ![128, 128]⟩
abbrev S1x1 : Shape := ⟨2, ![1, 1]⟩
abbrev S8x256 : Shape := ⟨2, ![8, 256]⟩
abbrev S8x128 : Shape := ⟨2, ![8, 128]⟩
abbrev S256x256 : Shape := ⟨2, ![256, 256]⟩
abbrev S512x128 : Shape := ⟨2, ![512, 128]⟩
abbrev S512x256 : Shape := ⟨2, ![512, 256]⟩
abbrev S768x128 : Shape := ⟨2, ![768, 128]⟩
abbrev S256 : Shape := ⟨1, ![256]⟩
abbrev S1x256 : Shape := ⟨2, ![1, 256]⟩

abbrev nBuf : Space → Nat
  | .hbm => 3
  | .vmem => 15
  | .smem => 1
  | _ => 0

abbrev bufTy : (tb : Table) → Fin (tcTables nBuf tb) → BufTy
  | .hbm, ⟨0, _⟩ => ⟨S10x8192x1024, .f32⟩
  | .hbm, ⟨1, _⟩ => ⟨S8x257, .f32⟩
  | .hbm, ⟨2, _⟩ => ⟨S8192x1024, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .bf16⟩
  | .local _ .vmem, ⟨9, _⟩ => ⟨S32x128x256, .bf16⟩
  | .local _ .vmem, ⟨10, _⟩ => ⟨S768x256, .f32⟩
  | .local _ .vmem, ⟨11, _⟩ => ⟨S768x256, .f32⟩
  | .local _ .vmem, ⟨12, _⟩ => ⟨S768x256, .f32⟩
  | .local _ .vmem, ⟨13, _⟩ => ⟨S768x256, .f32⟩
  | .local _ .vmem, ⟨14, _⟩ => ⟨S768x256, .f32⟩
  | .local _ .smem, ⟨0, _⟩ => ⟨S8x257, .f32⟩
  | _, _ => ⟨S10x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_542 : BitVec 32 := 256#32
  let v2869 : BitVec 32 := Scalar.muli arg13 c256_i32_542
  v2869
def k0_off1 (k0_t1 : Fin k0_t1_loop.trips) : Fin 3 → Nat :=
  let c0_543 : Index := 0#32
  let c0_i32 : BitVec 32 := 0#32
  let c1_i32 : BitVec 32 := 1#32
  let arg13 : BitVec 32 := Scf.iv c0_i32 c1_i32 k0_t1
  let c256_i32_542 : BitVec 32 := 256#32
  let v2869 : BitVec 32 := Scalar.muli arg13 c256_i32_542
  let v2870 : BitVec 32 := v2869
  let v2871 : Index := Scalar.indexCast v2870
  let c0_544 : Index := 0#32
  ![0, v2871.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32_542 : BitVec 32 := 256#32
  let v2869 : BitVec 32 := Scalar.muli arg13 c256_i32_542
  let v2870 : BitVec 32 := v2869
  let v2875 : Index := Scalar.indexCast v2870
  let c0_545 : Index := 0#32
  ![v2875.toNat, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2884 : Index := Scalar.indexCast arg13
  let c0_548 : Index := 0#32
  let c0_549 : Index := 0#32
  ![v2884.toNat, 0, 0]
def k0_off4 (i : grid0.Coords) : Fin 2 → Nat :=
  let arg0 : BitVec 32 := BitVec.ofNat 32 (i 0).val
  let v3 : Index := Scalar.indexCast arg0
  let c0 : Index := 0#32
  ![v3.toNat, 0]
def k0_off5 (i : grid0.Coords) : Fin 2 → Nat :=
  let arg0 : BitVec 32 := BitVec.ofNat 32 (i 0).val
  let v17 : Index := Scalar.indexCast arg0
  let c1 : Index := 1#32
  ![v17.toNat, 1]
def k0_off6 (i : grid0.Coords) : Fin 2 → Nat :=
  let arg0 : BitVec 32 := BitVec.ofNat 32 (i 0).val
  let v23 : Index := Scalar.indexCast arg0
  let c2 : Index := 2#32
  ![v23.toNat, 2]
def k0_off7 (i : grid0.Coords) : Fin 2 → Nat :=
  let arg0 : BitVec 32 := BitVec.ofNat 32 (i 0).val
  let v29 : Index := Scalar.indexCast arg0
  let c3 : Index := 3#32
  ![v29.toNat, 3]
def k0_off8 (i : grid0.Coords) : Fin 2 → Nat :=
  let arg0 : BitVec 32 := BitVec.ofNat 32 (i 0).val
  let v35 : Index := Scalar.indexCast arg0
  let c4 : Index := 4#32
  ![v35.toNat, 4]
def k0_off9 (i : grid0.Coords) : Fin 2 → Nat :=
  let arg0 : BitVec 32 := BitVec.ofNat 32 (i 0).val
  let v41 : Index := Scalar.indexCast arg0
  let c5 : Index := 5#32
  ![v41.toNat, 5]
def k0_off10 (i : grid0.Coords) : Fin 2 → Nat :=
  let arg0 : BitVec 32 := BitVec.ofNat 32 (i 0).val
  let v47 : Index := Scalar.indexCast arg0
  let c6 : Index := 6#32
  ![v47.toNat, 6]
def k0_off11 (i : grid0.Coords) : Fin 2 → Nat :=
  let arg0 : BitVec 32 := BitVec.ofNat 32 (i 0).val
  let v53 : Index := Scalar.indexCast arg0
  let c7 : Index := 7#32
  ![v53.toNat, 7]
def k0_off12 (i : grid0.Coords) : Fin 2 → Nat :=
  let arg0 : BitVec 32 := BitVec.ofNat 32 (i 0).val
  let v59 : Index := Scalar.indexCast arg0
  let c8 : Index := 8#32
  ![v59.toNat, 8]
def k0_off13 (i : grid0.Coords) : Fin 2 → Nat :=
  let arg0 : BitVec 32 := BitVec.ofNat 32 (i 0).val
  let v65 : Index := Scalar.indexCast arg0
  let c9 : Index := 9#32
  ![v65.toNat, 9]
def k0_off14 (i : grid0.Coords) : Fin 2 → Nat :=
  let arg0 : BitVec 32 := BitVec.ofNat 32 (i 0).val
  let v71 : Index := Scalar.indexCast arg0
  let c10 : Index := 10#32
  ![v71.toNat, 10]
def k0_off15 (i : grid0.Coords) : Fin 2 → Nat :=
  let arg0 : BitVec 32 := BitVec.ofNat 32 (i 0).val
  let v77 : Index := Scalar.indexCast arg0
  let c11 : Index := 11#32
  ![v77.toNat, 11]
def k0_off16 (i : grid0.Coords) : Fin 2 → Nat :=
  let arg0 : BitVec 32 := BitVec.ofNat 32 (i 0).val
  let v83 : Index := Scalar.indexCast arg0
  let c12 : Index := 12#32
  ![v83.toNat, 12]
def k0_off17 (i : grid0.Coords) : Fin 2 → Nat :=
  let arg0 : BitVec 32 := BitVec.ofNat 32 (i 0).val
  let v89 : Index := Scalar.indexCast arg0
  let c13 : Index := 13#32
  ![v89.toNat, 13]
def k0_off18 (i : grid0.Coords) : Fin 2 → Nat :=
  let arg0 : BitVec 32 := BitVec.ofNat 32 (i 0).val
  let v95 : Index := Scalar.indexCast arg0
  let c14 : Index := 14#32
  ![v95.toNat, 14]
def k0_off19 (i : grid0.Coords) : Fin 2 → Nat :=
  let arg0 : BitVec 32 := BitVec.ofNat 32 (i 0).val
  let v101 : Index := Scalar.indexCast arg0
  let c15 : Index := 15#32
  ![v101.toNat, 15]
def k0_off20 (i : grid0.Coords) : Fin 2 → Nat :=
  let arg0 : BitVec 32 := BitVec.ofNat 32 (i 0).val
  let v107 : Index := Scalar.indexCast arg0
  let c16 : Index := 16#32
  ![v107.toNat, 16]
def k0_off21 (i : grid0.Coords) : Fin 2 → Nat :=
  let arg0 : BitVec 32 := BitVec.ofNat 32 (i 0).val
  let v113 : Index := Scalar.indexCast arg0
  let c17 : Index := 17#32
  ![v113.toNat, 17]
def k0_off22 (i : grid0.Coords) : Fin 2 → Nat :=
  let arg0 : BitVec 32 := BitVec.ofNat 32 (i 0).val
  let v119 : Index := Scalar.indexCast arg0
  let c18 : Index := 18#32
  ![v119.toNat, 18]
def k0_off23 (i : grid0.Coords) : Fin 2 → Nat :=
  let arg0 : BitVec 32 := BitVec.ofNat 32 (i 0).val
  let v125 : Index := Scalar.indexCast arg0
  let c19 : Index := 19#32
  ![v125.toNat, 19]
def k0_off24 (i : grid0.Coords) : Fin 2 → Nat :=
  let arg0 : BitVec 32 := BitVec.ofNat 32 (i 0).val
  let v131 : Index := Scalar.indexCast arg0
  let c20 : Index := 20#32
  ![v131.toNat, 20]
def k0_off25 (i : grid0.Coords) : Fin 2 → Nat :=
  let arg0 : BitVec 32 := BitVec.ofNat 32 (i 0).val
  let v137 : Index := Scalar.indexCast arg0
  let c21 : Index := 21#32
  ![v137.toNat, 21]
def k0_off26 (i : grid0.Coords) : Fin 2 → Nat :=
  let arg0 : BitVec 32 := BitVec.ofNat 32 (i 0).val
  let v143 : Index := Scalar.indexCast arg0
  let c22 : Index := 22#32
  ![v143.toNat, 22]
def k0_off27 (i : grid0.Coords) : Fin 2 → Nat :=
  let arg0 : BitVec 32 := BitVec.ofNat 32 (i 0).val
  let v149 : Index := Scalar.indexCast arg0
  let c23 : Index := 23#32
  ![v149.toNat, 23]
def k0_off28 (i : grid0.Coords) : Fin 2 → Nat :=
  let arg0 : BitVec 32 := BitVec.ofNat 32 (i 0).val
  let v155 : Index := Scalar.indexCast arg0
  let c24 : Index := 24#32
  ![v155.toNat, 24]
def k0_off29 (i : grid0.Coords) : Fin 2 → Nat :=
  let arg0 : BitVec 32 := BitVec.ofNat 32 (i 0).val
  let v161 : Index := Scalar.indexCast arg0
  let c25 : Index := 25#32
  ![v161.toNat, 25]
def k0_off30 (i : grid0.Coords) : Fin 2 → Nat :=
  let arg0 : BitVec 32 := BitVec.ofNat 32 (i 0).val
  let v167 : Index := Scalar.indexCast arg0
  let c26 : Index := 26#32
  ![v167.toNat, 26]
def k0_off31 (i : grid0.Coords) : Fin 2 → Nat :=
  let arg0 : BitVec 32 := BitVec.ofNat 32 (i 0).val
  let v173 : Index := Scalar.indexCast arg0
  let c27 : Index := 27#32
  ![v173.toNat, 27]
def k0_off32 (i : grid0.Coords) : Fin 2 → Nat :=
  let arg0 : BitVec 32 := BitVec.ofNat 32 (i 0).val
  let v179 : Index := Scalar.indexCast arg0
  let c28 : Index := 28#32
  ![v179.toNat, 28]
def k0_off33 (i : grid0.Coords) : Fin 2 → Nat :=
  let arg0 : BitVec 32 := BitVec.ofNat 32 (i 0).val
  let v185 : Index := Scalar.indexCast arg0
  let c29 : Index := 29#32
  ![v185.toNat, 29]
def k0_off34 (i : grid0.Coords) : Fin 2 → Nat :=
  let arg0 : BitVec 32 := BitVec.ofNat 32 (i 0).val
  let v191 : Index := Scalar.indexCast arg0
  let c30 : Index := 30#32
  ![v191.toNat, 30]
def k0_off35 (i : grid0.Coords) : Fin 2 → Nat :=
  let arg0 : BitVec 32 := BitVec.ofNat 32 (i 0).val
  let v197 : Index := Scalar.indexCast arg0
  let c31 : Index := 31#32
  ![v197.toNat, 31]
def k0_off36 (i : grid0.Coords) : Fin 2 → Nat :=
  let arg0 : BitVec 32 := BitVec.ofNat 32 (i 0).val
  let v203 : Index := Scalar.indexCast arg0
  let c32 : Index := 32#32
  ![v203.toNat, 32]
def k0_off37 (i : grid0.Coords) : Fin 2 → Nat :=
  let arg0 : BitVec 32 := BitVec.ofNat 32 (i 0).val
  let v209 : Index := Scalar.indexCast arg0
  let c33 : Index := 33#32
  ![v209.toNat, 33]
def k0_off38 (i : grid0.Coords) : Fin 2 → Nat :=
  let arg0 : BitVec 32 := BitVec.ofNat 32 (i 0).val
  let v215 : Index := Scalar.indexCast arg0
  let c34 : Index := 34#32
  ![v215.toNat, 34]
def k0_off39 (i : grid0.Coords) : Fin 2 → Nat :=
  let arg0 : BitVec 32 := BitVec.ofNat 32 (i 0).val
  let v221 : Index := Scalar.indexCast arg0
  let c35 : Index := 35#32
  ![v221.toNat, 35]
def k0_off40 (i : grid0.Coords) : Fin 2 → Nat :=
  let arg0 : BitVec 32 := BitVec.ofNat 32 (i 0).val
  let v227 : Index := Scalar.indexCast arg0
  let c36 : Index := 36#32
  ![v227.toNat, 36]
def k0_off41 (i : grid0.Coords) : Fin 2 → Nat :=
  let arg0 : BitVec 32 := BitVec.ofNat 32 (i 0).val
  let v233 : Index := Scalar.indexCast arg0
  let c37 : Index := 37#32
  ![v233.toNat, 37]
def k0_off42 (i : grid0.Coords) : Fin 2 → Nat :=
  let arg0 : BitVec 32 := BitVec.ofNat 32 (i 0).val
  let v239 : Index := Scalar.indexCast arg0
  let c38 : Index := 38#32
  ![v239.toNat, 38]
def k0_off43 (i : grid0.Coords) : Fin 2 → Nat :=
  let arg0 : BitVec 32 := BitVec.ofNat 32 (i 0).val
  let v245 : Index := Scalar.indexCast arg0
  let c39 : Index := 39#32
  ![v245.toNat, 39]
def k0_off44 (i : grid0.Coords) : Fin 2 → Nat :=
  let arg0 : BitVec 32 := BitVec.ofNat 32 (i 0).val
  let v251 : Index := Scalar.indexCast arg0
  let c40 : Index := 40#32
  ![v251.toNat, 40]
def k0_off45 (i : grid0.Coords) : Fin 2 → Nat :=
  let arg0 : BitVec 32 := BitVec.ofNat 32 (i 0).val
  let v257 : Index := Scalar.indexCast arg0
  let c41 : Index := 41#32
  ![v257.toNat, 41]
def k0_off46 (i : grid0.Coords) : Fin 2 → Nat :=
  let arg0 : BitVec 32 := BitVec.ofNat 32 (i 0).val
  let v263 : Index := Scalar.indexCast arg0
  let c42 : Index := 42#32
  ![v263.toNat, 42]
def k0_off47 (i : grid0.Coords) : Fin 2 → Nat :=
  let arg0 : BitVec 32 := BitVec.ofNat 32 (i 0).val
  let v269 : Index := Scalar.indexCast arg0
  let c43 : Index := 43#32
  ![v269.toNat, 43]
def k0_off48 (i : grid0.Coords) : Fin 2 → Nat :=
  let arg0 : BitVec 32 := BitVec.ofNat 32 (i 0).val
  let v275 : Index := Scalar.indexCast arg0
  let c44 : Index := 44#32
  ![v275.toNat, 44]
def k0_off49 (i : grid0.Coords) : Fin 2 → Nat :=
  let arg0 : BitVec 32 := BitVec.ofNat 32 (i 0).val
  let v281 : Index := Scalar.indexCast arg0
  let c45 : Index := 45#32
  ![v281.toNat, 45]
def k0_off50 (i : grid0.Coords) : Fin 2 → Nat :=
  let arg0 : BitVec 32 := BitVec.ofNat 32 (i 0).val
  let v287 : Index := Scalar.indexCast arg0
  let c46 : Index := 46#32
  ![v287.toNat, 46]
def k0_off51 (i : grid0.Coords) : Fin 2 → Nat :=
  let arg0 : BitVec 32 := BitVec.ofNat 32 (i 0).val
  let v293 : Index := Scalar.indexCast arg0
  let c47 : Index := 47#32
  ![v293.toNat, 47]
def k0_off52 (i : grid0.Coords) : Fin 2 → Nat :=
  let arg0 : BitVec 32 := BitVec.ofNat 32 (i 0).val
  let v299 : Index := Scalar.indexCast arg0
  let c48 : Index := 48#32
  ![v299.toNat, 48]
def k0_off53 (i : grid0.Coords) : Fin 2 → Nat :=
  let arg0 : BitVec 32 := BitVec.ofNat 32 (i 0).val
  let v305 : Index := Scalar.indexCast arg0
  let c49 : Index := 49#32
  ![v305.toNat, 49]
def k0_off54 (i : grid0.Coords) : Fin 2 → Nat :=
  let arg0 : BitVec 32 := BitVec.ofNat 32 (i 0).val
  let v311 : Index := Scalar.indexCast arg0
  let c50 : Index := 50#32
  ![v311.toNat, 50]
def k0_off55 (i : grid0.Coords) : Fin 2 → Nat :=
  let arg0 : BitVec 32 := BitVec.ofNat 32 (i 0).val
  let v317 : Index := Scalar.indexCast arg0
  let c51 : Index := 51#32
  ![v317.toNat, 51]
def k0_off56 (i : grid0.Coords) : Fin 2 → Nat :=
  let arg0 : BitVec 32 := BitVec.ofNat 32 (i 0).val
  let v323 : Index := Scalar.indexCast arg0
  let c52 : Index := 52#32
  ![v323.toNat, 52]
def k0_off57 (i : grid0.Coords) : Fin 2 → Nat :=
  let arg0 : BitVec 32 := BitVec.ofNat 32 (i 0).val
  let v329 : Index := Scalar.indexCast arg0
  let c53 : Index := 53#32
  ![v329.toNat, 53]
def k0_off58 (i : grid0.Coords) : Fin 2 → Nat :=
  let arg0 : BitVec 32 := BitVec.ofNat 32 (i 0).val
  let v335 : Index := Scalar.indexCast arg0
  let c54 : Index := 54#32
  ![v335.toNat, 54]
def k0_off59 (i : grid0.Coords) : Fin 2 → Nat :=
  let arg0 : BitVec 32 := BitVec.ofNat 32 (i 0).val
  let v341 : Index := Scalar.indexCast arg0
  let c55 : Index := 55#32
  ![v341.toNat, 55]
def k0_off60 (i : grid0.Coords) : Fin 2 → Nat :=
  let arg0 : BitVec 32 := BitVec.ofNat 32 (i 0).val
  let v347 : Index := Scalar.indexCast arg0
  let c56 : Index := 56#32
  ![v347.toNat, 56]
def k0_off61 (i : grid0.Coords) : Fin 2 → Nat :=
  let arg0 : BitVec 32 := BitVec.ofNat 32 (i 0).val
  let v353 : Index := Scalar.indexCast arg0
  let c57 : Index := 57#32
  ![v353.toNat, 57]
def k0_off62 (i : grid0.Coords) : Fin 2 → Nat :=
  let arg0 : BitVec 32 := BitVec.ofNat 32 (i 0).val
  let v359 : Index := Scalar.indexCast arg0
  let c58 : Index := 58#32
  ![v359.toNat, 58]
def k0_off63 (i : grid0.Coords) : Fin 2 → Nat :=
  let arg0 : BitVec 32 := BitVec.ofNat 32 (i 0).val
  let v365 : Index := Scalar.indexCast arg0
  let c59 : Index := 59#32
  ![v365.toNat, 59]
def k0_off64 (i : grid0.Coords) : Fin 2 → Nat :=
  let arg0 : BitVec 32 := BitVec.ofNat 32 (i 0).val
  let v371 : Index := Scalar.indexCast arg0
  let c60 : Index := 60#32
  ![v371.toNat, 60]
def k0_off65 (i : grid0.Coords) : Fin 2 → Nat :=
  let arg0 : BitVec 32 := BitVec.ofNat 32 (i 0).val
  let v377 : Index := Scalar.indexCast arg0
  let c61 : Index := 61#32
  ![v377.toNat, 61]
def k0_off66 (i : grid0.Coords) : Fin 2 → Nat :=
  let arg0 : BitVec 32 := BitVec.ofNat 32 (i 0).val
  let v383 : Index := Scalar.indexCast arg0
  let c62 : Index := 62#32
  ![v383.toNat, 62]
def k0_off67 (i : grid0.Coords) : Fin 2 → Nat :=
  let arg0 : BitVec 32 := BitVec.ofNat 32 (i 0).val
  let v389 : Index := Scalar.indexCast arg0
  let c63 : Index := 63#32
  ![v389.toNat, 63]
def k0_off68 (i : grid0.Coords) : Fin 2 → Nat :=
  let arg0 : BitVec 32 := BitVec.ofNat 32 (i 0).val
  let v395 : Index := Scalar.indexCast arg0
  let c64 : Index := 64#32
  ![v395.toNat, 64]
def k0_off69 (i : grid0.Coords) : Fin 2 → Nat :=
  let arg0 : BitVec 32 := BitVec.ofNat 32 (i 0).val
  let v401 : Index := Scalar.indexCast arg0
  let c65 : Index := 65#32
  ![v401.toNat, 65]
def k0_off70 (i : grid0.Coords) : Fin 2 → Nat :=
  let arg0 : BitVec 32 := BitVec.ofNat 32 (i 0).val
  let v407 : Index := Scalar.indexCast arg0
  let c66 : Index := 66#32
  ![v407.toNat, 66]
def k0_off71 (i : grid0.Coords) : Fin 2 → Nat :=
  let arg0 : BitVec 32 := BitVec.ofNat 32 (i 0).val
  let v413 : Index := Scalar.indexCast arg0
  let c67 : Index := 67#32
  ![v413.toNat, 67]
def k0_off72 (i : grid0.Coords) : Fin 2 → Nat :=
  let arg0 : BitVec 32 := BitVec.ofNat 32 (i 0).val
  let v419 : Index := Scalar.indexCast arg0
  let c68 : Index := 68#32
  ![v419.toNat, 68]
def k0_off73 (i : grid0.Coords) : Fin 2 → Nat :=
  let arg0 : BitVec 32 := BitVec.ofNat 32 (i 0).val
  let v425 : Index := Scalar.indexCast arg0
  let c69 : Index := 69#32
  ![v425.toNat, 69]
def k0_off74 (i : grid0.Coords) : Fin 2 → Nat :=
  let arg0 : BitVec 32 := BitVec.ofNat 32 (i 0).val
  let v431 : Index := Scalar.indexCast arg0
  let c70 : Index := 70#32
  ![v431.toNat, 70]
def k0_off75 (i : grid0.Coords) : Fin 2 → Nat :=
  let arg0 : BitVec 32 := BitVec.ofNat 32 (i 0).val
  let v437 : Index := Scalar.indexCast arg0
  let c71 : Index := 71#32
  ![v437.toNat, 71]
def k0_off76 (i : grid0.Coords) : Fin 2 → Nat :=
  let arg0 : BitVec 32 := BitVec.ofNat 32 (i 0).val
  let v443 : Index := Scalar.indexCast arg0
  let c72 : Index := 72#32
  ![v443.toNat, 72]
def k0_off77 (i : grid0.Coords) : Fin 2 → Nat :=
  let arg0 : BitVec 32 := BitVec.ofNat 32 (i 0).val
  let v449 : Index := Scalar.indexCast arg0
  let c73 : Index := 73#32
  ![v449.toNat, 73]
def k0_off78 (i : grid0.Coords) : Fin 2 → Nat :=
  let arg0 : BitVec 32 := BitVec.ofNat 32 (i 0).val
  let v455 : Index := Scalar.indexCast arg0
  let c74 : Index := 74#32
  ![v455.toNat, 74]
def k0_off79 (i : grid0.Coords) : Fin 2 → Nat :=
  let arg0 : BitVec 32 := BitVec.ofNat 32 (i 0).val
  let v461 : Index := Scalar.indexCast arg0
  let c75 : Index := 75#32
  ![v461.toNat, 75]
def k0_off80 (i : grid0.Coords) : Fin 2 → Nat :=
  let arg0 : BitVec 32 := BitVec.ofNat 32 (i 0).val
  let v467 : Index := Scalar.indexCast arg0
  let c76 : Index := 76#32
  ![v467.toNat, 76]
def k0_off81 (i : grid0.Coords) : Fin 2 → Nat :=
  let arg0 : BitVec 32 := BitVec.ofNat 32 (i 0).val
  let v473 : Index := Scalar.indexCast arg0
  let c77 : Index := 77#32
  ![v473.toNat, 77]
def k0_off82 (i : grid0.Coords) : Fin 2 → Nat :=
  let arg0 : BitVec 32 := BitVec.ofNat 32 (i 0).val
  let v479 : Index := Scalar.indexCast arg0
  let c78 : Index := 78#32
  ![v479.toNat, 78]
def k0_off83 (i : grid0.Coords) : Fin 2 → Nat :=
  let arg0 : BitVec 32 := BitVec.ofNat 32 (i 0).val
  let v485 : Index := Scalar.indexCast arg0
  let c79 : Index := 79#32
  ![v485.toNat, 79]
def k0_off84 (i : grid0.Coords) : Fin 2 → Nat :=
  let arg0 : BitVec 32 := BitVec.ofNat 32 (i 0).val
  let v491 : Index := Scalar.indexCast arg0
  let c80 : Index := 80#32
  ![v491.toNat, 80]
def k0_off85 (i : grid0.Coords) : Fin 2 → Nat :=
  let arg0 : BitVec 32 := BitVec.ofNat 32 (i 0).val
  let v497 : Index := Scalar.indexCast arg0
  let c81 : Index := 81#32
  ![v497.toNat, 81]
def k0_off86 (i : grid0.Coords) : Fin 2 → Nat :=
  let arg0 : BitVec 32 := BitVec.ofNat 32 (i 0).val
  let v503 : Index := Scalar.indexCast arg0
  let c82 : Index := 82#32
  ![v503.toNat, 82]
def k0_off87 (i : grid0.Coords) : Fin 2 → Nat :=
  let arg0 : BitVec 32 := BitVec.ofNat 32 (i 0).val
  let v509 : Index := Scalar.indexCast arg0
  let c83 : Index := 83#32
  ![v509.toNat, 83]
def k0_off88 (i : grid0.Coords) : Fin 2 → Nat :=
  let arg0 : BitVec 32 := BitVec.ofNat 32 (i 0).val
  let v515 : Index := Scalar.indexCast arg0
  let c84 : Index := 84#32
  ![v515.toNat, 84]
def k0_off89 (i : grid0.Coords) : Fin 2 → Nat :=
  let arg0 : BitVec 32 := BitVec.ofNat 32 (i 0).val
  let v521 : Index := Scalar.indexCast arg0
  let c85 : Index := 85#32
  ![v521.toNat, 85]
def k0_off90 (i : grid0.Coords) : Fin 2 → Nat :=
  let arg0 : BitVec 32 := BitVec.ofNat 32 (i 0).val
  let v527 : Index := Scalar.indexCast arg0
  let c86 : Index := 86#32
  ![v527.toNat, 86]
def k0_off91 (i : grid0.Coords) : Fin 2 → Nat :=
  let arg0 : BitVec 32 := BitVec.ofNat 32 (i 0).val
  let v533 : Index := Scalar.indexCast arg0
  let c87 : Index := 87#32
  ![v533.toNat, 87]
def k0_off92 (i : grid0.Coords) : Fin 2 → Nat :=
  let arg0 : BitVec 32 := BitVec.ofNat 32 (i 0).val
  let v539 : Index := Scalar.indexCast arg0
  let c88 : Index := 88#32
  ![v539.toNat, 88]
def k0_off93 (i : grid0.Coords) : Fin 2 → Nat :=
  let arg0 : BitVec 32 := BitVec.ofNat 32 (i 0).val
  let v545 : Index := Scalar.indexCast arg0
  let c89 : Index := 89#32
  ![v545.toNat, 89]
def k0_off94 (i : grid0.Coords) : Fin 2 → Nat :=
  let arg0 : BitVec 32 := BitVec.ofNat 32 (i 0).val
  let v551 : Index := Scalar.indexCast arg0
  let c90 : Index := 90#32
  ![v551.toNat, 90]
def k0_off95 (i : grid0.Coords) : Fin 2 → Nat :=
  let arg0 : BitVec 32 := BitVec.ofNat 32 (i 0).val
  let v557 : Index := Scalar.indexCast arg0
  let c91 : Index := 91#32
  ![v557.toNat, 91]
def k0_off96 (i : grid0.Coords) : Fin 2 → Nat :=
  let arg0 : BitVec 32 := BitVec.ofNat 32 (i 0).val
  let v563 : Index := Scalar.indexCast arg0
  let c92 : Index := 92#32
  ![v563.toNat, 92]
def k0_off97 (i : grid0.Coords) : Fin 2 → Nat :=
  let arg0 : BitVec 32 := BitVec.ofNat 32 (i 0).val
  let v569 : Index := Scalar.indexCast arg0
  let c93 : Index := 93#32
  ![v569.toNat, 93]
def k0_off98 (i : grid0.Coords) : Fin 2 → Nat :=
  let arg0 : BitVec 32 := BitVec.ofNat 32 (i 0).val
  let v575 : Index := Scalar.indexCast arg0
  let c94 : Index := 94#32
  ![v575.toNat, 94]
def k0_off99 (i : grid0.Coords) : Fin 2 → Nat :=
  let arg0 : BitVec 32 := BitVec.ofNat 32 (i 0).val
  let v581 : Index := Scalar.indexCast arg0
  let c95 : Index := 95#32
  ![v581.toNat, 95]
def k0_off100 (i : grid0.Coords) : Fin 2 → Nat :=
  let arg0 : BitVec 32 := BitVec.ofNat 32 (i 0).val
  let v587 : Index := Scalar.indexCast arg0
  let c96 : Index := 96#32
  ![v587.toNat, 96]
def k0_off101 (i : grid0.Coords) : Fin 2 → Nat :=
  let arg0 : BitVec 32 := BitVec.ofNat 32 (i 0).val
  let v593 : Index := Scalar.indexCast arg0
  let c97 : Index := 97#32
  ![v593.toNat, 97]
def k0_off102 (i : grid0.Coords) : Fin 2 → Nat :=
  let arg0 : BitVec 32 := BitVec.ofNat 32 (i 0).val
  let v599 : Index := Scalar.indexCast arg0
  let c98 : Index := 98#32
  ![v599.toNat, 98]
def k0_off103 (i : grid0.Coords) : Fin 2 → Nat :=
  let arg0 : BitVec 32 := BitVec.ofNat 32 (i 0).val
  let v605 : Index := Scalar.indexCast arg0
  let c99 : Index := 99#32
  ![v605.toNat, 99]
def k0_off104 (i : grid0.Coords) : Fin 2 → Nat :=
  let arg0 : BitVec 32 := BitVec.ofNat 32 (i 0).val
  let v611 : Index := Scalar.indexCast arg0
  let c100 : Index := 100#32
  ![v611.toNat, 100]
def k0_off105 (i : grid0.Coords) : Fin 2 → Nat :=
  let arg0 : BitVec 32 := BitVec.ofNat 32 (i 0).val
  let v617 : Index := Scalar.indexCast arg0
  let c101 : Index := 101#32
  ![v617.toNat, 101]
def k0_off106 (i : grid0.Coords) : Fin 2 → Nat :=
  let arg0 : BitVec 32 := BitVec.ofNat 32 (i 0).val
  let v623 : Index := Scalar.indexCast arg0
  let c102 : Index := 102#32
  ![v623.toNat, 102]
def k0_off107 (i : grid0.Coords) : Fin 2 → Nat :=
  let arg0 : BitVec 32 := BitVec.ofNat 32 (i 0).val
  let v629 : Index := Scalar.indexCast arg0
  let c103 : Index := 103#32
  ![v629.toNat, 103]
def k0_off108 (i : grid0.Coords) : Fin 2 → Nat :=
  let arg0 : BitVec 32 := BitVec.ofNat 32 (i 0).val
  let v635 : Index := Scalar.indexCast arg0
  let c104 : Index := 104#32
  ![v635.toNat, 104]
def k0_off109 (i : grid0.Coords) : Fin 2 → Nat :=
  let arg0 : BitVec 32 := BitVec.ofNat 32 (i 0).val
  let v641 : Index := Scalar.indexCast arg0
  let c105 : Index := 105#32
  ![v641.toNat, 105]
def k0_off110 (i : grid0.Coords) : Fin 2 → Nat :=
  let arg0 : BitVec 32 := BitVec.ofNat 32 (i 0).val
  let v647 : Index := Scalar.indexCast arg0
  let c106 : Index := 106#32
  ![v647.toNat, 106]
def k0_off111 (i : grid0.Coords) : Fin 2 → Nat :=
  let arg0 : BitVec 32 := BitVec.ofNat 32 (i 0).val
  let v653 : Index := Scalar.indexCast arg0
  let c107 : Index := 107#32
  ![v653.toNat, 107]
def k0_off112 (i : grid0.Coords) : Fin 2 → Nat :=
  let arg0 : BitVec 32 := BitVec.ofNat 32 (i 0).val
  let v659 : Index := Scalar.indexCast arg0
  let c108 : Index := 108#32
  ![v659.toNat, 108]
def k0_off113 (i : grid0.Coords) : Fin 2 → Nat :=
  let arg0 : BitVec 32 := BitVec.ofNat 32 (i 0).val
  let v665 : Index := Scalar.indexCast arg0
  let c109 : Index := 109#32
  ![v665.toNat, 109]
def k0_off114 (i : grid0.Coords) : Fin 2 → Nat :=
  let arg0 : BitVec 32 := BitVec.ofNat 32 (i 0).val
  let v671 : Index := Scalar.indexCast arg0
  let c110 : Index := 110#32
  ![v671.toNat, 110]
def k0_off115 (i : grid0.Coords) : Fin 2 → Nat :=
  let arg0 : BitVec 32 := BitVec.ofNat 32 (i 0).val
  let v677 : Index := Scalar.indexCast arg0
  let c111 : Index := 111#32
  ![v677.toNat, 111]
def k0_off116 (i : grid0.Coords) : Fin 2 → Nat :=
  let arg0 : BitVec 32 := BitVec.ofNat 32 (i 0).val
  let v683 : Index := Scalar.indexCast arg0
  let c112 : Index := 112#32
  ![v683.toNat, 112]
def k0_off117 (i : grid0.Coords) : Fin 2 → Nat :=
  let arg0 : BitVec 32 := BitVec.ofNat 32 (i 0).val
  let v689 : Index := Scalar.indexCast arg0
  let c113 : Index := 113#32
  ![v689.toNat, 113]
def k0_off118 (i : grid0.Coords) : Fin 2 → Nat :=
  let arg0 : BitVec 32 := BitVec.ofNat 32 (i 0).val
  let v695 : Index := Scalar.indexCast arg0
  let c114 : Index := 114#32
  ![v695.toNat, 114]
def k0_off119 (i : grid0.Coords) : Fin 2 → Nat :=
  let arg0 : BitVec 32 := BitVec.ofNat 32 (i 0).val
  let v701 : Index := Scalar.indexCast arg0
  let c115 : Index := 115#32
  ![v701.toNat, 115]
def k0_off120 (i : grid0.Coords) : Fin 2 → Nat :=
  let arg0 : BitVec 32 := BitVec.ofNat 32 (i 0).val
  let v707 : Index := Scalar.indexCast arg0
  let c116 : Index := 116#32
  ![v707.toNat, 116]
def k0_off121 (i : grid0.Coords) : Fin 2 → Nat :=
  let arg0 : BitVec 32 := BitVec.ofNat 32 (i 0).val
  let v713 : Index := Scalar.indexCast arg0
  let c117 : Index := 117#32
  ![v713.toNat, 117]
def k0_off122 (i : grid0.Coords) : Fin 2 → Nat :=
  let arg0 : BitVec 32 := BitVec.ofNat 32 (i 0).val
  let v719 : Index := Scalar.indexCast arg0
  let c118 : Index := 118#32
  ![v719.toNat, 118]
def k0_off123 (i : grid0.Coords) : Fin 2 → Nat :=
  let arg0 : BitVec 32 := BitVec.ofNat 32 (i 0).val
  let v725 : Index := Scalar.indexCast arg0
  let c119 : Index := 119#32
  ![v725.toNat, 119]
def k0_off124 (i : grid0.Coords) : Fin 2 → Nat :=
  let arg0 : BitVec 32 := BitVec.ofNat 32 (i 0).val
  let v731 : Index := Scalar.indexCast arg0
  let c120 : Index := 120#32
  ![v731.toNat, 120]
def k0_off125 (i : grid0.Coords) : Fin 2 → Nat :=
  let arg0 : BitVec 32 := BitVec.ofNat 32 (i 0).val
  let v737 : Index := Scalar.indexCast arg0
  let c121 : Index := 121#32
  ![v737.toNat, 121]
def k0_off126 (i : grid0.Coords) : Fin 2 → Nat :=
  let arg0 : BitVec 32 := BitVec.ofNat 32 (i 0).val
  let v743 : Index := Scalar.indexCast arg0
  let c122 : Index := 122#32
  ![v743.toNat, 122]
def k0_off127 (i : grid0.Coords) : Fin 2 → Nat :=
  let arg0 : BitVec 32 := BitVec.ofNat 32 (i 0).val
  let v749 : Index := Scalar.indexCast arg0
  let c123 : Index := 123#32
  ![v749.toNat, 123]
def k0_off128 (i : grid0.Coords) : Fin 2 → Nat :=
  let arg0 : BitVec 32 := BitVec.ofNat 32 (i 0).val
  let v755 : Index := Scalar.indexCast arg0
  let c124 : Index := 124#32
  ![v755.toNat, 124]
def k0_off129 (i : grid0.Coords) : Fin 2 → Nat :=
  let arg0 : BitVec 32 := BitVec.ofNat 32 (i 0).val
  let v761 : Index := Scalar.indexCast arg0
  let c125 : Index := 125#32
  ![v761.toNat, 125]
def k0_off130 (i : grid0.Coords) : Fin 2 → Nat :=
  let arg0 : BitVec 32 := BitVec.ofNat 32 (i 0).val
  let v767 : Index := Scalar.indexCast arg0
  let c126 : Index := 126#32
  ![v767.toNat, 126]
def k0_off131 (i : grid0.Coords) : Fin 2 → Nat :=
  let arg0 : BitVec 32 := BitVec.ofNat 32 (i 0).val
  let v773 : Index := Scalar.indexCast arg0
  let c127 : Index := 127#32
  ![v773.toNat, 127]
def k0_off132 (i : grid0.Coords) : Fin 2 → Nat :=
  let arg0 : BitVec 32 := BitVec.ofNat 32 (i 0).val
  let v779 : Index := Scalar.indexCast arg0
  let c128 : Index := 128#32
  ![v779.toNat, 128]
def k0_off133 (i : grid0.Coords) : Fin 2 → Nat :=
  let arg0 : BitVec 32 := BitVec.ofNat 32 (i 0).val
  let v785 : Index := Scalar.indexCast arg0
  let c129 : Index := 129#32
  ![v785.toNat, 129]
def k0_off134 (i : grid0.Coords) : Fin 2 → Nat :=
  let arg0 : BitVec 32 := BitVec.ofNat 32 (i 0).val
  let v791 : Index := Scalar.indexCast arg0
  let c130 : Index := 130#32
  ![v791.toNat, 130]
def k0_off135 (i : grid0.Coords) : Fin 2 → Nat :=
  let arg0 : BitVec 32 := BitVec.ofNat 32 (i 0).val
  let v797 : Index := Scalar.indexCast arg0
  let c131 : Index := 131#32
  ![v797.toNat, 131]
def k0_off136 (i : grid0.Coords) : Fin 2 → Nat :=
  let arg0 : BitVec 32 := BitVec.ofNat 32 (i 0).val
  let v803 : Index := Scalar.indexCast arg0
  let c132 : Index := 132#32
  ![v803.toNat, 132]
def k0_off137 (i : grid0.Coords) : Fin 2 → Nat :=
  let arg0 : BitVec 32 := BitVec.ofNat 32 (i 0).val
  let v809 : Index := Scalar.indexCast arg0
  let c133 : Index := 133#32
  ![v809.toNat, 133]
def k0_off138 (i : grid0.Coords) : Fin 2 → Nat :=
  let arg0 : BitVec 32 := BitVec.ofNat 32 (i 0).val
  let v815 : Index := Scalar.indexCast arg0
  let c134 : Index := 134#32
  ![v815.toNat, 134]
def k0_off139 (i : grid0.Coords) : Fin 2 → Nat :=
  let arg0 : BitVec 32 := BitVec.ofNat 32 (i 0).val
  let v821 : Index := Scalar.indexCast arg0
  let c135 : Index := 135#32
  ![v821.toNat, 135]
def k0_off140 (i : grid0.Coords) : Fin 2 → Nat :=
  let arg0 : BitVec 32 := BitVec.ofNat 32 (i 0).val
  let v827 : Index := Scalar.indexCast arg0
  let c136 : Index := 136#32
  ![v827.toNat, 136]
def k0_off141 (i : grid0.Coords) : Fin 2 → Nat :=
  let arg0 : BitVec 32 := BitVec.ofNat 32 (i 0).val
  let v833 : Index := Scalar.indexCast arg0
  let c137 : Index := 137#32
  ![v833.toNat, 137]
def k0_off142 (i : grid0.Coords) : Fin 2 → Nat :=
  let arg0 : BitVec 32 := BitVec.ofNat 32 (i 0).val
  let v839 : Index := Scalar.indexCast arg0
  let c138 : Index := 138#32
  ![v839.toNat, 138]
def k0_off143 (i : grid0.Coords) : Fin 2 → Nat :=
  let arg0 : BitVec 32 := BitVec.ofNat 32 (i 0).val
  let v845 : Index := Scalar.indexCast arg0
  let c139 : Index := 139#32
  ![v845.toNat, 139]
def k0_off144 (i : grid0.Coords) : Fin 2 → Nat :=
  let arg0 : BitVec 32 := BitVec.ofNat 32 (i 0).val
  let v851 : Index := Scalar.indexCast arg0
  let c140 : Index := 140#32
  ![v851.toNat, 140]
def k0_off145 (i : grid0.Coords) : Fin 2 → Nat :=
  let arg0 : BitVec 32 := BitVec.ofNat 32 (i 0).val
  let v857 : Index := Scalar.indexCast arg0
  let c141 : Index := 141#32
  ![v857.toNat, 141]
def k0_off146 (i : grid0.Coords) : Fin 2 → Nat :=
  let arg0 : BitVec 32 := BitVec.ofNat 32 (i 0).val
  let v863 : Index := Scalar.indexCast arg0
  let c142 : Index := 142#32
  ![v863.toNat, 142]
def k0_off147 (i : grid0.Coords) : Fin 2 → Nat :=
  let arg0 : BitVec 32 := BitVec.ofNat 32 (i 0).val
  let v869 : Index := Scalar.indexCast arg0
  let c143 : Index := 143#32
  ![v869.toNat, 143]
def k0_off148 (i : grid0.Coords) : Fin 2 → Nat :=
  let arg0 : BitVec 32 := BitVec.ofNat 32 (i 0).val
  let v875 : Index := Scalar.indexCast arg0
  let c144 : Index := 144#32
  ![v875.toNat, 144]
def k0_off149 (i : grid0.Coords) : Fin 2 → Nat :=
  let arg0 : BitVec 32 := BitVec.ofNat 32 (i 0).val
  let v881 : Index := Scalar.indexCast arg0
  let c145 : Index := 145#32
  ![v881.toNat, 145]
def k0_off150 (i : grid0.Coords) : Fin 2 → Nat :=
  let arg0 : BitVec 32 := BitVec.ofNat 32 (i 0).val
  let v887 : Index := Scalar.indexCast arg0
  let c146 : Index := 146#32
  ![v887.toNat, 146]
def k0_off151 (i : grid0.Coords) : Fin 2 → Nat :=
  let arg0 : BitVec 32 := BitVec.ofNat 32 (i 0).val
  let v893 : Index := Scalar.indexCast arg0
  let c147 : Index := 147#32
  ![v893.toNat, 147]
def k0_off152 (i : grid0.Coords) : Fin 2 → Nat :=
  let arg0 : BitVec 32 := BitVec.ofNat 32 (i 0).val
  let v899 : Index := Scalar.indexCast arg0
  let c148 : Index := 148#32
  ![v899.toNat, 148]
def k0_off153 (i : grid0.Coords) : Fin 2 → Nat :=
  let arg0 : BitVec 32 := BitVec.ofNat 32 (i 0).val
  let v905 : Index := Scalar.indexCast arg0
  let c149 : Index := 149#32
  ![v905.toNat, 149]
def k0_off154 (i : grid0.Coords) : Fin 2 → Nat :=
  let arg0 : BitVec 32 := BitVec.ofNat 32 (i 0).val
  let v911 : Index := Scalar.indexCast arg0
  let c150 : Index := 150#32
  ![v911.toNat, 150]
def k0_off155 (i : grid0.Coords) : Fin 2 → Nat :=
  let arg0 : BitVec 32 := BitVec.ofNat 32 (i 0).val
  let v917 : Index := Scalar.indexCast arg0
  let c151 : Index := 151#32
  ![v917.toNat, 151]
def k0_off156 (i : grid0.Coords) : Fin 2 → Nat :=
  let arg0 : BitVec 32 := BitVec.ofNat 32 (i 0).val
  let v923 : Index := Scalar.indexCast arg0
  let c152 : Index := 152#32
  ![v923.toNat, 152]
def k0_off157 (i : grid0.Coords) : Fin 2 → Nat :=
  let arg0 : BitVec 32 := BitVec.ofNat 32 (i 0).val
  let v929 : Index := Scalar.indexCast arg0
  let c153 : Index := 153#32
  ![v929.toNat, 153]
def k0_off158 (i : grid0.Coords) : Fin 2 → Nat :=
  let arg0 : BitVec 32 := BitVec.ofNat 32 (i 0).val
  let v935 : Index := Scalar.indexCast arg0
  let c154 : Index := 154#32
  ![v935.toNat, 154]
def k0_off159 (i : grid0.Coords) : Fin 2 → Nat :=
  let arg0 : BitVec 32 := BitVec.ofNat 32 (i 0).val
  let v941 : Index := Scalar.indexCast arg0
  let c155 : Index := 155#32
  ![v941.toNat, 155]
def k0_off160 (i : grid0.Coords) : Fin 2 → Nat :=
  let arg0 : BitVec 32 := BitVec.ofNat 32 (i 0).val
  let v947 : Index := Scalar.indexCast arg0
  let c156 : Index := 156#32
  ![v947.toNat, 156]
def k0_off161 (i : grid0.Coords) : Fin 2 → Nat :=
  let arg0 : BitVec 32 := BitVec.ofNat 32 (i 0).val
  let v953 : Index := Scalar.indexCast arg0
  let c157 : Index := 157#32
  ![v953.toNat, 157]
def k0_off162 (i : grid0.Coords) : Fin 2 → Nat :=
  let arg0 : BitVec 32 := BitVec.ofNat 32 (i 0).val
  let v959 : Index := Scalar.indexCast arg0
  let c158 : Index := 158#32
  ![v959.toNat, 158]
def k0_off163 (i : grid0.Coords) : Fin 2 → Nat :=
  let arg0 : BitVec 32 := BitVec.ofNat 32 (i 0).val
  let v965 : Index := Scalar.indexCast arg0
  let c159 : Index := 159#32
  ![v965.toNat, 159]
def k0_off164 (i : grid0.Coords) : Fin 2 → Nat :=
  let arg0 : BitVec 32 := BitVec.ofNat 32 (i 0).val
  let v971 : Index := Scalar.indexCast arg0
  let c160 : Index := 160#32
  ![v971.toNat, 160]
def k0_off165 (i : grid0.Coords) : Fin 2 → Nat :=
  let arg0 : BitVec 32 := BitVec.ofNat 32 (i 0).val
  let v977 : Index := Scalar.indexCast arg0
  let c161 : Index := 161#32
  ![v977.toNat, 161]
def k0_off166 (i : grid0.Coords) : Fin 2 → Nat :=
  let arg0 : BitVec 32 := BitVec.ofNat 32 (i 0).val
  let v983 : Index := Scalar.indexCast arg0
  let c162 : Index := 162#32
  ![v983.toNat, 162]
def k0_off167 (i : grid0.Coords) : Fin 2 → Nat :=
  let arg0 : BitVec 32 := BitVec.ofNat 32 (i 0).val
  let v989 : Index := Scalar.indexCast arg0
  let c163 : Index := 163#32
  ![v989.toNat, 163]
def k0_off168 (i : grid0.Coords) : Fin 2 → Nat :=
  let arg0 : BitVec 32 := BitVec.ofNat 32 (i 0).val
  let v995 : Index := Scalar.indexCast arg0
  let c164 : Index := 164#32
  ![v995.toNat, 164]
def k0_off169 (i : grid0.Coords) : Fin 2 → Nat :=
  let arg0 : BitVec 32 := BitVec.ofNat 32 (i 0).val
  let v1001 : Index := Scalar.indexCast arg0
  let c165 : Index := 165#32
  ![v1001.toNat, 165]
def k0_off170 (i : grid0.Coords) : Fin 2 → Nat :=
  let arg0 : BitVec 32 := BitVec.ofNat 32 (i 0).val
  let v1007 : Index := Scalar.indexCast arg0
  let c166 : Index := 166#32
  ![v1007.toNat, 166]
def k0_off171 (i : grid0.Coords) : Fin 2 → Nat :=
  let arg0 : BitVec 32 := BitVec.ofNat 32 (i 0).val
  let v1013 : Index := Scalar.indexCast arg0
  let c167 : Index := 167#32
  ![v1013.toNat, 167]
def k0_off172 (i : grid0.Coords) : Fin 2 → Nat :=
  let arg0 : BitVec 32 := BitVec.ofNat 32 (i 0).val
  let v1019 : Index := Scalar.indexCast arg0
  let c168 : Index := 168#32
  ![v1019.toNat, 168]
def k0_off173 (i : grid0.Coords) : Fin 2 → Nat :=
  let arg0 : BitVec 32 := BitVec.ofNat 32 (i 0).val
  let v1025 : Index := Scalar.indexCast arg0
  let c169 : Index := 169#32
  ![v1025.toNat, 169]
def k0_off174 (i : grid0.Coords) : Fin 2 → Nat :=
  let arg0 : BitVec 32 := BitVec.ofNat 32 (i 0).val
  let v1031 : Index := Scalar.indexCast arg0
  let c170 : Index := 170#32
  ![v1031.toNat, 170]
def k0_off175 (i : grid0.Coords) : Fin 2 → Nat :=
  let arg0 : BitVec 32 := BitVec.ofNat 32 (i 0).val
  let v1037 : Index := Scalar.indexCast arg0
  let c171 : Index := 171#32
  ![v1037.toNat, 171]
def k0_off176 (i : grid0.Coords) : Fin 2 → Nat :=
  let arg0 : BitVec 32 := BitVec.ofNat 32 (i 0).val
  let v1043 : Index := Scalar.indexCast arg0
  let c172 : Index := 172#32
  ![v1043.toNat, 172]
def k0_off177 (i : grid0.Coords) : Fin 2 → Nat :=
  let arg0 : BitVec 32 := BitVec.ofNat 32 (i 0).val
  let v1049 : Index := Scalar.indexCast arg0
  let c173 : Index := 173#32
  ![v1049.toNat, 173]
def k0_off178 (i : grid0.Coords) : Fin 2 → Nat :=
  let arg0 : BitVec 32 := BitVec.ofNat 32 (i 0).val
  let v1055 : Index := Scalar.indexCast arg0
  let c174 : Index := 174#32
  ![v1055.toNat, 174]
def k0_off179 (i : grid0.Coords) : Fin 2 → Nat :=
  let arg0 : BitVec 32 := BitVec.ofNat 32 (i 0).val
  let v1061 : Index := Scalar.indexCast arg0
  let c175 : Index := 175#32
  ![v1061.toNat, 175]
def k0_off180 (i : grid0.Coords) : Fin 2 → Nat :=
  let arg0 : BitVec 32 := BitVec.ofNat 32 (i 0).val
  let v1067 : Index := Scalar.indexCast arg0
  let c176 : Index := 176#32
  ![v1067.toNat, 176]
def k0_off181 (i : grid0.Coords) : Fin 2 → Nat :=
  let arg0 : BitVec 32 := BitVec.ofNat 32 (i 0).val
  let v1073 : Index := Scalar.indexCast arg0
  let c177 : Index := 177#32
  ![v1073.toNat, 177]
def k0_off182 (i : grid0.Coords) : Fin 2 → Nat :=
  let arg0 : BitVec 32 := BitVec.ofNat 32 (i 0).val
  let v1079 : Index := Scalar.indexCast arg0
  let c178 : Index := 178#32
  ![v1079.toNat, 178]
def k0_off183 (i : grid0.Coords) : Fin 2 → Nat :=
  let arg0 : BitVec 32 := BitVec.ofNat 32 (i 0).val
  let v1085 : Index := Scalar.indexCast arg0
  let c179 : Index := 179#32
  ![v1085.toNat, 179]
def k0_off184 (i : grid0.Coords) : Fin 2 → Nat :=
  let arg0 : BitVec 32 := BitVec.ofNat 32 (i 0).val
  let v1091 : Index := Scalar.indexCast arg0
  let c180 : Index := 180#32
  ![v1091.toNat, 180]
def k0_off185 (i : grid0.Coords) : Fin 2 → Nat :=
  let arg0 : BitVec 32 := BitVec.ofNat 32 (i 0).val
  let v1097 : Index := Scalar.indexCast arg0
  let c181 : Index := 181#32
  ![v1097.toNat, 181]
def k0_off186 (i : grid0.Coords) : Fin 2 → Nat :=
  let arg0 : BitVec 32 := BitVec.ofNat 32 (i 0).val
  let v1103 : Index := Scalar.indexCast arg0
  let c182 : Index := 182#32
  ![v1103.toNat, 182]
def k0_off187 (i : grid0.Coords) : Fin 2 → Nat :=
  let arg0 : BitVec 32 := BitVec.ofNat 32 (i 0).val
  let v1109 : Index := Scalar.indexCast arg0
  let c183 : Index := 183#32
  ![v1109.toNat, 183]
def k0_off188 (i : grid0.Coords) : Fin 2 → Nat :=
  let arg0 : BitVec 32 := BitVec.ofNat 32 (i 0).val
  let v1115 : Index := Scalar.indexCast arg0
  let c184 : Index := 184#32
  ![v1115.toNat, 184]
def k0_off189 (i : grid0.Coords) : Fin 2 → Nat :=
  let arg0 : BitVec 32 := BitVec.ofNat 32 (i 0).val
  let v1121 : Index := Scalar.indexCast arg0
  let c185 : Index := 185#32
  ![v1121.toNat, 185]
def k0_off190 (i : grid0.Coords) : Fin 2 → Nat :=
  let arg0 : BitVec 32 := BitVec.ofNat 32 (i 0).val
  let v1127 : Index := Scalar.indexCast arg0
  let c186 : Index := 186#32
  ![v1127.toNat, 186]
def k0_off191 (i : grid0.Coords) : Fin 2 → Nat :=
  let arg0 : BitVec 32 := BitVec.ofNat 32 (i 0).val
  let v1133 : Index := Scalar.indexCast arg0
  let c187 : Index := 187#32
  ![v1133.toNat, 187]
def k0_off192 (i : grid0.Coords) : Fin 2 → Nat :=
  let arg0 : BitVec 32 := BitVec.ofNat 32 (i 0).val
  let v1139 : Index := Scalar.indexCast arg0
  let c188 : Index := 188#32
  ![v1139.toNat, 188]
def k0_off193 (i : grid0.Coords) : Fin 2 → Nat :=
  let arg0 : BitVec 32 := BitVec.ofNat 32 (i 0).val
  let v1145 : Index := Scalar.indexCast arg0
  let c189 : Index := 189#32
  ![v1145.toNat, 189]
def k0_off194 (i : grid0.Coords) : Fin 2 → Nat :=
  let arg0 : BitVec 32 := BitVec.ofNat 32 (i 0).val
  let v1151 : Index := Scalar.indexCast arg0
  let c190 : Index := 190#32
  ![v1151.toNat, 190]
def k0_off195 (i : grid0.Coords) : Fin 2 → Nat :=
  let arg0 : BitVec 32 := BitVec.ofNat 32 (i 0).val
  let v1157 : Index := Scalar.indexCast arg0
  let c191 : Index := 191#32
  ![v1157.toNat, 191]
def k0_off196 (i : grid0.Coords) : Fin 2 → Nat :=
  let arg0 : BitVec 32 := BitVec.ofNat 32 (i 0).val
  let v1163 : Index := Scalar.indexCast arg0
  let c192 : Index := 192#32
  ![v1163.toNat, 192]
def k0_off197 (i : grid0.Coords) : Fin 2 → Nat :=
  let arg0 : BitVec 32 := BitVec.ofNat 32 (i 0).val
  let v1169 : Index := Scalar.indexCast arg0
  let c193 : Index := 193#32
  ![v1169.toNat, 193]
def k0_off198 (i : grid0.Coords) : Fin 2 → Nat :=
  let arg0 : BitVec 32 := BitVec.ofNat 32 (i 0).val
  let v1175 : Index := Scalar.indexCast arg0
  let c194 : Index := 194#32
  ![v1175.toNat, 194]
def k0_off199 (i : grid0.Coords) : Fin 2 → Nat :=
  let arg0 : BitVec 32 := BitVec.ofNat 32 (i 0).val
  let v1181 : Index := Scalar.indexCast arg0
  let c195 : Index := 195#32
  ![v1181.toNat, 195]
def k0_off200 (i : grid0.Coords) : Fin 2 → Nat :=
  let arg0 : BitVec 32 := BitVec.ofNat 32 (i 0).val
  let v1187 : Index := Scalar.indexCast arg0
  let c196 : Index := 196#32
  ![v1187.toNat, 196]
def k0_off201 (i : grid0.Coords) : Fin 2 → Nat :=
  let arg0 : BitVec 32 := BitVec.ofNat 32 (i 0).val
  let v1193 : Index := Scalar.indexCast arg0
  let c197 : Index := 197#32
  ![v1193.toNat, 197]
def k0_off202 (i : grid0.Coords) : Fin 2 → Nat :=
  let arg0 : BitVec 32 := BitVec.ofNat 32 (i 0).val
  let v1199 : Index := Scalar.indexCast arg0
  let c198 : Index := 198#32
  ![v1199.toNat, 198]
def k0_off203 (i : grid0.Coords) : Fin 2 → Nat :=
  let arg0 : BitVec 32 := BitVec.ofNat 32 (i 0).val
  let v1205 : Index := Scalar.indexCast arg0
  let c199 : Index := 199#32
  ![v1205.toNat, 199]
def k0_off204 (i : grid0.Coords) : Fin 2 → Nat :=
  let arg0 : BitVec 32 := BitVec.ofNat 32 (i 0).val
  let v1211 : Index := Scalar.indexCast arg0
  let c200 : Index := 200#32
  ![v1211.toNat, 200]
def k0_off205 (i : grid0.Coords) : Fin 2 → Nat :=
  let arg0 : BitVec 32 := BitVec.ofNat 32 (i 0).val
  let v1217 : Index := Scalar.indexCast arg0
  let c201 : Index := 201#32
  ![v1217.toNat, 201]
def k0_off206 (i : grid0.Coords) : Fin 2 → Nat :=
  let arg0 : BitVec 32 := BitVec.ofNat 32 (i 0).val
  let v1223 : Index := Scalar.indexCast arg0
  let c202 : Index := 202#32
  ![v1223.toNat, 202]
def k0_off207 (i : grid0.Coords) : Fin 2 → Nat :=
  let arg0 : BitVec 32 := BitVec.ofNat 32 (i 0).val
  let v1229 : Index := Scalar.indexCast arg0
  let c203 : Index := 203#32
  ![v1229.toNat, 203]
def k0_off208 (i : grid0.Coords) : Fin 2 → Nat :=
  let arg0 : BitVec 32 := BitVec.ofNat 32 (i 0).val
  let v1235 : Index := Scalar.indexCast arg0
  let c204 : Index := 204#32
  ![v1235.toNat, 204]
def k0_off209 (i : grid0.Coords) : Fin 2 → Nat :=
  let arg0 : BitVec 32 := BitVec.ofNat 32 (i 0).val
  let v1241 : Index := Scalar.indexCast arg0
  let c205 : Index := 205#32
  ![v1241.toNat, 205]
def k0_off210 (i : grid0.Coords) : Fin 2 → Nat :=
  let arg0 : BitVec 32 := BitVec.ofNat 32 (i 0).val
  let v1247 : Index := Scalar.indexCast arg0
  let c206 : Index := 206#32
  ![v1247.toNat, 206]
def k0_off211 (i : grid0.Coords) : Fin 2 → Nat :=
  let arg0 : BitVec 32 := BitVec.ofNat 32 (i 0).val
  let v1253 : Index := Scalar.indexCast arg0
  let c207 : Index := 207#32
  ![v1253.toNat, 207]
def k0_off212 (i : grid0.Coords) : Fin 2 → Nat :=
  let arg0 : BitVec 32 := BitVec.ofNat 32 (i 0).val
  let v1259 : Index := Scalar.indexCast arg0
  let c208 : Index := 208#32
  ![v1259.toNat, 208]
def k0_off213 (i : grid0.Coords) : Fin 2 → Nat :=
  let arg0 : BitVec 32 := BitVec.ofNat 32 (i 0).val
  let v1265 : Index := Scalar.indexCast arg0
  let c209 : Index := 209#32
  ![v1265.toNat, 209]
def k0_off214 (i : grid0.Coords) : Fin 2 → Nat :=
  let arg0 : BitVec 32 := BitVec.ofNat 32 (i 0).val
  let v1271 : Index := Scalar.indexCast arg0
  let c210 : Index := 210#32
  ![v1271.toNat, 210]
def k0_off215 (i : grid0.Coords) : Fin 2 → Nat :=
  let arg0 : BitVec 32 := BitVec.ofNat 32 (i 0).val
  let v1277 : Index := Scalar.indexCast arg0
  let c211 : Index := 211#32
  ![v1277.toNat, 211]
def k0_off216 (i : grid0.Coords) : Fin 2 → Nat :=
  let arg0 : BitVec 32 := BitVec.ofNat 32 (i 0).val
  let v1283 : Index := Scalar.indexCast arg0
  let c212 : Index := 212#32
  ![v1283.toNat, 212]
def k0_off217 (i : grid0.Coords) : Fin 2 → Nat :=
  let arg0 : BitVec 32 := BitVec.ofNat 32 (i 0).val
  let v1289 : Index := Scalar.indexCast arg0
  let c213 : Index := 213#32
  ![v1289.toNat, 213]
def k0_off218 (i : grid0.Coords) : Fin 2 → Nat :=
  let arg0 : BitVec 32 := BitVec.ofNat 32 (i 0).val
  let v1295 : Index := Scalar.indexCast arg0
  let c214 : Index := 214#32
  ![v1295.toNat, 214]
def k0_off219 (i : grid0.Coords) : Fin 2 → Nat :=
  let arg0 : BitVec 32 := BitVec.ofNat 32 (i 0).val
  let v1301 : Index := Scalar.indexCast arg0
  let c215 : Index := 215#32
  ![v1301.toNat, 215]
def k0_off220 (i : grid0.Coords) : Fin 2 → Nat :=
  let arg0 : BitVec 32 := BitVec.ofNat 32 (i 0).val
  let v1307 : Index := Scalar.indexCast arg0
  let c216 : Index := 216#32
  ![v1307.toNat, 216]
def k0_off221 (i : grid0.Coords) : Fin 2 → Nat :=
  let arg0 : BitVec 32 := BitVec.ofNat 32 (i 0).val
  let v1313 : Index := Scalar.indexCast arg0
  let c217 : Index := 217#32
  ![v1313.toNat, 217]
def k0_off222 (i : grid0.Coords) : Fin 2 → Nat :=
  let arg0 : BitVec 32 := BitVec.ofNat 32 (i 0).val
  let v1319 : Index := Scalar.indexCast arg0
  let c218 : Index := 218#32
  ![v1319.toNat, 218]
def k0_off223 (i : grid0.Coords) : Fin 2 → Nat :=
  let arg0 : BitVec 32 := BitVec.ofNat 32 (i 0).val
  let v1325 : Index := Scalar.indexCast arg0
  let c219 : Index := 219#32
  ![v1325.toNat, 219]
def k0_off224 (i : grid0.Coords) : Fin 2 → Nat :=
  let arg0 : BitVec 32 := BitVec.ofNat 32 (i 0).val
  let v1331 : Index := Scalar.indexCast arg0
  let c220 : Index := 220#32
  ![v1331.toNat, 220]
def k0_off225 (i : grid0.Coords) : Fin 2 → Nat :=
  let arg0 : BitVec 32 := BitVec.ofNat 32 (i 0).val
  let v1337 : Index := Scalar.indexCast arg0
  let c221 : Index := 221#32
  ![v1337.toNat, 221]
def k0_off226 (i : grid0.Coords) : Fin 2 → Nat :=
  let arg0 : BitVec 32 := BitVec.ofNat 32 (i 0).val
  let v1343 : Index := Scalar.indexCast arg0
  let c222 : Index := 222#32
  ![v1343.toNat, 222]
def k0_off227 (i : grid0.Coords) : Fin 2 → Nat :=
  let arg0 : BitVec 32 := BitVec.ofNat 32 (i 0).val
  let v1349 : Index := Scalar.indexCast arg0
  let c223 : Index := 223#32
  ![v1349.toNat, 223]
def k0_off228 (i : grid0.Coords) : Fin 2 → Nat :=
  let arg0 : BitVec 32 := BitVec.ofNat 32 (i 0).val
  let v1355 : Index := Scalar.indexCast arg0
  let c224 : Index := 224#32
  ![v1355.toNat, 224]
def k0_off229 (i : grid0.Coords) : Fin 2 → Nat :=
  let arg0 : BitVec 32 := BitVec.ofNat 32 (i 0).val
  let v1361 : Index := Scalar.indexCast arg0
  let c225 : Index := 225#32
  ![v1361.toNat, 225]
def k0_off230 (i : grid0.Coords) : Fin 2 → Nat :=
  let arg0 : BitVec 32 := BitVec.ofNat 32 (i 0).val
  let v1367 : Index := Scalar.indexCast arg0
  let c226 : Index := 226#32
  ![v1367.toNat, 226]
def k0_off231 (i : grid0.Coords) : Fin 2 → Nat :=
  let arg0 : BitVec 32 := BitVec.ofNat 32 (i 0).val
  let v1373 : Index := Scalar.indexCast arg0
  let c227 : Index := 227#32
  ![v1373.toNat, 227]
def k0_off232 (i : grid0.Coords) : Fin 2 → Nat :=
  let arg0 : BitVec 32 := BitVec.ofNat 32 (i 0).val
  let v1379 : Index := Scalar.indexCast arg0
  let c228 : Index := 228#32
  ![v1379.toNat, 228]
def k0_off233 (i : grid0.Coords) : Fin 2 → Nat :=
  let arg0 : BitVec 32 := BitVec.ofNat 32 (i 0).val
  let v1385 : Index := Scalar.indexCast arg0
  let c229 : Index := 229#32
  ![v1385.toNat, 229]
def k0_off234 (i : grid0.Coords) : Fin 2 → Nat :=
  let arg0 : BitVec 32 := BitVec.ofNat 32 (i 0).val
  let v1391 : Index := Scalar.indexCast arg0
  let c230 : Index := 230#32
  ![v1391.toNat, 230]
def k0_off235 (i : grid0.Coords) : Fin 2 → Nat :=
  let arg0 : BitVec 32 := BitVec.ofNat 32 (i 0).val
  let v1397 : Index := Scalar.indexCast arg0
  let c231 : Index := 231#32
  ![v1397.toNat, 231]
def k0_off236 (i : grid0.Coords) : Fin 2 → Nat :=
  let arg0 : BitVec 32 := BitVec.ofNat 32 (i 0).val
  let v1403 : Index := Scalar.indexCast arg0
  let c232 : Index := 232#32
  ![v1403.toNat, 232]
def k0_off237 (i : grid0.Coords) : Fin 2 → Nat :=
  let arg0 : BitVec 32 := BitVec.ofNat 32 (i 0).val
  let v1409 : Index := Scalar.indexCast arg0
  let c233 : Index := 233#32
  ![v1409.toNat, 233]
def k0_off238 (i : grid0.Coords) : Fin 2 → Nat :=
  let arg0 : BitVec 32 := BitVec.ofNat 32 (i 0).val
  let v1415 : Index := Scalar.indexCast arg0
  let c234 : Index := 234#32
  ![v1415.toNat, 234]
def k0_off239 (i : grid0.Coords) : Fin 2 → Nat :=
  let arg0 : BitVec 32 := BitVec.ofNat 32 (i 0).val
  let v1421 : Index := Scalar.indexCast arg0
  let c235 : Index := 235#32
  ![v1421.toNat, 235]
def k0_off240 (i : grid0.Coords) : Fin 2 → Nat :=
  let arg0 : BitVec 32 := BitVec.ofNat 32 (i 0).val
  let v1427 : Index := Scalar.indexCast arg0
  let c236 : Index := 236#32
  ![v1427.toNat, 236]
def k0_off241 (i : grid0.Coords) : Fin 2 → Nat :=
  let arg0 : BitVec 32 := BitVec.ofNat 32 (i 0).val
  let v1433 : Index := Scalar.indexCast arg0
  let c237 : Index := 237#32
  ![v1433.toNat, 237]
def k0_off242 (i : grid0.Coords) : Fin 2 → Nat :=
  let arg0 : BitVec 32 := BitVec.ofNat 32 (i 0).val
  let v1439 : Index := Scalar.indexCast arg0
  let c238 : Index := 238#32
  ![v1439.toNat, 238]
def k0_off243 (i : grid0.Coords) : Fin 2 → Nat :=
  let arg0 : BitVec 32 := BitVec.ofNat 32 (i 0).val
  let v1445 : Index := Scalar.indexCast arg0
  let c239 : Index := 239#32
  ![v1445.toNat, 239]
def k0_off244 (i : grid0.Coords) : Fin 2 → Nat :=
  let arg0 : BitVec 32 := BitVec.ofNat 32 (i 0).val
  let v1451 : Index := Scalar.indexCast arg0
  let c240 : Index := 240#32
  ![v1451.toNat, 240]
def k0_off245 (i : grid0.Coords) : Fin 2 → Nat :=
  let arg0 : BitVec 32 := BitVec.ofNat 32 (i 0).val
  let v1457 : Index := Scalar.indexCast arg0
  let c241 : Index := 241#32
  ![v1457.toNat, 241]
def k0_off246 (i : grid0.Coords) : Fin 2 → Nat :=
  let arg0 : BitVec 32 := BitVec.ofNat 32 (i 0).val
  let v1463 : Index := Scalar.indexCast arg0
  let c242 : Index := 242#32
  ![v1463.toNat, 242]
def k0_off247 (i : grid0.Coords) : Fin 2 → Nat :=
  let arg0 : BitVec 32 := BitVec.ofNat 32 (i 0).val
  let v1469 : Index := Scalar.indexCast arg0
  let c243 : Index := 243#32
  ![v1469.toNat, 243]
def k0_off248 (i : grid0.Coords) : Fin 2 → Nat :=
  let arg0 : BitVec 32 := BitVec.ofNat 32 (i 0).val
  let v1475 : Index := Scalar.indexCast arg0
  let c244 : Index := 244#32
  ![v1475.toNat, 244]
def k0_off249 (i : grid0.Coords) : Fin 2 → Nat :=
  let arg0 : BitVec 32 := BitVec.ofNat 32 (i 0).val
  let v1481 : Index := Scalar.indexCast arg0
  let c245 : Index := 245#32
  ![v1481.toNat, 245]
def k0_off250 (i : grid0.Coords) : Fin 2 → Nat :=
  let arg0 : BitVec 32 := BitVec.ofNat 32 (i 0).val
  let v1487 : Index := Scalar.indexCast arg0
  let c246 : Index := 246#32
  ![v1487.toNat, 246]
def k0_off251 (i : grid0.Coords) : Fin 2 → Nat :=
  let arg0 : BitVec 32 := BitVec.ofNat 32 (i 0).val
  let v1493 : Index := Scalar.indexCast arg0
  let c247 : Index := 247#32
  ![v1493.toNat, 247]
def k0_off252 (i : grid0.Coords) : Fin 2 → Nat :=
  let arg0 : BitVec 32 := BitVec.ofNat 32 (i 0).val
  let v1499 : Index := Scalar.indexCast arg0
  let c248 : Index := 248#32
  ![v1499.toNat, 248]
def k0_off253 (i : grid0.Coords) : Fin 2 → Nat :=
  let arg0 : BitVec 32 := BitVec.ofNat 32 (i 0).val
  let v1505 : Index := Scalar.indexCast arg0
  let c249 : Index := 249#32
  ![v1505.toNat, 249]
def k0_off254 (i : grid0.Coords) : Fin 2 → Nat :=
  let arg0 : BitVec 32 := BitVec.ofNat 32 (i 0).val
  let v1511 : Index := Scalar.indexCast arg0
  let c250 : Index := 250#32
  ![v1511.toNat, 250]
def k0_off255 (i : grid0.Coords) : Fin 2 → Nat :=
  let arg0 : BitVec 32 := BitVec.ofNat 32 (i 0).val
  let v1517 : Index := Scalar.indexCast arg0
  let c251 : Index := 251#32
  ![v1517.toNat, 251]
def k0_off256 (i : grid0.Coords) : Fin 2 → Nat :=
  let arg0 : BitVec 32 := BitVec.ofNat 32 (i 0).val
  let v1523 : Index := Scalar.indexCast arg0
  let c252 : Index := 252#32
  ![v1523.toNat, 252]
def k0_off257 (i : grid0.Coords) : Fin 2 → Nat :=
  let arg0 : BitVec 32 := BitVec.ofNat 32 (i 0).val
  let v1529 : Index := Scalar.indexCast arg0
  let c253 : Index := 253#32
  ![v1529.toNat, 253]
def k0_off258 (i : grid0.Coords) : Fin 2 → Nat :=
  let arg0 : BitVec 32 := BitVec.ofNat 32 (i 0).val
  let v1535 : Index := Scalar.indexCast arg0
  let c254 : Index := 254#32
  ![v1535.toNat, 254]
def k0_off259 (i : grid0.Coords) : Fin 2 → Nat :=
  let arg0 : BitVec 32 := BitVec.ofNat 32 (i 0).val
  let v1541 : Index := Scalar.indexCast arg0
  let c255 : Index := 255#32
  ![v1541.toNat, 255]
def k0_off260 (i : grid0.Coords) : Fin 2 → Nat :=
  let arg0 : BitVec 32 := BitVec.ofNat 32 (i 0).val
  let v1547 : Index := Scalar.indexCast arg0
  let c256 : Index := 256#32
  ![v1547.toNat, 256]
def k0_mult2 : BitVec 32 :=
  let c0_i32_319 : BitVec 32 := 0#32
  c0_i32_319
def k0_mult3 : BitVec 32 :=
  let c0_i32_320 : BitVec 32 := 0#32
  c0_i32_320
def k0_mult4 : BitVec 32 :=
  let c256_i32 : BitVec 32 := 256#32
  c256_i32
def k0_mult5 : BitVec 32 :=
  let c0_i32_328 : BitVec 32 := 0#32
  c0_i32_328
def k0_mult6 : BitVec 32 :=
  let c512_i32 : BitVec 32 := 512#32
  c512_i32
def k0_mult7 : BitVec 32 :=
  let c0_i32_336 : BitVec 32 := 0#32
  c0_i32_336
def k0_mult8 : BitVec 32 :=
  let c0_i32_355 : BitVec 32 := 0#32
  c0_i32_355
def k0_mult9 : BitVec 32 :=
  let c768_i32 : BitVec 32 := 768#32
  c768_i32
def k0_mult10 : BitVec 32 :=
  let c256_i32_357 : BitVec 32 := 256#32
  c256_i32_357
def k0_mult11 : BitVec 32 :=
  let c256_i32_380 : BitVec 32 := 256#32
  c256_i32_380
def k0_mult12 : BitVec 32 :=
  let c1024_i32 : BitVec 32 := 1024#32
  c1024_i32
def k0_mult13 : BitVec 32 :=
  let c512_i32_382 : BitVec 32 := 512#32
  c512_i32_382
def k0_mult14 : BitVec 32 :=
  let c512_i32_409 : BitVec 32 := 512#32
  c512_i32_409
def k0_mult15 : BitVec 32 :=
  let c1280_i32 : BitVec 32 := 1280#32
  c1280_i32
def k0_mult16 : BitVec 32 :=
  let c768_i32_411 : BitVec 32 := 768#32
  c768_i32_411
def k0_mult17 : BitVec 32 :=
  let c768_i32_438 : BitVec 32 := 768#32
  c768_i32_438
@[reducible] def k0_t2_loop : Scf.Loop 32 :=
  let c0_i32_440 : BitVec 32 := 0#32
  let c3_i32_441 : BitVec 32 := 3#32
  let v2706 : BitVec 32 := Scalar.addi c0_i32_440 c3_i32_441
  let c1_i32_442 : BitVec 32 := 1#32
  ⟨c0_i32_440, v2706, c1_i32_442⟩
def k0_mult18 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c0_i32_544 : BitVec 32 := 0#32
  let v2871 : BitVec 32 := Scalar.addi v2870 c0_i32_544
  let c2_i32_545 : BitVec 32 := 2#32
  let v2872 : BitVec 32 := Scalar.addi v2871 c2_i32_545
  let c256_i32_546 : BitVec 32 := 256#32
  let v2873 : BitVec 32 := Scalar.muli v2872 c256_i32_546
  v2873
def k0_mult19 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c0_i32_544 : BitVec 32 := 0#32
  let v2871 : BitVec 32 := Scalar.addi v2870 c0_i32_544
  let c2_i32_545 : BitVec 32 := 2#32
  let v2872 : BitVec 32 := Scalar.addi v2871 c2_i32_545
  let c2_i32_547 : BitVec 32 := 2#32
  let v2875 : BitVec 32 := Scalar.subi v2872 c2_i32_547
  let c256_i32_548 : BitVec 32 := 256#32
  let v2876 : BitVec 32 := Scalar.muli v2875 c256_i32_548
  v2876
def k0_off261 (k0_t2 : Fin k0_t2_loop.trips) (c4_i32_543 : BitVec 32) (c0_i32_544 : BitVec 32) : Fin 3 → Nat :=
  let c0_549 : Index := 0#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let v2871 : BitVec 32 := Scalar.addi v2870 c0_i32_544
  let c2_i32_545 : BitVec 32 := 2#32
  let v2872 : BitVec 32 := Scalar.addi v2871 c2_i32_545
  let c256_i32_546 : BitVec 32 := 256#32
  let v2873 : BitVec 32 := Scalar.muli v2872 c256_i32_546
  let v2874 : BitVec 32 := v2873
  let v2878 : Index := Scalar.indexCast v2874
  let c0_550 : Index := 0#32
  ![0, v2878.toNat, 0]
def k0_off262 (k0_t2 : Fin k0_t2_loop.trips) (c4_i32_543 : BitVec 32) (c0_i32_544 : BitVec 32) : Fin 2 → Nat :=
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let v2871 : BitVec 32 := Scalar.addi v2870 c0_i32_544
  let c2_i32_545 : BitVec 32 := 2#32
  let v2872 : BitVec 32 := Scalar.addi v2871 c2_i32_545
  let c2_i32_547 : BitVec 32 := 2#32
  let v2875 : BitVec 32 := Scalar.subi v2872 c2_i32_547
  let c256_i32_548 : BitVec 32 := 256#32
  let v2876 : BitVec 32 := Scalar.muli v2875 c256_i32_548
  let v2877 : BitVec 32 := v2876
  let v2885 : Index := Scalar.indexCast v2877
  let c0_552 : Index := 0#32
  ![v2885.toNat, 0]
def k0_off263 (k0_t2 : Fin k0_t2_loop.trips) (c4_i32_543 : BitVec 32) (c0_i32_556 : BitVec 32) : Fin 3 → Nat :=
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let v2891 : BitVec 32 := Scalar.addi v2870 c0_i32_556
  let c2_i32_563 : BitVec 32 := 2#32
  let v2903 : BitVec 32 := Scalar.subi v2891 c2_i32_563
  let v2904 : Index := Scalar.indexCast v2903
  let c0_564 : Index := 0#32
  let c0_565 : Index := 0#32
  ![v2904.toNat, 0, 0]
def k0_off264 (k0_t2 : Fin k0_t2_loop.trips) (c4_i32_543 : BitVec 32) (c0_i32_556 : BitVec 32) (c1_i32_568 : BitVec 32) : Fin 3 → Nat :=
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let v2891 : BitVec 32 := Scalar.addi v2870 c0_i32_556
  let c2_i32_567 : BitVec 32 := 2#32
  let v2909 : BitVec 32 := Scalar.subi v2891 c2_i32_567
  let v2910 : BitVec 32 := Scalar.addi v2909 c1_i32_568
  let v2911 : Index := Scalar.indexCast v2910
  let c0_569 : Index := 0#32
  let c0_570 : Index := 0#32
  ![v2911.toNat, 0, 0]
def k0_mult20 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c0_i32_556 : BitVec 32 := 0#32
  let v2891 : BitVec 32 := Scalar.addi v2870 c0_i32_556
  let c256_i32_578 : BitVec 32 := 256#32
  let v2930 : BitVec 32 := Scalar.muli v2891 c256_i32_578
  v2930
def k0_off265 (k0_t2 : Fin k0_t2_loop.trips) (c4_i32_543 : BitVec 32) (c0_i32_556 : BitVec 32) : Fin 2 → Nat :=
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let v2891 : BitVec 32 := Scalar.addi v2870 c0_i32_556
  let c256_i32_578 : BitVec 32 := 256#32
  let v2930 : BitVec 32 := Scalar.muli v2891 c256_i32_578
  let v2931 : BitVec 32 := v2930
  let v2932 : Index := Scalar.indexCast v2931
  let c0_579 : Index := 0#32
  ![v2932.toNat, 0]
def k0_mult21 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c1_i32_580 : BitVec 32 := 1#32
  let v2934 : BitVec 32 := Scalar.addi v2870 c1_i32_580
  let c2_i32_581 : BitVec 32 := 2#32
  let v2935 : BitVec 32 := Scalar.addi v2934 c2_i32_581
  let c256_i32_582 : BitVec 32 := 256#32
  let v2936 : BitVec 32 := Scalar.muli v2935 c256_i32_582
  v2936
def k0_mult22 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c1_i32_580 : BitVec 32 := 1#32
  let v2934 : BitVec 32 := Scalar.addi v2870 c1_i32_580
  let c2_i32_581 : BitVec 32 := 2#32
  let v2935 : BitVec 32 := Scalar.addi v2934 c2_i32_581
  let c2_i32_583 : BitVec 32 := 2#32
  let v2938 : BitVec 32 := Scalar.subi v2935 c2_i32_583
  let c256_i32_584 : BitVec 32 := 256#32
  let v2939 : BitVec 32 := Scalar.muli v2938 c256_i32_584
  v2939
def k0_mult23 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c1_i32_592 : BitVec 32 := 1#32
  let v2954 : BitVec 32 := Scalar.addi v2870 c1_i32_592
  let c256_i32_614 : BitVec 32 := 256#32
  let v2993 : BitVec 32 := Scalar.muli v2954 c256_i32_614
  v2993
def k0_mult24 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c2_i32_616 : BitVec 32 := 2#32
  let v2997 : BitVec 32 := Scalar.addi v2870 c2_i32_616
  let c2_i32_617 : BitVec 32 := 2#32
  let v2998 : BitVec 32 := Scalar.addi v2997 c2_i32_617
  let c256_i32_618 : BitVec 32 := 256#32
  let v2999 : BitVec 32 := Scalar.muli v2998 c256_i32_618
  v2999
def k0_mult25 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c2_i32_616 : BitVec 32 := 2#32
  let v2997 : BitVec 32 := Scalar.addi v2870 c2_i32_616
  let c2_i32_617 : BitVec 32 := 2#32
  let v2998 : BitVec 32 := Scalar.addi v2997 c2_i32_617
  let c2_i32_619 : BitVec 32 := 2#32
  let v3001 : BitVec 32 := Scalar.subi v2998 c2_i32_619
  let c256_i32_620 : BitVec 32 := 256#32
  let v3002 : BitVec 32 := Scalar.muli v3001 c256_i32_620
  v3002
def k0_mult26 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c2_i32_628 : BitVec 32 := 2#32
  let v3017 : BitVec 32 := Scalar.addi v2870 c2_i32_628
  let c256_i32_650 : BitVec 32 := 256#32
  let v3056 : BitVec 32 := Scalar.muli v3017 c256_i32_650
  v3056
def k0_mult27 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c3_i32_652 : BitVec 32 := 3#32
  let v3060 : BitVec 32 := Scalar.addi v2870 c3_i32_652
  let c2_i32_653 : BitVec 32 := 2#32
  let v3061 : BitVec 32 := Scalar.addi v3060 c2_i32_653
  let c256_i32_654 : BitVec 32 := 256#32
  let v3062 : BitVec 32 := Scalar.muli v3061 c256_i32_654
  v3062
def k0_mult28 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c3_i32_652 : BitVec 32 := 3#32
  let v3060 : BitVec 32 := Scalar.addi v2870 c3_i32_652
  let c2_i32_653 : BitVec 32 := 2#32
  let v3061 : BitVec 32 := Scalar.addi v3060 c2_i32_653
  let c2_i32_655 : BitVec 32 := 2#32
  let v3064 : BitVec 32 := Scalar.subi v3061 c2_i32_655
  let c256_i32_656 : BitVec 32 := 256#32
  let v3065 : BitVec 32 := Scalar.muli v3064 c256_i32_656
  v3065
def k0_mult29 (k0_t2 : Fin k0_t2_loop.trips) : BitVec 32 :=
  let c4_i32_543 : BitVec 32 := 4#32
  let c8_i32_542 : BitVec 32 := 8#32
  let c0_i32_440 : BitVec 32 := 0#32
  let c1_i32_442 : BitVec 32 := 1#32
  let arg13 : BitVec 32 := Scf.iv c0_i32_440 c1_i32_442 k0_t2
  let v2869 : BitVec 32 := Scalar.muli c8_i32_542 arg13
  let v2870 : BitVec 32 := Scalar.addi c4_i32_543 v2869
  let c3_i32_664 : BitVec 32 := 3#32
  let v3080 : BitVec 32 := Scalar.addi v2870 c3_i32_664
  let c256_i32_686 : BitVec 32 := 256#32
  let v3119 : BitVec 32 := Scalar.muli v3080 c256_i32_686
  v3119
def k0_mult30 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c0_i32_690 : BitVec 32 := 0#32
  let v3125 : BitVec 32 := Scalar.addi v3124 c0_i32_690
  let c2_i32_691 : BitVec 32 := 2#32
  let v3126 : BitVec 32 := Scalar.addi v3125 c2_i32_691
  let c256_i32_692 : BitVec 32 := 256#32
  let v3127 : BitVec 32 := Scalar.muli v3126 c256_i32_692
  v3127
def k0_mult31 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c0_i32_690 : BitVec 32 := 0#32
  let v3125 : BitVec 32 := Scalar.addi v3124 c0_i32_690
  let c2_i32_691 : BitVec 32 := 2#32
  let v3126 : BitVec 32 := Scalar.addi v3125 c2_i32_691
  let c2_i32_693 : BitVec 32 := 2#32
  let v3129 : BitVec 32 := Scalar.subi v3126 c2_i32_693
  let c256_i32_694 : BitVec 32 := 256#32
  let v3130 : BitVec 32 := Scalar.muli v3129 c256_i32_694
  v3130
def k0_mult32 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c0_i32_702 : BitVec 32 := 0#32
  let v3145 : BitVec 32 := Scalar.addi v3124 c0_i32_702
  let c256_i32_724 : BitVec 32 := 256#32
  let v3184 : BitVec 32 := Scalar.muli v3145 c256_i32_724
  v3184
def k0_mult33 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c1_i32_726 : BitVec 32 := 1#32
  let v3188 : BitVec 32 := Scalar.addi v3124 c1_i32_726
  let c2_i32_727 : BitVec 32 := 2#32
  let v3189 : BitVec 32 := Scalar.addi v3188 c2_i32_727
  let c256_i32_728 : BitVec 32 := 256#32
  let v3190 : BitVec 32 := Scalar.muli v3189 c256_i32_728
  v3190
def k0_mult34 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c1_i32_726 : BitVec 32 := 1#32
  let v3188 : BitVec 32 := Scalar.addi v3124 c1_i32_726
  let c2_i32_727 : BitVec 32 := 2#32
  let v3189 : BitVec 32 := Scalar.addi v3188 c2_i32_727
  let c2_i32_729 : BitVec 32 := 2#32
  let v3192 : BitVec 32 := Scalar.subi v3189 c2_i32_729
  let c256_i32_730 : BitVec 32 := 256#32
  let v3193 : BitVec 32 := Scalar.muli v3192 c256_i32_730
  v3193
def k0_mult35 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c1_i32_738 : BitVec 32 := 1#32
  let v3208 : BitVec 32 := Scalar.addi v3124 c1_i32_738
  let c256_i32_760 : BitVec 32 := 256#32
  let v3247 : BitVec 32 := Scalar.muli v3208 c256_i32_760
  v3247
def k0_mult36 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c2_i32_762 : BitVec 32 := 2#32
  let v3251 : BitVec 32 := Scalar.addi v3124 c2_i32_762
  let c2_i32_763 : BitVec 32 := 2#32
  let v3252 : BitVec 32 := Scalar.addi v3251 c2_i32_763
  let c256_i32_764 : BitVec 32 := 256#32
  let v3253 : BitVec 32 := Scalar.muli v3252 c256_i32_764
  v3253
def k0_mult37 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c2_i32_762 : BitVec 32 := 2#32
  let v3251 : BitVec 32 := Scalar.addi v3124 c2_i32_762
  let c2_i32_763 : BitVec 32 := 2#32
  let v3252 : BitVec 32 := Scalar.addi v3251 c2_i32_763
  let c2_i32_765 : BitVec 32 := 2#32
  let v3255 : BitVec 32 := Scalar.subi v3252 c2_i32_765
  let c256_i32_766 : BitVec 32 := 256#32
  let v3256 : BitVec 32 := Scalar.muli v3255 c256_i32_766
  v3256
def k0_mult38 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c2_i32_774 : BitVec 32 := 2#32
  let v3271 : BitVec 32 := Scalar.addi v3124 c2_i32_774
  let c256_i32_796 : BitVec 32 := 256#32
  let v3310 : BitVec 32 := Scalar.muli v3271 c256_i32_796
  v3310
def k0_mult39 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c3_i32_798 : BitVec 32 := 3#32
  let v3314 : BitVec 32 := Scalar.addi v3124 c3_i32_798
  let c2_i32_799 : BitVec 32 := 2#32
  let v3315 : BitVec 32 := Scalar.addi v3314 c2_i32_799
  let c256_i32_800 : BitVec 32 := 256#32
  let v3316 : BitVec 32 := Scalar.muli v3315 c256_i32_800
  v3316
def k0_mult40 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c3_i32_798 : BitVec 32 := 3#32
  let v3314 : BitVec 32 := Scalar.addi v3124 c3_i32_798
  let c2_i32_799 : BitVec 32 := 2#32
  let v3315 : BitVec 32 := Scalar.addi v3314 c2_i32_799
  let c2_i32_801 : BitVec 32 := 2#32
  let v3318 : BitVec 32 := Scalar.subi v3315 c2_i32_801
  let c256_i32_802 : BitVec 32 := 256#32
  let v3319 : BitVec 32 := Scalar.muli v3318 c256_i32_802
  v3319
def k0_mult41 (k0_t2 : Fin k0_t2_loop.trips) : BitVec 32 :=
  let c8_i32_689 : BitVec 32 := 8#32
  let c8_i32_688 : BitVec 32 := 8#32
  let c0_i32_440 : BitVec 32 := 0#32
  let c1_i32_442 : BitVec 32 := 1#32
  let arg13 : BitVec 32 := Scf.iv c0_i32_440 c1_i32_442 k0_t2
  let v3123 : BitVec 32 := Scalar.muli c8_i32_688 arg13
  let v3124 : BitVec 32 := Scalar.addi c8_i32_689 v3123
  let c3_i32_810 : BitVec 32 := 3#32
  let v3334 : BitVec 32 := Scalar.addi v3124 c3_i32_810
  let c256_i32_832 : BitVec 32 := 256#32
  let v3373 : BitVec 32 := Scalar.muli v3334 c256_i32_832
  v3373
def k0_mult42 : BitVec 32 :=
  let c7680_i32 : BitVec 32 := 7680#32
  c7680_i32
def k0_mult43 : BitVec 32 :=
  let c7168_i32 : BitVec 32 := 7168#32
  c7168_i32
def k0_mult44 : BitVec 32 :=
  let c7168_i32_470 : BitVec 32 := 7168#32
  c7168_i32_470
def k0_mult45 : BitVec 32 :=
  let c7936_i32 : BitVec 32 := 7936#32
  c7936_i32
def k0_mult46 : BitVec 32 :=
  let c7424_i32 : BitVec 32 := 7424#32
  c7424_i32
def k0_mult47 : BitVec 32 :=
  let c7424_i32_498 : BitVec 32 := 7424#32
  c7424_i32_498
def k0_mult48 : BitVec 32 :=
  let c7680_i32_519 : BitVec 32 := 7680#32
  c7680_i32_519
def k0_mult49 : BitVec 32 :=
  let c7936_i32_540 : BitVec 32 := 7936#32
  c7936_i32_540
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S8x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S10x8192x1024 : Shape := ⟨3, ![10, 8192, 1024]⟩
abbrev S8x257 : Shape := ⟨2, ![8, 257]⟩
abbrev S1x8192x1024 : Shape := ⟨3, ![1, 8192, 1024]⟩
abbrev S8192x1024 : Shape := ⟨2, ![8192, 1024]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 115
  | .vmem => 0
  | .smem => 0
  | _ => 0

abbrev bufTy : (tb : Table) → Fin (tcTables nBuf tb) → BufTy
  | .hbm, ⟨0, _⟩ => ⟨S10x8192x1024, .f32⟩
  | .hbm, ⟨1, _⟩ => ⟨S8x257, .f32⟩
  | .hbm, ⟨2, _⟩ => ⟨S1x8192x1024, .f32⟩
  | .hbm, ⟨3, _⟩ => ⟨S8192x1024, .f32⟩
  | .hbm, ⟨4, _⟩ => ⟨S8192x8x128, .f32⟩
  | .hbm, ⟨5, _⟩ => ⟨S1x8192x1024, .f32⟩
  | .hbm, ⟨6, _⟩ => ⟨S8192x1024, .f32⟩
  | .hbm, ⟨7, _⟩ => ⟨S8192x8x128, .f32⟩
  | .hbm, ⟨8, _⟩ => ⟨S1x8192x1024, .f32⟩
  | .hbm, ⟨9, _⟩ => ⟨S8192x1024, .f32⟩
  | .hbm, ⟨10, _⟩ => ⟨S8192x8x128, .f32⟩
  | .hbm, ⟨11, _⟩ => ⟨S8192, .i32⟩
  | .hbm, ⟨12, _⟩ => ⟨S8x8192x8192, .f32⟩
  | .hbm, ⟨13, _⟩ => ⟨S_, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i1⟩
  | .hbm, ⟨36, _⟩ => ⟨S_, .i32⟩
  | .hbm, ⟨37, _⟩ => ⟨S8192x8192, .i32⟩
  | .hbm, ⟨38, _⟩ => ⟨S8192x8192, .i32⟩
  | .hbm, ⟨39, _⟩ => ⟨S8192x8192, .i32⟩
  | .hbm, ⟨40, _⟩ => ⟨S8192x8192x1, .i32⟩
  | .hbm, ⟨41, _⟩ => ⟨S8x8192x8192, .f32⟩
  | .hbm, ⟨42, _⟩ => ⟨S_, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S8192, .i1⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S8192, .i32⟩
  | .hbm, ⟨78, _⟩ => ⟨S1x8192, .i32⟩
  | .hbm, ⟨79, _⟩ => ⟨S8192x1, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S1x8192, .i32⟩
  | .hbm, ⟨84, _⟩ => ⟨S8192x1, .i32⟩
  | .hbm, ⟨85, _⟩ => ⟨S_, .i32⟩
  | .hbm, ⟨86, _⟩ => ⟨S8192x1, .i32⟩
  | .hbm, ⟨87, _⟩ => ⟨S8192x1, .i32⟩
  | .hbm, ⟨88, _⟩ => ⟨S8192x8192, .i32⟩
  | .hbm, ⟨89, _⟩ => ⟨S8192x8192, .i32⟩
  | .hbm, ⟨90, _⟩ => ⟨S8192x8192, .i1⟩
  | .hbm, ⟨91, _⟩ => ⟨S8192x8192, .i1⟩
  | .hbm, ⟨92, _⟩ => ⟨S8x8192x8192, .f32⟩
  | .hbm, ⟨93, _⟩ => ⟨S_, .f32⟩
  | .hbm, ⟨94, _⟩ => ⟨S_, .f32⟩
  | .hbm, ⟨95, _⟩ => ⟨S8x8192x8192, .i1⟩
  | .hbm, ⟨96, _⟩ => ⟨S8x8192x8192, .f32⟩
  | .hbm, ⟨97, _⟩ => ⟨S8x8192x8192, .f32⟩
  | .hbm, ⟨98, _⟩ => ⟨S_, .f32⟩
  | .hbm, ⟨99, _⟩ => ⟨S8x8192, .f32⟩
  | .hbm, ⟨100, _⟩ => ⟨S_, .f32⟩
  | .hbm, ⟨101, _⟩ => ⟨S8x8192, .f32⟩
  | .hbm, ⟨102, _⟩ => ⟨S8x8192, .f32⟩
  | .hbm, ⟨103, _⟩ => ⟨S8x8192x1, .f32⟩
  | .hbm, ⟨104, _⟩ => ⟨S8x8192x8192, .f32⟩
  | .hbm, ⟨105, _⟩ => ⟨S8x8192x8192, .f32⟩
  | .hbm, ⟨106, _⟩ => ⟨S8x8192x8192, .f32⟩
  | .hbm, ⟨107, _⟩ => ⟨S_, .f32⟩
  | .hbm, ⟨108, _⟩ => ⟨S8x8192, .f32⟩
  | .hbm, ⟨109, _⟩ => ⟨S8x8192x1, .f32⟩
  | .hbm, ⟨110, _⟩ => ⟨S8x8192x8192, .f32⟩
  | .hbm, ⟨111, _⟩ => ⟨S8x8192x8192, .f32⟩
  | .hbm, ⟨112, _⟩ => ⟨S8x128x8192, .f32⟩
  | .hbm, ⟨113, _⟩ => ⟨S8192x8x128, .f32⟩
  | .hbm, ⟨114, _⟩ => ⟨S8192x1024, .f32⟩
  | _, _ => ⟨S10x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_6 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_7 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v45 : Ref sig .tc := ⟨.hbm, 97, rfl⟩
abbrev main_cst_8 : Ref sig .tc := ⟨.hbm, 98, rfl⟩
abbrev main_v46 : Ref sig .tc := ⟨.hbm, 99, rfl⟩
abbrev main_cst_9 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_10 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x12288 : Shape := ⟨2, ![2048, 12288]⟩
abbrev S1x2048 : Shape := ⟨2, ![1, 2048]⟩
abbrev S10x8192x1024 : Shape := ⟨3, ![10, 8192, 1024]⟩
abbrev S8192x1024 : Shape := ⟨2, ![8192, 1024]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048, .f32⟩
  | .hbm, ⟨5, _⟩ => ⟨S10x8192x1024, .f32⟩
  | .hbm, ⟨6, _⟩ => ⟨S8192x1024, .f32⟩
  | .hbm, ⟨7, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg1 : BitVec 32 := BitVec.ofNat 32 (i 1).val
  let c2_i32_3 : BitVec 32 := 2#32
  let v9 : BitVec 1 := Scalar.cmpi .sgt arg1 c2_i32_3
  let v10 : BitVec 32 := Scalar.extui v9
  let c0_i32_4 : BitVec 32 := 0#32
  let v11 : BitVec 1 := Scalar.cmpi .ne v10 c0_i32_4
  v11

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sle arg1 c2_i32
  let c2_i32_0 : BitVec 32 := 2#32
  let v1 : BitVec 32 := Scalar.subi arg1 c2_i32_0
  let c0_i32 : BitVec 32 := 0#32
  let v2 : BitVec 32 := Scalar.select v0 c0_i32 v1
  let c0_i32_1 : BitVec 32 := 0#32
  let c0_i32_2 : BitVec 32 := 0#32
  ![v2.toNat, arg0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let v1 : BitVec 32 := Scalar.subi arg0 c1_i32_0
  let c0_i32 : BitVec 32 := 0#32
  let v2 : BitVec 32 := Scalar.maxsi v1 c0_i32
  let v3 : BitVec 32 := Scalar.select v0 arg0 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.select v0 arg0 v2
  let c0_i32_0 : BitVec 32 := 0#32
  let c0_i32_1 : BitVec 32 := 0#32
  ![v3.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S2048 : Shape := ⟨1, ![2048]⟩
abbrev S2048x12288 : Shape := ⟨2, ![2048, 12288]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x12288 : Shape := ⟨2, ![8192, 12288]⟩
abbrev S8192x1024 : Shape := ⟨2, ![8192, 1024]⟩
abbrev S1x8192x1024 : Shape := ⟨3, ![1, 8192, 1024]⟩
abbrev S10x8192x1024 : Shape := ⟨3, ![10, 8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x12288, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x12288, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x8192x1024, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S10x8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S10x8192x1024 : Shape := ⟨3, ![10, 8192, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S10x8192x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_5 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_6 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_7 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_8 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8192x2048 : Shape := ⟨2, ![8192, 2048]⟩
abbrev S8192x1024 : Shape := ⟨2, ![8192, 1024]⟩
abbrev S10x8192x1024 : Shape := ⟨3, ![10, 8192, 1024]⟩
abbrev S1024x2048 : Shape := ⟨2, ![1024, 2048]⟩
abbrev S2048x2048 : Shape := ⟨2, ![2048, 2048]⟩
abbrev S2048 : Shape := ⟨1, ![2048]⟩
abbrev S1x8192x1024 : Shape := ⟨3, ![1, 8192, 1024]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S10x8192x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1x8192x1024, .f32⟩
  | .hbm, ⟨9, _⟩ => ⟨S8192x1024, .f32⟩
  | .hbm, ⟨10, _⟩ => ⟨S1x8192x1024, .f32⟩
  | .hbm, ⟨11, _⟩ => ⟨S8192x1024, .f32⟩
  | .hbm, ⟨12, _⟩ => ⟨S1x8192x1024, .f32⟩
  | .hbm, ⟨13, _⟩ => ⟨S8192x1024, .f32⟩
  | .hbm, ⟨14, _⟩ => ⟨S1x8192x1024, .f32⟩
  | .hbm, ⟨15, _⟩ => ⟨S8192x1024, .f32⟩
  | .hbm, ⟨16, _⟩ => ⟨S8192x2048, .f32⟩
  | .hbm, ⟨17, _⟩ => ⟨S1x8192x1024, .f32⟩
  | .hbm, ⟨18, _⟩ => ⟨S8192x1024, .f32⟩
  | .hbm, ⟨19, _⟩ => ⟨S1x8192x1024, .f32⟩
  | .hbm, ⟨20, _⟩ => ⟨S8192x1024, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_1 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]
-- ==== Kernel4.lean ====
abbrev S256x2048 : Shape := ⟨2, ![256, 2048]⟩
abbrev S2048 : Shape := ⟨1, ![2048]⟩
abbrev S2048x12288 : Shape := ⟨2, ![2048, 12288]⟩
abbrev S1x2048 : Shape := ⟨2, ![1, 2048]⟩
abbrev S10x256x1024 : Shape := ⟨3, ![10, 256, 1024]⟩
abbrev S256x1024 : Shape := ⟨2, ![256, 1024]⟩
abbrev S2048x1024 : Shape := ⟨2, ![2048, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x12288, .f32⟩
  | .hbm, ⟨3, _⟩ => ⟨S1x2048, .f32⟩
  | .hbm, ⟨4, _⟩ => ⟨S10x256x1024, .f32⟩
  | .hbm, ⟨5, _⟩ => ⟨S256x1024, .f32⟩
  | .hbm, ⟨6, _⟩ => ⟨S256x1024, .f32⟩
  | .hbm, ⟨7, _⟩ => ⟨S2048x12288, .bf16⟩
  | .local _ .vmem, ⟨0, _⟩ => ⟨S256x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S2048x1024, .bf16⟩
  | .local _ .vmem, ⟨10, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![12], ![false]⟩

def k0_cond4 (i : grid0.Coords) : BitVec 1 :=
  let arg0 : BitVec 32 := BitVec.ofNat 32 (i 0).val
  let c1_i32_3 : BitVec 32 := 1#32
  let v9 : BitVec 1 := Scalar.cmpi .ne arg0 c1_i32_3
  let c2_i32_4 : BitVec 32 := 2#32
  let v10 : BitVec 1 := Scalar.cmpi .ne arg0 c2_i32_4
  let v11 : BitVec 1 := Scalar.andi v9 v10
  let v12 : BitVec 32 := Scalar.extui v11
  let c0_i32_5 : BitVec 32 := 0#32
  let v13 : BitVec 1 := Scalar.cmpi .ne v12 c0_i32_5
  v13

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let v0 : BitVec 1 := Scalar.cmpi .sle arg0 c2_i32
  let c2_i32_0 : BitVec 32 := 2#32
  let v1 : BitVec 32 := Scalar.subi arg0 c2_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![v2.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S256x2048 : Shape := ⟨2, ![256, 2048]⟩
abbrev S2048 : Shape := ⟨1, ![2048]⟩
abbrev S2048x12288 : Shape := ⟨2, ![2048, 12288]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x12288 : Shape := ⟨2, ![256, 12288]⟩
abbrev S256x1024 : Shape := ⟨2, ![256, 1024]⟩
abbrev S1x256x1024 : Shape := ⟨3, ![1, 256, 1024]⟩
abbrev S10x256x1024 : Shape := ⟨3, ![10, 256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x12288, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x12288, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x2048, .f32⟩
  | .hbm, ⟨29, _⟩ => ⟨S256x2048, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S10x256x1024, .f32⟩
  | .hbm, ⟨45, _⟩ => ⟨S2048x12288, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel5.lean ====
abbrev S256x2048 : Shape := ⟨2, ![256, 2048]⟩
abbrev S256x1024 : Shape := ⟨2, ![256, 1024]⟩
abbrev S10x256x1024 : Shape := ⟨3, ![10, 256, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x1024, .f32⟩
  | .hbm, ⟨3, _⟩ => ⟨S10x256x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S256x2048, .f32⟩
  | .local _ .vmem, ⟨0, _⟩ => ⟨S256x2048, .f32⟩
  | .local _ .vmem, ⟨1, _⟩ => ⟨S256x1024, .f32⟩
  | .local _ .vmem, ⟨2, _⟩ => ⟨S256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x2048, .bf16⟩
  | .local _ .vmem, ⟨12, _⟩ => ⟨S1x2048, .f32⟩
  | .local _ .vmem, ⟨13, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_5 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_6 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_7 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_8 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference5Ideal.lean ====
abbrev S256x2048 : Shape := ⟨2, ![256, 2048]⟩
abbrev S256x1024 : Shape := ⟨2, ![256, 1024]⟩
abbrev S10x256x1024 : Shape := ⟨3, ![10, 256, 1024]⟩
abbrev S1024x2048 : Shape := ⟨2, ![1024, 2048]⟩
abbrev S2048x2048 : Shape := ⟨2, ![2048, 2048]⟩
abbrev S2048 : Shape := ⟨1, ![2048]⟩
abbrev S1x256x1024 : Shape := ⟨3, ![1, 256, 1024]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x1024, .f32⟩
  | .hbm, ⟨3, _⟩ => ⟨S10x256x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1x256x1024, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S1x256x1024, .f32⟩
  | .hbm, ⟨13, _⟩ => ⟨S256x1024, .f32⟩
  | .hbm, ⟨14, _⟩ => ⟨S1x256x1024, .f32⟩
  | .hbm, ⟨15, _⟩ => ⟨S256x1024, .f32⟩
  | .hbm, ⟨16, _⟩ => ⟨S256x2048, .f32⟩
  | .hbm, ⟨17, _⟩ => ⟨S1x256x1024, .f32⟩
  | .hbm, ⟨18, _⟩ => ⟨S256x1024, .f32⟩
  | .hbm, ⟨19, _⟩ => ⟨S1x256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x2048, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S_, .f32⟩
  | .hbm, ⟨50, _⟩ => ⟨S256x2048, .f32⟩
  | .hbm, ⟨51, _⟩ => ⟨S256x2048, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S256x2048, .f32⟩
  | .hbm, ⟨57, _⟩ => ⟨S256x2048, .f32⟩
  | .hbm, ⟨58, _⟩ => ⟨S_, .f32⟩
  | .hbm, ⟨59, _⟩ => ⟨S256x2048, .f32⟩
  | .hbm, ⟨60, _⟩ => ⟨S256x2048, .f32⟩
  | .hbm, ⟨61, _⟩ => ⟨S256x2048, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S_, .f32⟩
  | .hbm, ⟨66, _⟩ => ⟨S256, .f32⟩
  | .hbm, ⟨67, _⟩ => ⟨S256x1, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S_, .f32⟩
  | .hbm, ⟨72, _⟩ => ⟨S256x1, .f32⟩
  | .hbm, ⟨73, _⟩ => ⟨S256x1, .f32⟩
  | .hbm, ⟨74, _⟩ => ⟨S256x1, .f32⟩
  | .hbm, ⟨75, _⟩ => ⟨S256x2048, .f32⟩
  | .hbm, ⟨76, _⟩ => ⟨S256x2048, .f32⟩
  | .hbm, ⟨77, _⟩ => ⟨S1x2048, .f32⟩
  | .hbm, ⟨78, _⟩ => ⟨S256x2048, .f32⟩
  | .hbm, ⟨79, _⟩ => ⟨S256x2048, .f32⟩
  | .hbm, ⟨80, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_1 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]
-- ==== Kernel6.lean ====
abbrev S10x256x1024 : Shape := ⟨3, ![10, 256, 1024]⟩
abbrev S256x1024 : Shape := ⟨2, ![256, 1024]⟩
abbrev S8x2048x16x64 : Shape := ⟨4, ![8, 2048, 16, 64]⟩
abbrev S8x2048x8x128 : Shape := ⟨4, ![8, 2048, 8, 128]⟩
abbrev S8x512x8x128 : Shape := ⟨4, ![8, 512, 8, 128]⟩
abbrev S32x8 : Shape := ⟨2, ![32, 8]⟩
abbrev S8x257 : Shape := ⟨2, ![8, 257]⟩
abbrev S64 : Shape := ⟨1, ![64]⟩
abbrev S128 : Shape := ⟨1, ![128]⟩
abbrev S8x2048x1024 : Shape := ⟨3, ![8, 2048, 1024]⟩
abbrev S8x16384x128 : Shape := ⟨3, ![8, 16384, 128]⟩
abbrev S8x4096x128 : Shape := ⟨3, ![8, 4096, 128]⟩
abbrev S1x64 : Shape := ⟨2, ![1, 64]⟩
abbrev S1x128 : Shape := ⟨2, ![1, 128]⟩
abbrev S1x32x1024 : Shape := ⟨3, ![1, 32, 1024]⟩
abbrev S32x1024 : Shape := ⟨2, ![32, 1024]⟩
abbrev S1x2048x1024 : Shape := ⟨3, ![1, 2048, 1024]⟩
abbrev S1x16384x128 : Shape := ⟨3, ![1, 16384, 128]⟩
abbrev S1x4096x128 : Shape := ⟨3, ![1, 4096, 128]⟩
abbrev S8x32x160 : Shape := ⟨3, ![8, 32, 160]⟩
abbrev S32x160 : Shape := ⟨2, ![32, 160]⟩
abbrev S1x1 : Shape := ⟨2, ![1, 1]⟩
abbrev S1x32x160 : Shape := ⟨3, ![1, 32, 160]⟩
abbrev S1x3840x128 : Shape := ⟨3, ![1, 3840, 128]⟩
abbrev S3840x128 : Shape := ⟨2, ![3840, 128]⟩
abbrev S1 : Shape := ⟨1, ![1]⟩
abbrev S32x128 : Shape := ⟨2, ![32, 128]⟩
abbrev S1x32x128 : Shape := ⟨3, ![1, 32, 128]⟩
abbrev S64x128 : Shape := ⟨2, ![64, 128]⟩
abbrev S64x160 : Shape := ⟨2, ![64, 160]⟩
abbrev S1x2048x128 : Shape := ⟨3, ![1, 2048, 128]⟩
abbrev S2048x128 : Shape := ⟨2, ![2048, 128]⟩
abbrev S64x2048 : Shape := ⟨2, ![64, 2048]⟩
abbrev S64x1920 : Shape := ⟨2, ![64, 1920]⟩
abbrev S64x32 : Shape := ⟨2, ![64, 32]⟩
abbrev S1x512x128 : Shape := ⟨3, ![1, 512, 128]⟩
abbrev S512x128 : Shape := ⟨2, ![512, 128]⟩
abbrev S32x512 : Shape := ⟨2, ![32, 512]⟩
abbrev S32x384 : Shape := ⟨2, ![32, 384]⟩
abbrev S32x32 : Shape := ⟨2, ![32, 32]⟩
abbrev S64x1 : Shape := ⟨2, ![64, 1]⟩
abbrev S32 : Shape := ⟨1, ![32]⟩
abbrev S32x1 : Shape := ⟨2, ![32, 1]⟩

abbrev nBuf : Space → Nat
  | .hbm => 27
  | .vmem => 35
  | .smem => 2
  | _ => 0

abbrev bufTy : (tb : Table) → Fin (tcTables nBuf tb) → BufTy
  | .hbm, ⟨0, _⟩ => ⟨S10x256x1024, .f32⟩
  | .hbm, ⟨1, _⟩ => ⟨S256x1024, .f32⟩
  | .hbm, ⟨2, _⟩ => ⟨S256x1024, .f32⟩
  | .hbm, ⟨3, _⟩ => ⟨S8x2048x16x64, .f32⟩
  | .hbm, ⟨4, _⟩ => ⟨S8x2048x8x128, .f32⟩
  | .hbm, ⟨5, _⟩ => ⟨S8x512x8x128, .f32⟩
  | .hbm, ⟨6, _⟩ => ⟨S8x512x8x128, .f32⟩
  | .hbm, ⟨7, _⟩ => ⟨S32x8, .f32⟩
  | .hbm, ⟨8, _⟩ => ⟨S8x257, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S8x2048x1024, .f32⟩
  | .hbm, ⟨15, _⟩ => ⟨S8x16384x128, .f32⟩
  | .hbm, ⟨16, _⟩ => ⟨S8x4096x128, .f32⟩
  | .hbm, ⟨17, _⟩ => ⟨S8x4096x128, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x128, .f32⟩
  | .hbm, ⟨23, _⟩ => ⟨S256x1024, .f32⟩
  | .hbm, ⟨24, _⟩ => ⟨S256x1024, .f32⟩
  | .hbm, ⟨25, _⟩ => ⟨S8x4096x128, .f32⟩
  | .hbm, ⟨26, _⟩ => ⟨S8x4096x128, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x32x1024, .f32⟩
  | .local _ .vmem, ⟨6, _⟩ => ⟨S1x32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S1x2048x1024, .f32⟩
  | .local _ .vmem, ⟨12, _⟩ => ⟨S1x2048x1024, .f32⟩
  | .local _ .vmem, ⟨13, _⟩ => ⟨S1x16384x128, .f32⟩
  | .local _ .vmem, ⟨14, _⟩ => ⟨S1x16384x128, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x1024, .f32⟩
  | .local _ .vmem, ⟨21, _⟩ => ⟨S1x4096x128, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x128, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S1x4096x128, .f32⟩
  | .local _ .vmem, ⟨30, _⟩ => ⟨S1x4096x128, .f32⟩
  | .local _ .vmem, ⟨31, _⟩ => ⟨S1x4096x128, .f32⟩
  | .local _ .vmem, ⟨32, _⟩ => ⟨S1x4096x128, .f32⟩
  | .local _ .vmem, ⟨33, _⟩ => ⟨S8x32x160, .f32⟩
  | .local _ .vmem, ⟨34, _⟩ => ⟨S8x32x160, .f32⟩
  | .local _ .smem, ⟨0, _⟩ => ⟨S32x8, .f32⟩
  | .local _ .smem, ⟨1, _⟩ => ⟨S8x257, .f32⟩
  | _, _ => ⟨S10x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_scratch1 : Ref sig .tc := ⟨.vmem, 34, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_14 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4096x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4096x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S10x256x1024 : Shape := ⟨3, ![10, 256, 1024]⟩
abbrev S256x1024 : Shape := ⟨2, ![256, 1024]⟩
abbrev S8x2048x16x64 : Shape := ⟨4, ![8, 2048, 16, 64]⟩
abbrev S8x2048x8x128 : Shape := ⟨4, ![8, 2048, 8, 128]⟩
abbrev S8x512x8x128 : Shape := ⟨4, ![8, 512, 8, 128]⟩
abbrev S32x8 : Shape := ⟨2, ![32, 8]⟩
abbrev S8x257 : Shape := ⟨2, ![8, 257]⟩
abbrev S64 : Shape := ⟨1, ![64]⟩
abbrev S128 : Shape := ⟨1, ![128]⟩
abbrev S1x256x1024 : Shape := ⟨3, ![1, 256, 1024]⟩
abbrev S8x32x8x128 : Shape := ⟨4, ![8, 32, 8, 128]⟩
abbrev S8x544x8x128 : Shape := ⟨4, ![8, 544, 8, 128]⟩
abbrev S8x4096x128 : Shape := ⟨3, ![8, 4096, 128]⟩

abbrev nBuf : Space → Nat
  | .hbm => 26
  | .vmem => 0
  | .smem => 0
  | _ => 0

abbrev bufTy : (tb : Table) → Fin (tcTables nBuf tb) → BufTy
  | .hbm, ⟨0, _⟩ => ⟨S10x256x1024, .f32⟩
  | .hbm, ⟨1, _⟩ => ⟨S256x1024, .f32⟩
  | .hbm, ⟨2, _⟩ => ⟨S256x1024, .f32⟩
  | .hbm, ⟨3, _⟩ => ⟨S8x2048x16x64, .f32⟩
  | .hbm, ⟨4, _⟩ => ⟨S8x2048x8x128, .f32⟩
  | .hbm, ⟨5, _⟩ => ⟨S8x512x8x128, .f32⟩
  | .hbm, ⟨6, _⟩ => ⟨S8x512x8x128, .f32⟩
  | .hbm, ⟨7, _⟩ => ⟨S32x8, .f32⟩
  | .hbm, ⟨8, _⟩ => ⟨S8x257, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S1x256x1024, .f32⟩
  | .hbm, ⟨15, _⟩ => ⟨S256x1024, .f32⟩
  | .hbm, ⟨16, _⟩ => ⟨S8x32x8x128, .f32⟩
  | .hbm, ⟨17, _⟩ => ⟨S8x544x8x128, .f32⟩
  | .hbm, ⟨18, _⟩ => ⟨S1x256x1024, .f32⟩
  | .hbm, ⟨19, _⟩ => ⟨S256x1024, .f32⟩
  | .hbm, ⟨20, _⟩ => ⟨S8x32x8x128, .f32⟩
  | .hbm, ⟨21, _⟩ => ⟨S8x544x8x128, .f32⟩
  | .hbm, ⟨22, _⟩ => ⟨S8x512x8x128, .f32⟩
  | .hbm, ⟨23, _⟩ => ⟨S8x4096x128, .f32⟩
  | .hbm, ⟨24, _⟩ => ⟨S8x512x8x128, .f32⟩
  | .hbm, ⟨25, _⟩ => ⟨S8x4096x128, .f32⟩
  | _, _ => ⟨S10x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Proof.AttnB.Loop.lean ====
module

public import proofs.«01_k».proof.Proof.Gen.KernelIdeal.Skeleton
public import proofs.«01_k».proof.Proof.Gen.KernelIdeal.Frame
public import Idealize.ShloMosaic.Lib.WritesUnit
public import Idealize.ShloMosaic.Lib.VecWindow
public import Idealize.ShloMosaic.Lib.Exec
public import Idealize.ShloMosaic.Lib.Tactic

/-! The band attention's body: what its two loops leave, for any number system.

The first loop keeps the head's keys, and its values turned over, in narrow scratch. The second takes
eight chunks of 256 queries a trip: for each chunk it finishes the softmax of scores computed two
chunks before, and computes the scores of the chunk two ahead. -/

@[expose] public section

set_option maxRecDepth 16384

noncomputable section

namespace Cert.AttnB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The 256 rows of a head's array that are chunk `g`. -/
def rows256 (x : Vec F S1x8192x128 .f32) (g : ℕ) : Vec F S1x256x128 .f32 :=
  fun y => x (fun a => match a with | 0 => (0 : Fin 1) | 1 => Fin.ofNat 8192 (256 * g + (y 1).val) | 2 => y 2)
/-- `n` rows of the kept keys from chunk `g` on. -/
def keys (n : ℕ) (K : Vec F S8192x128 .bf16) (g : ℕ) : Vec F ⟨2, ![n, 128]⟩ .bf16 :=
  fun y => K (fun a => match a with | 0 => Fin.ofNat 8192 (256 * g + (y 0).val) | 1 => y 1)
/-- The kept values of chunk `j`, a value's entries along the rows. -/
def vals (V : Vec F S32x128x256 .bf16) (j : ℕ) : Vec F S1x128x256 .bf16 :=
  fun y => V (fun a => match a with | 0 => Fin.ofNat 32 j | 1 => y 1 | 2 => y 2)

/-- The index of row `r`, column `n` of a tile. -/
def at2 (r : Fin 256) (n : Fin 128) : S256x128.Idx := fun a => match a with | 0 => r | 1 => n
/-- The index of row `r`, column `n` of a chunk of kept values. -/
def at3 (r : Fin 128) (n : Fin 256) : S1x128x256.Idx := fun a => match a with | 0 => (0 : Fin 1) | 1 => r | 2 => n

/-- An array of 8192 rows, from its tiles of 256. -/
def ofTiles {e : EltTy} (T : ℕ → Vec F S256x128 e) : Vec F S8192x128 e :=
  fun y => T ((y 0).val / 256) (at2 (Fin.ofNat 256 (y 0).val) (y 1))
/-- The keys kept, chunk by chunk. -/
def keptK (x : Vec F S1x8192x128 .f32) : Vec F S8192x128 .bf16 := ofTiles fun g => k0_pay46 (rows256 x g)
/-- The values kept, turned over chunk by chunk. -/
def keptV (x : Vec F S1x8192x128 .f32) : Vec F S32x128x256 .bf16 :=
  fun y => k0_pay47 (rows256 x (y 0).val) (at3 (y 1) (y 2))

/-- The scores of chunk `g` against the chunks `g-2`, `g-1` and `g`. -/
def sc (q : Vec F S1x8192x128 .f32) (K : Vec F S8192x128 .bf16) (g : ℕ) : Vec F S768x256 .f32 :=
  k0_pay2 (rows256 q g) (keys 768 K (g - 2))
/-- Chunk `g`'s part of the result, from its scores, the bias and the values. -/
def fin (S B : Vec F S768x256 .f32) (V : Vec F S32x128x256 .bf16) (g : ℕ) : Vec F S256x128 .f32 :=
  k0_pay6 (k0_pay4 S B) (k0_pay5 S B) (vals V (g - 2)) (vals V (g - 1)) (vals V g)

/-! ## Loads and stores at chunks -/

section Chunks
variable {sp : Space}

theorem load_rows (v : View sig .tc sp S1x8192x128 .f32) (f : v.ty.Contents (Elt F)) {off : Fin 3 → ℕ} (inb : ∀ a, off a + S1x256x128.size a ≤ S1x8192x128.size a)
    (g : ℕ) (h : off = ![0, 256 * g, 0]) :
    v.readAt (Elt F) (Rect.unit (s := S1x8192x128) off S1x256x128.size inb).toLoadRect f = rows256 (v.read (Elt F) f) g := by
  subst h
  have hb : 256 * g + 256 ≤ 8192 := inb 1
  funext y
  refine congrArg (v.read (Elt F) f) (funext fun a => Fin.ext ?_)
  have h1 : (y 1).val < 256 := (y 1).isLt
  have h0 : (y 0).val < 1 := (y 0).isLt
  match a with
  | 0 => show 0 + 1 * (y 0).val = 0; omega
  | 1 => show 256 * g + 1 * (y 1).val = (256 * g + (y 1).val) % 8192; omega
  | 2 => show 0 + 1 * (y 2).val = (y 2).val; omega

theorem load_keys (n : ℕ) (v : View sig .tc sp S8192x128 .bf16) (f : v.ty.Contents (Elt F)) {off : Fin 2 → ℕ} (inb : ∀ a, off a + (![n, 128] : Fin 2 → ℕ) a ≤ S8192x128.size a)
    (g : ℕ) (h : off = ![256 * g, 0]) :
    v.readAt (Elt F) (Rect.unit (s := S8192x128) off ![n, 128] inb).toLoadRect f = keys n (v.read (Elt F) f) g := by
  subst h
  have hb : 256 * g + n ≤ 8192 := inb 0
  funext y
  refine congrArg (v.read (Elt F) f) (funext fun a => Fin.ext ?_)
  have h0 : (y 0).val < n := (y 0).isLt
  match a with
  | 0 => show 256 * g + 1 * (y 0).val = (256 * g + (y 0).val) % 8192; omega
  | 1 => show 0 + 1 * (y 1).val = (y 1).val; omega

theorem load_vals (v : View sig .tc sp S32x128x256 .bf16) (f : v.ty.Contents (Elt F)) {off : Fin 3 → ℕ} (inb : ∀ a, off a + S1x128x256.size a ≤ S32x128x256.size a)
    (j : ℕ) (h : off = ![j, 0, 0]) :
    v.readAt (Elt F) (Rect.unit (s := S32x128x256) off S1x128x256.size inb).toLoadRect f = vals (v.read (Elt F) f) j := by
  subst h
  have hb : j + 1 ≤ 32 := inb 0
  funext y
  refine congrArg (v.read (Elt F) f) (funext fun a => Fin.ext ?_)
  have h0 : (y 0).val < 1 := (y 0).isLt
  match a with
  | 0 => show j + 1 * (y 0).val = j % 32; omega
  | 1 => show 0 + 1 * (y 1).val = (y 1).val; omega
  | 2 => show 0 + 1 * (y 2).val = (y 2).val; omega

/-- A store of tile `g` over rows held below it holds the rows up to its end. -/
theorem held_tile {e : EltTy} (v : View sig .tc sp S8192x128 e) (f : v.ty.Contents (Elt F)) {off : Fin 2 → ℕ} (inb : ∀ a, off a + S256x128.size a ≤ S8192x128.size a)
    (T : ℕ → Vec F S256x128 e) (w : Vec F S256x128 e) (L : List (View.Piece (Elt F) S8192x128 e)) (g : ℕ) (h : off = ![256 * g, 0]) (hw : w = T g)
    (hL : ∀ y, (y 0).val < 256 * g → v.read (Elt F) (v.writes (Elt F) f L) y = ofTiles T y) :
    ∀ y, (y 0).val < 256 * (g + 1) → v.read (Elt F) (v.writes (Elt F) f (⟨Rect.unit (s := S8192x128) off S256x128.size inb, w⟩ :: L)) y = ofTiles T y := by
  intro y hy
  by_cases hg : (y 0).val < 256 * g
  · exact (View.read_writes_cons_unit_of_not_mem v f inb w L y h 0 (.inl hg)).trans (hL y hg)
  · have e0 : (y 0).val / 256 = g := by omega
    have e1 : (y 0).val = 256 * g + (y 0).val % 256 := by omega
    refine (View.read_writes_cons_unit_of_mem v f inb w L y (at2 (Fin.ofNat 256 (y 0).val) (y 1)) h fun a => ?_).trans ?_
    · match a with
      | 0 => exact e1
      | 1 => exact (Nat.zero_add _).symm
    · subst hw
      unfold ofTiles
      rw [e0]

/-- A store of chunk `j`'s values over the chunks held below it. -/
theorem held_vals (v : View sig .tc sp S32x128x256 .bf16) (f : v.ty.Contents (Elt F)) {off : Fin 3 → ℕ} (inb : ∀ a, off a + S1x128x256.size a ≤ S32x128x256.size a)
    (x : Vec F S1x8192x128 .f32) (w : Vec F S1x128x256 .bf16) (L : List (View.Piece (Elt F) S32x128x256 .bf16)) (j : ℕ) (h : off = ![j, 0, 0]) (hw : w = k0_pay47 (rows256 x j))
    (hL : ∀ y, (y 0).val < j → v.read (Elt F) (v.writes (Elt F) f L) y = keptV x y) :
    ∀ y, (y 0).val < j + 1 → v.read (Elt F) (v.writes (Elt F) f (⟨Rect.unit (s := S32x128x256) off S1x128x256.size inb, w⟩ :: L)) y = keptV x y := by
  intro y hy
  by_cases hg : (y 0).val < j
  · exact (View.read_writes_cons_unit_of_not_mem v f inb w L y h 0 (.inl hg)).trans (hL y hg)
  · have e0 : (y 0).val = j := by omega
    refine (View.read_writes_cons_unit_of_mem v f inb w L y (at3 (y 1) (y 2)) h fun a => ?_).trans ?_
    · match a with
      | 0 => exact e0
      | 1 => exact (Nat.zero_add _).symm
      | 2 => exact (Nat.zero_add _).symm
    · subst hw
      unfold keptV
      rw [e0]

/-- Scores stored whole, loaded whole. -/
theorem load_whole (v : View sig .tc sp S768x256 .f32) (w : Vec F S768x256 .f32) (L : List (View.Piece (Elt F) S768x256 .f32)) {S : Vec F S768x256 .f32} (h : w = S) :
    v.readCov (⟨Rect.unit (s := S768x256) ![0, 0] S768x256.size inb_S768x256_S768x256_0_0, w⟩ :: L) (Rect.unit (s := S768x256) ![0, 0] S768x256.size inb_S768x256_S768x256_0_0).toLoadRect = S :=
  (View.readCov_full v _ _ w L).trans h

/-- The scores of chunk `g`, from what was loaded. -/
theorem sc_of {x : Vec F S1x256x128 .f32} {y : Vec F S768x128 .bf16} {q : Vec F S1x8192x128 .f32} {K : Vec F S8192x128 .bf16} {g : ℕ}
    (hx : x = rows256 q g) (hy : y = keys 768 K (g - 2)) : k0_pay2 x y = sc q K g := by
  subst hx hy; rfl
/-- Chunk `g`'s tile, from what was loaded. -/
theorem fin_of {X Y S B : Vec F S768x256 .f32} {v0 v1 v2 : Vec F S1x128x256 .bf16} {V : Vec F S32x128x256 .bf16} {g : ℕ} (hX : X = S) (hY : Y = B)
    (h0 : v0 = vals V (g - 2)) (h1 : v1 = vals V (g - 1)) (h2 : v2 = vals V g) :
    k0_pay6 (k0_pay4 X Y) (k0_pay5 X Y) v0 v1 v2 = fin S B V g := by
  subst hX hY h0 h1 h2; rfl

end Chunks

variable (c : Dev nD) (i : grid0.Coords) (arg1 : Memref sig .tc .smem S8x257 .f32) (harg1 : arg1.IsWhole) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole)
    (arg5 : Memref sig .tc .vmem S8192x128 .f32) (harg5 : arg5.IsWhole) (arg6 : Memref sig .tc .vmem S8192x128 .bf16) (harg6 : arg6.IsWhole) (arg7 : Memref sig .tc .vmem S32x128x256 .bf16) (harg7 : arg7.IsWhole) (arg8 : Memref sig .tc .vmem S768x256 .f32) (harg8 : arg8.IsWhole)
    (arg9 : Memref sig .tc .vmem S768x256 .f32) (harg9 : arg9.IsWhole) (arg10 : Memref sig .tc .vmem S768x256 .f32) (harg10 : arg10.IsWhole) (arg11 : Memref sig .tc .vmem S768x256 .f32) (harg11 : arg11.IsWhole) (arg12 : Memref sig .tc .vmem S768x256 .f32) (harg12 : arg12.IsWhole)

/-! ## The first loop -/

/-- Before trip `k` the first `k` chunks are kept. -/
def inv1 (f3 : BufTy.Contents (Elt F) arg3.view.ty) (f4 : BufTy.Contents (Elt F) arg4.view.ty) (k : ℕ) (_ : Unit) : sProp 𝕄 :=
  iprop((arg3.view.loc (c : Thread nD τ) ↦[arg3.view.set]{fullShare} f3) ∗ (arg4.view.loc (c : Thread nD τ) ↦[arg4.view.set]{fullShare} f4)
    ∗ (∃ f6, (arg6.view.loc (c : Thread nD τ) ↦[arg6.view.set]{fullShare} f6) ∗ ⌜∀ y, (y 0).val < 256 * k → arg6.view.read (Elt F) f6 y = keptK (arg3.view.read (Elt F) f3) y⌝)
    ∗ (∃ f7, (arg7.view.loc (c : Thread nD τ) ↦[arg7.view.set]{fullShare} f7) ∗ ⌜∀ y, (y 0).val < k → arg7.view.read (Elt F) f7 y = keptV (arg4.view.read (Elt F) f4) y⌝))

theorem off1 : ∀ k : Fin k0_t1_loop.trips, k0_off1 k = ![0, 256 * k.val, 0] ∧ k0_off2 k = ![256 * k.val, 0] ∧ k0_off3 k = ![k.val, 0, 0] ∧ k.val < 32 := by decide +kernel

set_option maxHeartbeats 1000000 in
theorem step1 (f3 : BufTy.Contents (Elt F) arg3.view.ty) (f4 : BufTy.Contents (Elt F) arg4.view.ty) (E : Set ℕ) (k : Fin k0_t1_loop.trips) (acc : Unit) :
    inv1 c arg3 arg4 arg6 arg7 f3 f4 k.val acc
    ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 k acc)
        (fun acc' => inv1 c arg3 arg4 arg6 arg7 f3 f4 (k.val + 1) acc') := by
  have hk : k.val < 32 := (off1 k).2.2.2
  unfold inv1 k0_t1_body
  iintro ⟨H3, H4, ⟨%f6, H6, %h6⟩, ⟨%f7, H7, %h7⟩⟩
  sl_exec
  sl_step
  isplitl [H3]; · iexact H3
  isplitl [H4]; · iexact H4
  isplitl [H6]
  · iexists _; isplitl [H6]; · iexact H6
    ipureintro
    exact held_tile _ _ _ _ _ [] k.val (off1 k).2.1 (congrArg k0_pay46 (load_rows _ _ _ k.val (off1 k).1)) h6
  iexists _; isplitl [H7]; · iexact H7
  ipureintro
  exact held_vals _ _ _ _ _ [] k.val (off1 k).2.2.1 (congrArg k0_pay47 (load_rows _ _ _ k.val (off1 k).1)) h7

/-! ## The second loop -/

variable (v2682 : FVec F S1x256 .f32) (v2683 : FVec F S768x256 .bf16) (v2685 : FVec F S128x256 .bf16) (v2686 : FVec F S256x256 .bf16)

/-- Before trip `k` the tiles of the first `4 + 8k` chunks are stored, and the scores of the next two computed. -/
def inv2 (T : ℕ → Vec F S256x128 .f32) (f2 : BufTy.Contents (Elt F) arg2.view.ty) (f6 : BufTy.Contents (Elt F) arg6.view.ty) (f7 : BufTy.Contents (Elt F) arg7.view.ty)
    (f8 : BufTy.Contents (Elt F) arg8.view.ty) (k : ℕ) (_ : Unit) : sProp 𝕄 :=
  iprop((arg2.view.loc (c : Thread nD τ) ↦[arg2.view.set]{fullShare} f2) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (∃ f5, (arg5.view.loc (c : Thread nD τ) ↦[arg5.view.set]{fullShare} f5) ∗ ⌜∀ y, (y 0).val < 256 * (4 + 8 * k) → arg5.view.read (Elt F) f5 y = ofTiles T y⌝)
    ∗ (∃ f9, (arg9.view.loc (c : Thread nD τ) ↦[arg9.view.set]{fullShare} f9) ∗ ⌜arg9.view.read (Elt F) f9 = sc (arg2.view.read (Elt F) f2) (arg6.view.read (Elt F) f6) (4 + 8 * k)⌝)
    ∗ (∃ f10, (arg10.view.loc (c : Thread nD τ) ↦[arg10.view.set]{fullShare} f10) ∗ ⌜arg10.view.read (Elt F) f10 = sc (arg2.view.read (Elt F) f2) (arg6.view.read (Elt F) f6) (4 + 8 * k + 1)⌝)
    ∗ (∃ f11, (arg11.view.loc (c : Thread nD τ) ↦[arg11.view.set]{fullShare} f11)) ∗ (∃ f12, (arg12.view.loc (c : Thread nD τ) ↦[arg12.view.set]{fullShare} f12)))

theorem off2 : ∀ k : Fin k0_t2_loop.trips, ∀ (r : Fin 2) (n : Fin 4),
    k0_off261 k (BitVec.ofNat 32 (4 + 4 * r.val)) (BitVec.ofNat 32 n.val) = ![0, 256 * (4 + 8 * k.val + 4 * r.val + n.val + 2), 0]
    ∧ k0_off262 k (BitVec.ofNat 32 (4 + 4 * r.val)) (BitVec.ofNat 32 n.val) = ![256 * (4 + 8 * k.val + 4 * r.val + n.val), 0]
    ∧ k0_off263 k (BitVec.ofNat 32 (4 + 4 * r.val)) (BitVec.ofNat 32 n.val) = ![4 + 8 * k.val + 4 * r.val + n.val - 2, 0, 0]
    ∧ k0_off264 k (BitVec.ofNat 32 (4 + 4 * r.val)) (BitVec.ofNat 32 n.val) 1#32 = ![4 + 8 * k.val + 4 * r.val + n.val - 1, 0, 0]
    ∧ k0_off264 k (BitVec.ofNat 32 (4 + 4 * r.val)) (BitVec.ofNat 32 n.val) 2#32 = ![4 + 8 * k.val + 4 * r.val + n.val, 0, 0]
    ∧ k0_off265 k (BitVec.ofNat 32 (4 + 4 * r.val)) (BitVec.ofNat 32 n.val) = ![256 * (4 + 8 * k.val + 4 * r.val + n.val), 0]
    ∧ k.val < 3 := by decide +kernel

set_option maxHeartbeats 4000000 in
theorem step2 (T : ℕ → Vec F S256x128 .f32) (f2 : BufTy.Contents (Elt F) arg2.view.ty) (f6 : BufTy.Contents (Elt F) arg6.view.ty) (f7 : BufTy.Contents (Elt F) arg7.view.ty)
    (f8 : BufTy.Contents (Elt F) arg8.view.ty)
    (hT : ∀ g, 2 ≤ g → T g = fin (sc (arg2.view.read (Elt F) f2) (arg6.view.read (Elt F) f6) g) (arg8.view.read (Elt F) f8) (arg7.view.read (Elt F) f7) g)
    (E : Set ℕ) (k : Fin k0_t2_loop.trips) (acc : Unit) :
    inv2 c arg2 arg5 arg6 arg7 arg8 arg9 arg10 arg11 arg12 T f2 f6 f7 f8 k.val acc
    ⊢ wp frame (wpE (defs₀ (F := F)) Variants.none (c : Thread nD τ) none) E
        (k0_t2_body (F := F) i arg1 harg1 arg2 harg2 arg3 harg3 arg4 harg4 arg5 harg5 arg6 harg6 arg7 harg7 arg8 harg8 arg9 harg9 arg10 harg10 arg11 harg11 arg12 harg12 v2682 v2683 v2685 v2686 k acc)
        (fun acc' => inv2 c arg2 arg5 arg6 arg7 arg8 arg9 arg10 arg11 arg12 T f2 f6 f7 f8 (k.val + 1) acc') := by
  have hk : k.val < 3 := (off2 k 0 0).2.2.2.2.2.2
  unfold inv2 k0_t2_body
  iintro ⟨H2, H6, H7, H8, ⟨%f5, H5, %h5⟩, ⟨%f9, H9, %h9⟩, ⟨%f10, H10, %h10⟩, ⟨%f11, H11⟩, ⟨%f12, H12⟩⟩
  sl_exec
  sl_step
  sl_unfold_words
  isplitl [H2]; · iexact H2
  isplitl [H6]; · iexact H6
  isplitl [H7]; · iexact H7
  isplitl [H8]; · iexact H8
  isplitl [H5]
  · iexists _; isplitl [H5]; · iexact H5
    ipureintro
    have tile : ∀ (r : Fin 2) (n : Fin 4) {X : Vec F S768x256 .f32}, X = sc (arg2.view.read (Elt F) f2) (arg6.view.read (Elt F) f6) (4 + 8 * k.val + 4 * r.val + n.val) →
        k0_pay6 (k0_pay4 X (arg8.view.readAt (Elt F) (Rect.unit (s := S768x256) ![0, 0] S768x256.size inb_S768x256_S768x256_0_0).toLoadRect f8)) (k0_pay5 X (arg8.view.readAt (Elt F) (Rect.unit (s := S768x256) ![0, 0] S768x256.size inb_S768x256_S768x256_0_0).toLoadRect f8))
          (arg7.view.readAt (Elt F) (Rect.unit (s := S32x128x256) (k0_off263 k (BitVec.ofNat 32 (4 + 4 * r.val)) (BitVec.ofNat 32 n.val)) S1x128x256.size (k0_off263_inb k r n)).toLoadRect f7)
          (arg7.view.readAt (Elt F) (Rect.unit (s := S32x128x256) (k0_off264 k (BitVec.ofNat 32 (4 + 4 * r.val)) (BitVec.ofNat 32 n.val) 1#32) S1x128x256.size (k0_off264_inb k r n 0)).toLoadRect f7)
          (arg7.view.readAt (Elt F) (Rect.unit (s := S32x128x256) (k0_off264 k (BitVec.ofNat 32 (4 + 4 * r.val)) (BitVec.ofNat 32 n.val) 2#32) S1x128x256.size (k0_off264_inb k r n 1)).toLoadRect f7)
          = T (4 + 8 * k.val + 4 * r.val + n.val) := fun r n X hX =>
      (fin_of hX (View.readAt_full _ _ _) (load_vals _ _ _ _ (off2 k r n).2.2.1) (load_vals _ _ _ _ (off2 k r n).2.2.2.1) (load_vals _ _ _ _ (off2 k r n).2.2.2.2.1)).trans (hT _ (by omega)).symm
    have score : ∀ (r : Fin 2) (n : Fin 4), k0_pay2
          (arg2.view.readAt (Elt F) (Rect.unit (s := S1x8192x128) (k0_off261 k (BitVec.ofNat 32 (4 + 4 * r.val)) (BitVec.ofNat 32 n.val)) S1x256x128.size (k0_off261_inb k r n)).toLoadRect f2)
          (arg6.view.readAt (Elt F) (Rect.unit (s := S8192x128) (k0_off262 k (BitVec.ofNat 32 (4 + 4 * r.val)) (BitVec.ofNat 32 n.val)) S768x128.size (k0_off262_inb k r n)).toLoadRect f6)
          = sc (arg2.view.read (Elt F) f2) (arg6.view.read (Elt F) f6) (4 + 8 * k.val + 4 * r.val + n.val + 2) := fun r n =>
      sc_of (load_rows _ _ _ _ (off2 k r n).1) (load_keys 768 _ _ _ _ (off2 k r n).2.1)
    refine held_tile _ _ _ _ _ _ (4 + 8 * k.val + 4 * 1 + 3) (off2 k 1 3).2.2.2.2.2.1 ?_ (held_tile _ _ _ _ _ _ (4 + 8 * k.val + 4 * 1 + 2) (off2 k 1 2).2.2.2.2.2.1 ?_ (held_tile _ _ _ _ _ _ (4 + 8 * k.val + 4 * 1 + 1) (off2 k 1 1).2.2.2.2.2.1 ?_ (held_tile _ _ _ _ _ _ (4 + 8 * k.val + 4 * 1 + 0) (off2 k 1 0).2.2.2.2.2.1 ?_ (held_tile _ _ _ _ _ _ (4 + 8 * k.val + 4 * 0 + 3) (off2 k 0 3).2.2.2.2.2.1 ?_ (held_tile _ _ _ _ _ _ (4 + 8 * k.val + 4 * 0 + 2) (off2 k 0 2).2.2.2.2.2.1 ?_ (held_tile _ _ _ _ _ _ (4 + 8 * k.val + 4 * 0 + 1) (off2 k 0 1).2.2.2.2.2.1 ?_ (held_tile _ _ _ _ _ [] (4 + 8 * k.val + 4 * 0 + 0) (off2 k 0 0).2.2.2.2.2.1 ?_ (h5))))))))
    · exact tile 1 3 (load_whole _ _ _ (score 1 1))
    · exact tile 1 2 (load_whole _ _ _ (score 1 0))
    · exact tile 1 1 (load_whole _ _ _ (score 0 3))
    · exact tile 1 0 (load_whole _ _ _ (score 0 2))
    · exact tile 0 3 (load_whole _ _ _ (score 0 1))
    · exact tile 0 2 (load_whole _ _ _ (score 0 0))
    · exact tile 0 1 ((View.readAt_full _ _ _).trans h10)
    · exact tile 0 0 ((View.readAt_full _ _ _).trans h9)
  isplitl [H9]
  · iexists _; isplitl [H9]; · iexact H9
    ipureintro
    exact (View.read_writes_full _ _ _ _ _).trans (sc_of (load_rows _ _ _ _ (off2 k 1 2).1) (load_keys 768 _ _ _ _ (off2 k 1 2).2.1))
  isplitl [H10]
  · iexists _; isplitl [H10]; · iexact H10
    ipureintro
    exact (View.read_writes_full _ _ _ _ _).trans (sc_of (load_rows _ _ _ _ (off2 k 1 3).1) (load_keys 768 _ _ _ _ (off2 k 1 3).2.1))
  isplitl [H11]
  · iexists _; iexact H11
  iexists _; iexact H12

end Cert.AttnB

end
-- ==== Proof.AttnB.Bias.lean ====
module

public import proofs.«01_k».proof.Proof.AttnB.Loop
public import Idealize.ShloMosaic.Lib.Pointwise
public import Idealize.ShloMosaic.Lib.Pipeline.ValueKit
public import Idealize.ShloMosaic.Lib.Tactic.CleanTypes

/-! The bias tile the band attention builds from a head's table of relative biases.

A strip of 8 rows holds the table's entry of each distance, found by a ladder of choices; a tile is 16 windows of
the strip, one under another, so that its entry depends on the distance of row and column alone. -/

@[expose] public section

set_option maxRecDepth 16384

noncomputable section

namespace Cert.AttnB

open Cert.KernelIdeal Cert.KernelIdeal.Gen
open Idealize.ShloMosaic Idealize.ShloMosaic.TcCoe Idealize.SL.Sem

variable {F : FTy → Type} [FloatOps F] [Named F]

/-- The table's entry `n` of head `h`. -/
def atT (h n : ℕ) : S8x257.Idx := fun a => match a with | 0 => Fin.ofNat 8 h | 1 => Fin.ofNat 257 n

/-- The bias tile of a head: entry (r, c) is the bias of key `r` and query `c`, the query 512 rows further, and minus infinity
    outside the band of 8 earlier chunks of 64 and its own. Squares that are far enough hold the first entry alone. -/
def biasOf (x : Vec F S8x257 .f32) (h : ℕ) : Vec F S768x256 .f32 := fun y =>
  if (y 1).val / 64 ≤ (y 0).val / 64 ∧ (y 0).val / 64 ≤ 8 + (y 1).val / 64
  then
    if (y 0).val / 128 ≤ (y 1).val / 128 + 2 then Scalar.mulf (x (atT h 0)) (Named.named κ "log2e" 0x3FB8AA3B#32)
    else FloatOps.mulf (x (atT h (min 256 ((y 0).val - ((y 1).val + 384))))) (Named.named κ "log2e" 0x3FB8AA3B#32)
  else FloatOps.ofBits .f32 0xFF800000#32

theorem entry_inb (i : grid0.Coords) (n : ℕ) (a : Fin 2) :
    (![(BitVec.ofNat 32 (i 0).val).toNat, n % 257] : Fin 2 → ℕ) a + S1x1.size a ≤ S8x257.size a := by
  have h0 : (i 0).val < 8 := (i 0).isLt
  match a with
  | 0 => show (i 0).val % 4294967296 + 1 ≤ 8; omega
  | 1 => show n % 257 + 1 ≤ 257; omega

/-- The entry `n` of the head's row of the table, as the body loads it. -/
def entry (i : grid0.Coords) {sp : Space} (v : View sig .tc sp S8x257 .f32) (f : v.ty.Contents (Elt F)) (n : ℕ) : Elt F .f32 :=
  v.readAt (Elt F) (Rect.unit (s := S8x257) ![(BitVec.ofNat 32 (i 0).val).toNat, n % 257] S1x1.size (entry_inb i n)).toLoadRect f
    (Shape.Idx.first (s := S1x1) (by decide))

theorem entry_eq (i : grid0.Coords) {sp : Space} (v : View sig .tc sp S8x257 .f32) (f : v.ty.Contents (Elt F)) (n : ℕ) :
    entry i v f n = v.read (Elt F) f (atT (i 0).val n) := by
  refine congrArg (v.read (Elt F) f) (funext fun a => Fin.ext ?_)
  have h0 : (i 0).val < 8 := (i 0).isLt
  match a with
  | 0 => show (i 0).val % 4294967296 + 1 * 0 = (i 0).val % 8; omega
  | 1 => show n % 257 + 1 * 0 = n % 257; omega

/-- The ladder: entry `n` where the distance reaches `n - 128`, over the ladder below. -/
def ladder (v : IVec S8x256 32) (L : ℕ → Elt F .f32) : ℕ → FVec F S8x256 .f32
  | 0 => broadcast S8x256 (L 0)
  | n + 1 => select (cmpi .sge v (broadcast S8x256 (BitVec.ofNat 32 (4294967169 + n)))) (broadcast S8x256 (L (n + 1))) (ladder v L n)

theorem step_int : ∀ n : Fin 256, (BitVec.ofNat 32 (4294967169 + n.val)).toInt = (n.val : ℤ) - 127 := by decide +kernel

/-- The ladder gives the entry of the distance, the last one from there on. -/
theorem ladder_apply (v : IVec S8x256 32) (L : ℕ → Elt F .f32) (y : S8x256.Idx) : ∀ n : ℕ, n ≤ 256 →
    ladder v L n y = L (min n ((v y).toInt + 128).toNat)
  | 0, _ => by rw [Nat.zero_min]; rfl
  | n + 1, h => by
    have ih := ladder_apply v L y n (by omega)
    have hs := step_int ⟨n, by omega⟩
    show (if BitVec.ofBool ((BitVec.ofNat 32 (4294967169 + n)).sle (v y)) = 1 then L (n + 1) else ladder v L n y) = _
    rw [ih]
    by_cases hc : (n : ℤ) - 127 ≤ (v y).toInt
    · rw [if_pos (by rw [BitVec.sle_eq_decide, hs, decide_eq_true hc]; rfl)]
      congr 1; omega
    · rw [if_neg (by rw [BitVec.sle_eq_decide, hs, decide_eq_false hc]; decide)]
      congr 1; omega

/-- Row `b`, column `n` of the strip. -/
def at8 (b n : ℕ) : S8x256.Idx := fun a => match a with | 0 => Fin.ofNat 8 b | 1 => Fin.ofNat 256 n

theorem window_inb (n : Fin 16) : S8x256.Slices ![0, 128 - 8 * n.val] S8x128 := by
  refine ⟨rfl, fun a => ?_⟩
  match a with
  | 0 => exact (by decide : 0 + 8 ≤ 8)
  | 1 => exact (by omega : 128 - 8 * n.val + 128 ≤ 256)

/-- The windows of a strip, stacked. -/
theorem stack_apply (X Y : FVec F S8x256 .f32) (y : S128x128.Idx) :
    k0_pay175 X Y y = FloatOps.mulf (X (at8 ((y 0).val % 8) (128 - 8 * ((y 0).val / 8) + (y 1).val))) (Y (at8 ((y 0).val % 8) (128 - 8 * ((y 0).val / 8) + (y 1).val))) := by
  have h0 : (y 0).val < 128 := (y 0).isLt
  have h1 : (y 1).val < 128 := (y 1).isLt
  have hn : (y 0).val / 8 < 16 := by omega
  refine (concatenate_ofFn_apply (t := S128x128) 0 (s₁ := S8x128)
    (fun n : Fin 16 => extractStridedSlice S8x128 ![0, 128 - 8 * n.val] (mulf X Y) (window_inb n)) concatenates_S8x128_S8x128_S8x128_S8x128_S8x128_S8x128_S8x128_S8x128_S8x128_S8x128_S8x128_S8x128_S8x128_S8x128_S8x128_S8x128_S128x128_d0 rfl 8 rfl y
    ⟨(y 0).val / 8, hn⟩ rfl (ix2 ⟨(y 0).val % 8, by omega⟩ (y 1)) rfl ?_).trans ?_
  · intro b hb
    match b with
    | 0 => exact absurd rfl hb
    | 1 => rfl
  · have e : ∀ Z : FVec F S8x256 .f32, extractStridedSlice S8x128 ![0, 128 - 8 * ((y 0).val / 8)] Z (window_inb ⟨(y 0).val / 8, hn⟩)
        (ix2 ⟨(y 0).val % 8, by omega⟩ (y 1)) = Z (at8 ((y 0).val % 8) (128 - 8 * ((y 0).val / 8) + (y 1).val)) := by
      intro Z
      refine congrArg Z (funext fun a => Fin.ext ?_)
      match a with
      | 0 => show 0 + (y 0).val % 8 = (y 0).val % 8 % 8; omega
      | 1 => show 128 - 8 * ((y 0).val / 8) + (y 1).val = (128 - 8 * ((y 0).val / 8) + (y 1).val) % 256; omega
    exact e (mulf X Y)

/-- The distance of row and column plus 128, over a strip. -/
theorem dist_same : ∀ (b : Fin 8) (n : Fin 256), (BitVec.ofNat 32 b.val - BitVec.ofNat 32 n.val + 128#32).toInt = (b.val : ℤ) - n.val + 128 := by
  decide +kernel
theorem dist_prev : ∀ (b : Fin 8) (n : Fin 256), (BitVec.ofNat 32 b.val - BitVec.ofNat 32 n.val).toInt = (b.val : ℤ) - n.val := by
  decide +kernel

theorem rows_apply (z : S8x256.Idx) : iota .tc S8x256 32 [0] iota_S8x256_d0_w32 z = BitVec.ofNat 32 (z 0).val :=
  congrArg (BitVec.ofNat 32) (by show 0 * 8 + (z 0).val = _; omega)
theorem cols_apply (z : S8x256.Idx) : iota .tc S8x256 32 [1] iota_S8x256_d1_w32 z = BitVec.ofNat 32 (z 1).val :=
  congrArg (BitVec.ofNat 32) (by show 0 * 256 + (z 1).val = _; omega)

/-- The stack of the strip whose ladder runs over all the table: the entry of the distance plus 128. -/
theorem stack_same (L : ℕ → Elt F .f32) (y : S128x128.Idx) :
    k0_pay175 (ladder k0_pay49 L 256) k0_pay174 y = FloatOps.mulf (L (min 256 ((y 0).val + 128 - (y 1).val))) (Named.named κ "log2e" 0x3FB8AA3B#32) := by
  have h0 : (y 0).val < 128 := (y 0).isLt
  have h1 : (y 1).val < 128 := (y 1).isLt
  rw [stack_apply, ladder_apply _ _ _ _ le_rfl]
  have e' : (k0_pay49 (at8 ((y 0).val % 8) (128 - 8 * ((y 0).val / 8) + (y 1).val))).toInt = (y 0).val - (y 1).val := by
    refine (congrArg BitVec.toInt (congrArg₂ (fun p q => p - q + 128#32) (rows_apply _) (cols_apply _))).trans ((dist_same _ _).trans ?_)
    show (((y 0).val % 8 % 8 : ℕ) : ℤ) - ((128 - 8 * ((y 0).val / 8) + (y 1).val) % 256 : ℕ) + 128 = _
    omega
  rw [e']
  refine congrArg₂ _ (congrArg L ?_) rfl
  omega

/-- The stack of the strip of the tile before: its distances are all below 8. -/
theorem stack_prev (v : IVec S8x256 32) (hv : v = subi (iota .tc S8x256 32 [0] iota_S8x256_d0_w32) (iota .tc S8x256 32 [1] iota_S8x256_d1_w32)) (L : ℕ → Elt F .f32) (y : S128x128.Idx) :
    k0_pay175 (ladder v L 135) k0_pay174 y = FloatOps.mulf (L ((y 0).val - (y 1).val)) (Named.named κ "log2e" 0x3FB8AA3B#32) := by
  have h0 : (y 0).val < 128 := (y 0).isLt
  have h1 : (y 1).val < 128 := (y 1).isLt
  rw [stack_apply, ladder_apply _ _ _ _ (by omega)]
  have e' : (v (at8 ((y 0).val % 8) (128 - 8 * ((y 0).val / 8) + (y 1).val))).toInt = (y 0).val - (y 1).val - 128 := by
    rw [hv]
    refine (congrArg BitVec.toInt (congrArg₂ (fun p q => p - q) (rows_apply _) (cols_apply _))).trans ((dist_prev _ _).trans ?_)
    show (((y 0).val % 8 % 8 : ℕ) : ℤ) - ((128 - 8 * ((y 0).val / 8) + (y 1).val) % 256 : ℕ) = _
    omega
  rw [e']
  refine congrArg₂ _ (congrArg L ?_) rfl
  omega

/-- Row `r`, column `c` of the bias tile. -/
theorem bias_in (x : Vec F S8x257 .f32) (h r c d : ℕ) {a b : ℕ} (inb : ∀ k, (![a, b] : Fin 2 → ℕ) k + S128x128.size k ≤ S768x256.size k) (y : S128x128.Idx)
    (hr : a + (y 0).val = r) (hc : b + (y 1).val = c) (hm : c / 64 ≤ r / 64 ∧ r / 64 ≤ 8 + c / 64) (hf : ¬ r / 128 ≤ c / 128 + 2) (hd : d = min 256 (r - (c + 384))) :
    FloatOps.mulf (x (atT h d)) (Named.named κ "log2e" 0x3FB8AA3B#32) = biasOf x h ((Rect.unit (s := S768x256) ![a, b] S128x128.size inb).emb y) := by
  subst hr hc hd
  have e0 : ((Rect.unit (s := S768x256) ![a, b] S128x128.size inb).emb y 0).val = a + (y 0).val := by show a + 1 * (y 0).val = _; omega
  have e1 : ((Rect.unit (s := S768x256) ![a, b] S128x128.size inb).emb y 1).val = b + (y 1).val := by show b + 1 * (y 1).val = _; omega
  unfold biasOf
  rw [e0, e1, if_pos hm, if_neg hf]

theorem bias_far (x : Vec F S8x257 .f32) (h r c : ℕ) {a b : ℕ} (inb : ∀ k, (![a, b] : Fin 2 → ℕ) k + S128x128.size k ≤ S768x256.size k) (y : S128x128.Idx)
    (hr : a + (y 0).val = r) (hc : b + (y 1).val = c) (hm : c / 64 ≤ r / 64 ∧ r / 64 ≤ 8 + c / 64) (hf : r / 128 ≤ c / 128 + 2) :
    Scalar.mulf (x (atT h 0)) (Named.named κ "log2e" 0x3FB8AA3B#32) = biasOf x h ((Rect.unit (s := S768x256) ![a, b] S128x128.size inb).emb y) := by
  subst hr hc
  have e0 : ((Rect.unit (s := S768x256) ![a, b] S128x128.size inb).emb y 0).val = a + (y 0).val := by show a + 1 * (y 0).val = _; omega
  have e1 : ((Rect.unit (s := S768x256) ![a, b] S128x128.size inb).emb y 1).val = b + (y 1).val := by show b + 1 * (y 1).val = _; omega
  unfold biasOf
  rw [e0, e1, if_pos hm, if_pos hf]

theorem bias_out (x : Vec F S8x257 .f32) (h r c : ℕ) {a b : ℕ} (inb : ∀ k, (![a, b] : Fin 2 → ℕ) k + S128x128.size k ≤ S768x256.size k) (y : S128x128.Idx)
    (hr : a + (y 0).val = r) (hc : b + (y 1).val = c) (hm : ¬ (c / 64 ≤ r / 64 ∧ r / 64 ≤ 8 + c / 64)) :
    FloatOps.ofBits .f32 0xFF800000#32 = biasOf x h ((Rect.unit (s := S768x256) ![a, b] S128x128.size inb).emb y) := by
  subst hr hc
  have e0 : ((Rect.unit (s := S768x256) ![a, b] S128x128.size inb).emb y 0).val = a + (y 0).val := by show a + 1 * (y 0).val = _; omega
  have e1 : ((Rect.unit (s := S768x256) ![a, b] S128x128.size inb).emb y 1).val = b + (y 1).val := by show b + 1 * (y 1).val = _; omega
  unfold biasOf
  rw [e0, e1, if_neg hm]

theorem stored_apply (X : FVec F S128x128 .f32) (y : S128x128.Idx) : shapeCast S128x128 X shapeCasts_S128x128_S128x128 y = X y := by
  rw [shapeCast_self]

/-- A choice by the chunks of row and column. -/
theorem chunk_le {a b : BitVec 32} {m n : ℕ} (ha : a = BitVec.ofNat 32 m) (hb : b = BitVec.ofNat 32 n) (hm : m < 2) (hn : n < 2) {α : Type} (u w : α) :
    (if BitVec.ofBool (a.sle b) = 1 then u else w) = if m ≤ n then u else w := by
  subst ha hb
  have : ∀ m n : Fin 2, (BitVec.ofBool ((BitVec.ofNat 32 m.val).sle (BitVec.ofNat 32 n.val)) = 1) ↔ m.val ≤ n.val := by decide
  simp only [this ⟨m, hm⟩ ⟨n, hn⟩]

/-- The twelve squares of the bias tile, each of one of five kinds. -/
def squares (L D N P E : Vec F S128x128 .f32) : List (View.Piece (Elt F) S768x256 .f32) :=
  [⟨Rect.unit (s := S768x256) ![640, 128] S128x128.size inb_S768x256_S128x128_640_128, E⟩,
    ⟨Rect.unit (s := S768x256) ![640, 0] S128x128.size inb_S768x256_S128x128_640_0, N⟩,
    ⟨Rect.unit (s := S768x256) ![512, 128] S128x128.size inb_S768x256_S128x128_512_128, P⟩,
    ⟨Rect.unit (s := S768x256) ![512, 0] S128x128.size inb_S768x256_S128x128_512_0, E⟩,
    ⟨Rect.unit (s := S768x256) ![384, 128] S128x128.size inb_S768x256_S128x128_384_128, L⟩,
    ⟨Rect.unit (s := S768x256) ![384, 0] S128x128.size inb_S768x256_S128x128_384_0, P⟩,
    ⟨Rect.unit (s := S768x256) ![256, 128] S128x128.size inb_S768x256_S128x128_256_128, L⟩,
    ⟨Rect.unit (s := S768x256) ![256, 0] S128x128.size inb_S768x256_S128x128_256_0, L⟩,
    ⟨Rect.unit (s := S768x256) ![128, 128] S128x128.size inb_S768x256_S128x128_128_128, D⟩,
    ⟨Rect.unit (s := S768x256) ![128, 0] S128x128.size inb_S768x256_S128x128_128_0, L⟩,
    ⟨Rect.unit (s := S768x256) ![0, 128] S128x128.size inb_S768x256_S128x128_0_128, N⟩,
    ⟨Rect.unit (s := S768x256) ![0, 0] S128x128.size inb_S768x256_S128x128_0_0, D⟩]

theorem squares_cover (L D N P E : Vec F S128x128 .f32) (y : S768x256.Idx) : ∃ p ∈ squares L D N P E, y ∈ p.1.set :=
  View.cover_of_tiled (squares L D N P E) S128x128.size (by rfl) y

theorem squares_eq (x : Vec F S8x257 .f32) (h : ℕ) (L D N P E : Vec F S128x128 .f32)
    (hL : ∀ y, L y = Scalar.mulf (x (atT h 0)) (Named.named κ "log2e" 0x3FB8AA3B#32))
    (hD : ∀ y, D y = if (y 1).val / 64 ≤ (y 0).val / 64 then Scalar.mulf (x (atT h 0)) (Named.named κ "log2e" 0x3FB8AA3B#32) else FloatOps.ofBits .f32 0xFF800000#32)
    (hN : ∀ y, N y = FloatOps.ofBits .f32 0xFF800000#32)
    (hP : ∀ y, P y = FloatOps.mulf (x (atT h ((y 0).val - (y 1).val))) (Named.named κ "log2e" 0x3FB8AA3B#32))
    (hE : ∀ y, E y = if (y 0).val / 64 ≤ (y 1).val / 64 then FloatOps.mulf (x (atT h (min 256 ((y 0).val + 128 - (y 1).val)))) (Named.named κ "log2e" 0x3FB8AA3B#32) else FloatOps.ofBits .f32 0xFF800000#32) :
    View.canon (squares L D N P E) = biasOf x h := by
  funext z
  refine View.canon_apply_of_pieces (Val := Elt F) (e := .f32) (biasOf x h) _ ?_ _ (squares_cover _ _ _ _ _ _)
  unfold squares
  simp only [List.forall_mem_cons, List.not_mem_nil, false_imp_iff, implies_true, and_true]
  refine ⟨fun y => ?_, fun y => ?_, fun y => ?_, fun y => ?_, fun y => ?_, fun y => ?_, fun y => ?_, fun y => ?_, fun y => ?_, fun y => ?_, fun y => ?_, fun y => ?_⟩
  all_goals
    have h0 : (y 0).val < 128 := (y 0).isLt
    have h1 : (y 1).val < 128 := (y 1).isLt
  · refine (hE y).trans ?_
    by_cases hm : (y 0).val / 64 ≤ (y 1).val / 64
    · exact (if_pos hm).trans (bias_in x h (640 + (y 0).val) (128 + (y 1).val) _ inb_S768x256_S128x128_640_128 y rfl rfl (by omega) (by omega) (by omega))
    · exact (if_neg hm).trans (bias_out x h (640 + (y 0).val) (128 + (y 1).val) inb_S768x256_S128x128_640_128 y rfl rfl (by omega))
  · exact (hN y).trans (bias_out x h (640 + (y 0).val) (0 + (y 1).val) inb_S768x256_S128x128_640_0 y rfl rfl (by omega))
  · exact (hP y).trans (bias_in x h (512 + (y 0).val) (128 + (y 1).val) _ inb_S768x256_S128x128_512_128 y rfl rfl (by omega) (by omega) (by omega))
  · refine (hE y).trans ?_
    by_cases hm : (y 0).val / 64 ≤ (y 1).val / 64
    · exact (if_pos hm).trans (bias_in x h (512 + (y 0).val) (0 + (y 1).val) _ inb_S768x256_S128x128_512_0 y rfl rfl (by omega) (by omega) (by omega))
    · exact (if_neg hm).trans (bias_out x h (512 + (y 0).val) (0 + (y 1).val) inb_S768x256_S128x128_512_0 y rfl rfl (by omega))
  · exact (hL y).trans (bias_far x h (384 + (y 0).val) (128 + (y 1).val) inb_S768x256_S128x128_384_128 y rfl rfl (by omega) (by omega))
  · exact (hP y).trans (bias_in x h (384 + (y 0).val) (0 + (y 1).val) _ inb_S768x256_S128x128_384_0 y rfl rfl (by omega) (by omega) (by omega))
  · exact (hL y).trans (bias_far x h (256 + (y 0).val) (128 + (y 1).val) inb_S768x256_S128x128_256_128 y rfl rfl (by omega) (by omega))
  · exact (hL y).trans (bias_far x h (256 + (y 0).val) (0 + (y 1).val) inb_S768x256_S128x128_256_0 y rfl rfl (by omega) (by omega))
  · refine (hD y).trans ?_
    by_cases hm : (y 1).val / 64 ≤ (y 0).val / 64
    · exact (if_pos hm).trans (bias_far x h (128 + (y 0).val) (128 + (y 1).val) inb_S768x256_S128x128_128_128 y rfl rfl (by omega) (by omega))
    · exact (if_neg hm).trans (bias_out x h (128 + (y 0).val) (128 + (y 1).val) inb_S768x256_S128x128_128_128 y rfl rfl (by omega))
  · exact (hL y).trans (bias_far x h (128 + (y 0).val) (0 + (y 1).val) inb_S768x256_S128x128_128_0 y rfl rfl (by omega) (by omega))
  · exact (hN y).trans (bias_out x h (0 + (y 0).val) (128 + (y 1).val) inb_S768x256_S128x128_0_128 y rfl rfl (by omega))
  · refine (hD y).trans ?_
    by_cases hm : (y 1).val / 64 ≤ (y 0).val / 64
    · exact (if_pos hm).trans (bias_far x h (0 + (y 0).val) (0 + (y 1).val) inb_S768x256_S128x128_0_0 y rfl rfl (by omega) (by omega))
    · exact (if_neg hm).trans (bias_out x h (0 + (y 0).val) (0 + (y 1).val) inb_S768x256_S128x128_0_0 y rfl rfl (by omega))

end Cert.AttnB

end
-- ==== Proof.AttnB.Body.lean ====
module

public import proofs.«01_k».proof.Proof.AttnB.Bias

/-! The band attention's body, run at one head: what it leaves in the result's block. -/

@[expose] public section

set_option maxRecDepth 16384

noncomputable section

namespace Cert.AttnB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- `n` rows of the bias from row `r` on. -/
def biasRows (n r : ℕ) (B : Vec F S768x256 .f32) : Vec F ⟨2, ![n, 256]⟩ .f32 :=
  fun y => B (fun a => match a with | 0 => Fin.ofNat 768 (r + (y 0).val) | 1 => y 1)

/-- Chunk `g`'s tile: the first two chunks see fewer keys. -/
def tiles (q : Vec F S1x8192x128 .f32) (K : Vec F S8192x128 .bf16) (V : Vec F S32x128x256 .bf16) (B : Vec F S768x256 .f32) : ℕ → Vec F S256x128 .f32
  | 0 => k0_pay199 (k0_pay195 (k0_pay194 (rows256 q 0)) (Named.named κ "scale_log2e" 0x3E0293EE#32) (keys 256 K 0)) (biasRows 256 512 B) (vals V 0)
  | 1 => k0_pay202 (k0_pay196 (rows256 q 1) (keys 512 K 0)) (biasRows 512 256 B) (vals V 0) (vals V 1)
  | g + 2 => fin (sc q K (g + 2)) B V (g + 2)

theorem load_bias (n r : ℕ) {sp : Space} (v : View sig .tc sp S768x256 .f32) (L : List (View.Piece (Elt F) S768x256 .f32)) {off : Fin 2 → ℕ} (inb : ∀ a, off a + (![n, 256] : Fin 2 → ℕ) a ≤ S768x256.size a)
    (h : off = ![r, 0]) {B : Vec F S768x256 .f32} (hB : v.read (Elt F) (v.writes (Elt F) v.junk L) = B) :
    v.readCov L (Rect.unit (s := S768x256) off ![n, 256] inb).toLoadRect = biasRows n r B := by
  subst h hB
  have hb : r + n ≤ 768 := inb 0
  funext y
  refine congrArg (v.read (Elt F) (v.writes (Elt F) v.junk L)) (funext fun a => Fin.ext ?_)
  have h0 : (y 0).val < n := (y 0).isLt
  match a with
  | 0 => show r + 1 * (y 0).val = (r + (y 0).val) % 768; omega
  | 1 => show 0 + 1 * (y 1).val = (y 1).val; omega

/-- Rows stored, loaded back. -/
theorem load_stored {n r : ℕ} {sp : Space} (v : View sig .tc sp S768x256 .f32) (inb : ∀ a, (![r, 0] : Fin 2 → ℕ) a + (![n, 256] : Fin 2 → ℕ) a ≤ S768x256.size a)
    (w : Vec F ⟨2, ![n, 256]⟩ .f32) (L : List (View.Piece (Elt F) S768x256 .f32)) :
    v.readCov (⟨Rect.unit (s := S768x256) ![r, 0] ![n, 256] inb, w⟩ :: L) (Rect.unit (s := S768x256) ![r, 0] ![n, 256] inb).toLoadRect = w := by
  funext y
  exact View.read_writes_cons_emb v v.junk (Rect.unit (s := S768x256) ![r, 0] ![n, 256] inb) w L y

theorem load_bias_whole {sp : Space} (v : View sig .tc sp S768x256 .f32) (L : List (View.Piece (Elt F) S768x256 .f32)) {B : Vec F S768x256 .f32} (hB : v.read (Elt F) (v.writes (Elt F) v.junk L) = B) :
    v.readCov L (Rect.unit (s := S768x256) ![0, 0] S768x256.size inb_S768x256_S768x256_0_0).toLoadRect = B :=
  (View.readAt_full v _ _).trans hB

theorem sc0_of {x : Vec F S1x256x128 .f32} {y : Vec F S256x128 .bf16} {q : Vec F S1x8192x128 .f32} {K : Vec F S8192x128 .bf16} (hx : x = rows256 q 0) (hy : y = keys 256 K 0) :
    k0_pay195 (k0_pay194 x) (Named.named κ "scale_log2e" 0x3E0293EE#32) y = k0_pay195 (k0_pay194 (rows256 q 0)) (Named.named κ "scale_log2e" 0x3E0293EE#32) (keys 256 K 0) := by
  subst hx hy; rfl
theorem sc1_of {x : Vec F S1x256x128 .f32} {y : Vec F S512x128 .bf16} {q : Vec F S1x8192x128 .f32} {K : Vec F S8192x128 .bf16} (hx : x = rows256 q 1) (hy : y = keys 512 K 0) :
    k0_pay196 x y = k0_pay196 (rows256 q 1) (keys 512 K 0) := by
  subst hx hy; rfl
theorem fin0_of {X Y : Vec F S256x256 .f32} {v : Vec F S1x128x256 .bf16} {q : Vec F S1x8192x128 .f32} {K : Vec F S8192x128 .bf16} {V : Vec F S32x128x256 .bf16} {B : Vec F S768x256 .f32}
    (hX : X = k0_pay195 (k0_pay194 (rows256 q 0)) (Named.named κ "scale_log2e" 0x3E0293EE#32) (keys 256 K 0)) (hY : Y = biasRows 256 512 B) (h0 : v = vals V 0) :
    k0_pay199 X Y v = tiles q K V B 0 := by
  subst hX hY h0; rfl
theorem fin1_of {X Y : Vec F S512x256 .f32} {v w : Vec F S1x128x256 .bf16} {q : Vec F S1x8192x128 .f32} {K : Vec F S8192x128 .bf16} {V : Vec F S32x128x256 .bf16} {B : Vec F S768x256 .f32}
    (hX : X = k0_pay196 (rows256 q 1) (keys 512 K 0)) (hY : Y = biasRows 512 256 B) (h0 : v = vals V 0) (h1 : w = vals V 1) :
    k0_pay202 X Y v w = tiles q K V B 1 := by
  subst hX hY h0 h1; rfl

variable (c : Dev nD) (i : grid0.Coords) (arg1 : Memref sig .tc .smem S8x257 .f32) (harg1 : arg1.IsWhole) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole)
    (arg5 : Memref sig .tc .vmem S8192x128 .f32) (harg5 : arg5.IsWhole) (arg6 : Memref sig .tc .vmem S8192x128 .bf16) (harg6 : arg6.IsWhole) (arg7 : Memref sig .tc .vmem S32x128x256 .bf16) (harg7 : arg7.IsWhole) (arg8 : Memref sig .tc .vmem S768x256 .f32) (harg8 : arg8.IsWhole)
    (arg9 : Memref sig .tc .vmem S768x256 .f32) (harg9 : arg9.IsWhole) (arg10 : Memref sig .tc .vmem S768x256 .f32) (harg10 : arg10.IsWhole) (arg11 : Memref sig .tc .vmem S768x256 .f32) (harg11 : arg11.IsWhole) (arg12 : Memref sig .tc .vmem S768x256 .f32) (harg12 : arg12.IsWhole)

set_option maxHeartbeats 16000000 in
/-- The body's run at one head. -/
theorem bodyRun (f1 : BufTy.Contents (Elt F) arg1.view.ty) : ∀ (f2 : BufTy.Contents (Elt F) arg2.view.ty) (f3 : BufTy.Contents (Elt F) arg3.view.ty) (f4 : BufTy.Contents (Elt F) arg4.view.ty)
      (f5 : BufTy.Contents (Elt F) arg5.view.ty) (f6 : BufTy.Contents (Elt F) arg6.view.ty) (f7 : BufTy.Contents (Elt F) arg7.view.ty) (f8 : BufTy.Contents (Elt F) arg8.view.ty)
      (f9 : BufTy.Contents (Elt F) arg9.view.ty) (f10 : BufTy.Contents (Elt F) arg10.view.ty) (f11 : BufTy.Contents (Elt F) arg11.view.ty) (f12 : BufTy.Contents (Elt F) arg12.view.ty)
      (E : Set ℕ) (K : PUnit → sProp 𝕄),
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
      ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
          ∗ (∃ g, (arg5.view.loc (c : Thread nD τ) ↦[arg5.view.set]{fullShare} g) ∗ ⌜arg5.view.read (Elt F) g = ofTiles (tiles (arg2.view.read (Elt F) f2) (keptK (arg3.view.read (Elt F) f3)) (keptV (arg4.view.read (Elt F) f4)) (biasOf (arg1.view.read (Elt F) f1) (i 0).val))⌝)
          ∗ (∃ g, (arg6.view.loc (c : Thread nD τ) ↦[arg6.view.set]{fullShare} g)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ K ⟨⟩))
    ⊢ wp frame (wpE (defs₀ (F := F)) Variants.none (c : Thread nD τ) none) E (cc0_attn_b_prompt i arg1 harg1 arg2 harg2 arg3 harg3 arg4 harg4 arg5 harg5 arg6 harg6 arg7 harg7 arg8 harg8 arg9 harg9 arg10 harg10 arg11 harg11 arg12 harg12) K := by
  intro f2 f3 f4 f5 f6 f7 f8 f9 f10 f11 f12 E K
  sl_unfold [cc0_attn_b_prompt]
  iintro ⟨H1, H2, H3, H4, H5, H6, H7, H8, H9, H10, H11, H12, Hk⟩
  sl_exec
  iapply (Scf.wp_for_bind _ _ _ _ _ _ _ _ _ (inv1 c arg3 arg4 arg6 arg7 f3 f4) (step1 c i arg1 harg1 arg2 harg2 arg3 harg3 arg4 harg4 arg5 harg5 arg6 harg6 arg7 harg7 arg8 harg8 arg9 harg9 arg10 harg10 arg11 harg11 arg12 harg12 f3 f4 E)) $$ [H3 H4 H6 H7]
  · unfold inv1
    isplitl [H3]; · iexact H3
    isplitl [H4]; · iexact H4
    isplitl [H6]
    · iexists _; isplitl [H6]; · iexact H6
      ipureintro; intro y hy; exact absurd hy (Nat.not_lt_zero _)
    iexists _; isplitl [H7]; · iexact H7
    ipureintro; intro y hy; exact absurd hy (Nat.not_lt_zero _)
  iintro %acc HI
  unfold inv1
  icases HI with ⟨H3, H4, ⟨%g6, H6, %h6⟩, ⟨%g7, H7, %h7⟩⟩
  replace h6 : arg6.view.read (Elt F) g6 = keptK (arg3.view.read (Elt F) f3) := funext fun y => h6 y (y 0).isLt
  replace h7 : arg7.view.read (Elt F) g7 = keptV (arg4.view.read (Elt F) f4) := funext fun y => h7 y (y 0).isLt
  rw [← h6, ← h7]
  clear h6 h7
  sl_exec
  have hB : arg8.view.read (Elt F) (arg8.view.writes (Elt F) arg8.view.junk (bodyRun.sl.H8_12 i arg1 f1)) = biasOf (arg1.view.read (Elt F) f1) (i 0).val := by
    have hP : bodyRun.sl.v2402 i arg1 f1 = k0_pay175 (ladder (subi (iota .tc S8x256 32 [0] iota_S8x256_d0_w32) (iota .tc S8x256 32 [1] iota_S8x256_d1_w32)) (entry i arg1.view f1) 135) k0_pay174 := by rfl
    have hS : bodyRun.sl.r_259 i arg1 f1 = k0_pay175 (ladder k0_pay49 (entry i arg1.view f1) 256) k0_pay174 := by rfl
    have hr : ∀ r : Fin 128, bodyRun.sl.v2427 (ix2 r 0) = BitVec.ofNat 32 (r.val / 64) := by decide +kernel
    have hc : ∀ r : Fin 128, bodyRun.sl.v2451 (ix2 0 r) = BitVec.ofNat 32 (r.val / 64) := by decide +kernel
    have hr' : ∀ y : S128x128.Idx, bodyRun.sl.v2427 y = BitVec.ofNat 32 ((y 0).val / 64) := fun y => hr (y 0)
    have hc' : ∀ y : S128x128.Idx, bodyRun.sl.v2451 y = BitVec.ofNat 32 ((y 1).val / 64) := fun y => hc (y 1)
    refine (View.read_writes_eq_canon _ _ _ (squares_cover (bodyRun.sl.v2463 i arg1 f1) (bodyRun.sl.v2457 i arg1 f1) bodyRun.sl.v2460
      (k0_pay188 (bodyRun.sl.v2402 i arg1 f1)) (k0_pay193 (bodyRun.sl.r_259 i arg1 f1) bodyRun.sl.v2427 bodyRun.sl.v2451))).trans
      (squares_eq _ _ _ _ _ _ _ (fun y => ?_) (fun y => ?_) (fun y => ?_) (fun y => ?_) (fun y => ?_))
    · refine (stored_apply _ y).trans ?_
      rw [← entry_eq]
      rfl
    · refine (stored_apply _ y).trans ?_
      have h0 : (y 0).val < 128 := (y 0).isLt
      have h1 : (y 1).val < 128 := (y 1).isLt
      refine (chunk_le (hc' y) (hr' y) (by omega) (by omega) _ _).trans ?_
      rw [← entry_eq]
      rfl
    · exact stored_apply _ y
    · refine (stored_apply (bodyRun.sl.v2402 i arg1 f1) y).trans ?_
      rw [hP, stack_prev _ rfl, entry_eq]
    · refine (stored_apply (select (cmpi .sle bodyRun.sl.v2427 bodyRun.sl.v2451) (bodyRun.sl.r_259 i arg1 f1) bodyRun.sl.v2403) y).trans ?_
      have h0 : (y 0).val < 128 := (y 0).isLt
      have h1 : (y 1).val < 128 := (y 1).isLt
      refine (chunk_le (hr' y) (hc' y) (by omega) (by omega) _ _).trans ?_
      rw [hS, stack_same, entry_eq]
      rfl
  iapply (Scf.wp_for_bind _ _ _ _ _ _ _ _ _ (inv2 c arg2 arg5 arg6 arg7 arg8 arg9 arg10 arg11 arg12 (tiles (arg2.view.read (Elt F) f2) (arg6.view.read (Elt F) g6) (arg7.view.read (Elt F) g7) (biasOf (arg1.view.read (Elt F) f1) (i 0).val)) f2 g6 g7 (arg8.view.writes (Elt F) arg8.view.junk (bodyRun.sl.H8_12 i arg1 f1)))
    (step2 c i arg1 harg1 arg2 harg2 arg3 harg3 arg4 harg4 arg5 harg5 arg6 harg6 arg7 harg7 arg8 harg8 arg9 harg9 arg10 harg10 arg11 harg11 arg12 harg12 _ _ _ _ _ f2 g6 g7 (arg8.view.writes (Elt F) arg8.view.junk (bodyRun.sl.H8_12 i arg1 f1)) (fun g hg => by obtain ⟨n, rfl⟩ := Nat.exists_eq_add_of_le' hg; rw [hB]; rfl) E)) $$ [H2 H5 H6 H7 H8 H9 H10 H11 H12]
  · unfold inv2
    isplitl [H2]; · iexact H2
    isplitl [H6]; · iexact H6
    isplitl [H7]; · iexact H7
    isplitl [H8]; · iexact H8
    isplitl [H5]
    · iexists _; isplitl [H5]; · iexact H5
      ipureintro
      refine held_tile _ _ _ _ _ _ 3 rfl ?_ (held_tile _ _ _ _ _ _ 2 rfl ?_ (held_tile _ _ _ _ _ _ 1 rfl ?_ (held_tile _ _ _ _ _ [] 0 rfl ?_ (fun y hy => absurd hy (Nat.not_lt_zero _)))))
      · exact fin_of (load_whole _ _ _ (sc_of (load_rows _ _ _ 3 rfl) (load_keys 768 _ _ _ 1 rfl))) (load_bias_whole _ _ hB) (load_vals _ _ _ 1 rfl) (load_vals _ _ _ 2 rfl) (load_vals _ _ _ 3 rfl)
      · exact fin_of (load_whole _ _ _ (sc_of (load_rows _ _ _ 2 rfl) (load_keys 768 _ _ _ 0 rfl))) (load_bias_whole _ _ hB) (load_vals _ _ _ 0 rfl) (load_vals _ _ _ 1 rfl) (load_vals _ _ _ 2 rfl)
      · exact fin1_of (load_stored _ _ _ _ |>.trans (sc1_of (load_rows _ _ _ 1 rfl) (load_keys 512 _ _ _ 0 rfl))) (load_bias 512 256 _ _ _ rfl hB) (load_vals _ _ _ 0 rfl) (load_vals _ _ _ 1 rfl)
      · exact fin0_of (load_stored _ _ _ _ |>.trans (sc0_of (load_rows _ _ _ 0 rfl) (load_keys 256 _ _ _ 0 rfl))) (load_bias 256 512 _ _ _ rfl hB) (load_vals _ _ _ 0 rfl)
    isplitl [H9]
    · iexists _; isplitl [H9]; · iexact H9
      ipureintro
      sl_unfold_words
      exact (View.read_writes_full _ _ _ _ _).trans (sc_of (load_rows _ _ _ 4 rfl) (load_keys 768 _ _ _ 2 rfl))
    isplitl [H10]
    · iexists _; isplitl [H10]; · iexact H10
      ipureintro
      sl_unfold_words
      exact (View.read_writes_full _ _ _ _ _).trans (sc_of (load_rows _ _ _ 5 rfl) (load_keys 768 _ _ _ 3 rfl))
    isplitl [H11]
    · iexists _; iexact H11
    iexists _; iexact H12
  iintro %acc HI
  unfold inv2
  icases HI with ⟨H2, H6, H7, H8, ⟨%g5, H5, %h5⟩, ⟨%g9, H9, %h9⟩, ⟨%g10, H10, %h10⟩, ⟨%g11, H11⟩, ⟨%g12, H12⟩⟩
  have ht : Scf.trips k0_t2_loop.lb k0_t2_loop.ub k0_t2_loop.st = 3 := by decide
  rw [ht] at h5 h9 h10
  sl_exec
  sl_step
  iapply Hk
  isplitl [H1]; · iexact H1
  isplitl [H2]; · iexact H2
  isplitl [H3]; · iexact H3
  isplitl [H4]; · iexact H4
  isplitl [H5]
  · iexists _; isplitl [H5]; · iexact H5
    ipureintro
    refine funext fun y => held_tile _ _ _ _ _ _ 31 rfl ?_ (held_tile _ _ _ _ _ _ 30 rfl ?_ (held_tile _ _ _ _ _ _ 29 rfl ?_ (held_tile _ _ _ _ _ [] 28 rfl ?_ h5))) y (y 0).isLt
    · exact fin_of (load_whole _ _ _ (sc_of (load_rows _ _ _ 31 rfl) (load_keys 768 _ _ _ 29 rfl))) ((View.readAt_full _ _ _).trans hB) (load_vals _ _ _ 29 rfl) (load_vals _ _ _ 30 rfl) (load_vals _ _ _ 31 rfl)
    · exact fin_of (load_whole _ _ _ (sc_of (load_rows _ _ _ 30 rfl) (load_keys 768 _ _ _ 28 rfl))) ((View.readAt_full _ _ _).trans hB) (load_vals _ _ _ 28 rfl) (load_vals _ _ _ 29 rfl) (load_vals _ _ _ 30 rfl)
    · exact fin_of ((View.readAt_full _ _ _).trans h10) ((View.readAt_full _ _ _).trans hB) (load_vals _ _ _ 27 rfl) (load_vals _ _ _ 28 rfl) (load_vals _ _ _ 29 rfl)
    · exact fin_of ((View.readAt_full _ _ _).trans h9) ((View.readAt_full _ _ _).trans hB) (load_vals _ _ _ 26 rfl) (load_vals _ _ _ 27 rfl) (load_vals _ _ _ 28 rfl)
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.AttnB

end
-- ==== Proof.AttnB.Frame.lean ====
module

public import proofs.«01_k».proof.Proof.AttnB.Body
public import Idealize.ShloMosaic.Lib.Pipeline.TableIdle
public import Idealize.ShloMosaic.Lib.Claim

/-! The band attention as a pipeline of eight heads: what every buffer holds after every head, and the run. -/

@[expose] public section

set_option maxRecDepth 16384

noncomputable section

namespace Cert.AttnB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev st0 (t : Fin cfg0.N) : Memref sig .tc .smem S8x257 .f32 := win0_0.stage (cfg0.slots t 0)
abbrev st1 (t : Fin cfg0.N) : Memref sig .tc .vmem S1x8192x128 .f32 := win0_1.stage (cfg0.slots t 1)
abbrev st2 (t : Fin cfg0.N) : Memref sig .tc .vmem S1x8192x128 .f32 := win0_2.stage (cfg0.slots t 2)
abbrev st3 (t : Fin cfg0.N) : Memref sig .tc .vmem S1x8192x128 .f32 := win0_3.stage (cfg0.slots t 3)
abbrev st4 (t : Fin cfg0.N) : Memref sig .tc .vmem S8192x128 .f32 := win0_4.stage (cfg0.slots t 4)

/-- What head `t` leaves in its block of the result. -/
def outO (c : Dev nD) (t : Fin cfg0.N) : Vec F S8192x128 .f32 :=
  ofTiles (tiles (iblk m c 1 t) (keptK (iblk m c 2 t)) (keptV (iblk m c 3 t)) (biasOf (iblk m c 0 t) (grid0.coords t 0).val))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outO m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem leaves (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- The scratch at any contents, each buffer owned as a memref. -/
theorem scratch_eq (c : Dev nD) : (Pipeline.ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d) ∗ (∃ d, owns (c : Thread nD τ) (Memref.whole cc0_scratch4) fullShare d)
    ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- The body at any head. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, scratch_eq]
  rw [leaves m c 0 t rfl, leaves m c 1 t rfl, leaves m c 2 t rfl, leaves m c 3 t rfl, leaves m c 4 t rfl, after0, after1, after2, after3, after4]
  unfold outO owns
  iintro ⟨⟨⟨⟨%d6, %f6, -, S6⟩, ⟨%d7, %f7, -, S7⟩, ⟨%d8, %f8, -, S8⟩, ⟨%d9, %f9, -, S9⟩, ⟨%d10, %f10, -, S10⟩, ⟨%d11, %f11, -, S11⟩, ⟨%d12, %f12, -, S12⟩⟩, Hg⟩, Ho, ⟨%d1, %f1, %e1, H1⟩, ⟨%d2, %f2, %e2, H2⟩, ⟨%d3, %f3, %e3, H3⟩, ⟨%d4, %f4, %e4, H4⟩, ⟨%d5, %f5, -, H5⟩⟩
  iapply (bodyRun c (grid0.coords t) _ _ _ _ _ _ _ _ _ _ _ _ _ _ _ _ _ _ _ _ _ _ _ _ f1 f2 f3 f4 f5 f6 f7 f8 f9 f10 f11 f12 Set.univ _)
  isplitl [H1]; · iexact H1
  isplitl [H2]; · iexact H2
  isplitl [H3]; · iexact H3
  isplitl [H4]; · iexact H4
  isplitl [H5]; · iexact H5
  isplitl [S6]; · iexact S6
  isplitl [S7]; · iexact S7
  isplitl [S8]; · iexact S8
  isplitl [S9]; · iexact S9
  isplitl [S10]; · iexact S10
  isplitl [S11]; · iexact S11
  isplitl [S12]; · iexact S12
  iintro ⟨H1, H2, H3, H4, ⟨%g5, H5, %e5⟩, ⟨%g6, S6⟩, ⟨%g7, S7⟩, ⟨%g8, S8⟩, ⟨%g9, S9⟩, ⟨%g10, S10⟩, ⟨%g11, S11⟩, ⟨%g12, S12⟩⟩
  rw [e1, e2, e3, e4] at e5
  isplitl [S6 S7 S8 S9 S10 S11 S12 Hg]
  · isplitr [Hg]
    · isplitl [S6]; · iexists _; iexists g6; isplitr; · ipureintro; rfl
                      iexact S6
      isplitl [S7]; · iexists _; iexists g7; isplitr; · ipureintro; rfl
                      iexact S7
      isplitl [S8]; · iexists _; iexists g8; isplitr; · ipureintro; rfl
                      iexact S8
      isplitl [S9]; · iexists _; iexists g9; isplitr; · ipureintro; rfl
                      iexact S9
      isplitl [S10]; · iexists _; iexists g10; isplitr; · ipureintro; rfl
                       iexact S10
      isplitl [S11]; · iexists _; iexists g11; isplitr; · ipureintro; rfl
                       iexact S11
      iexists _; iexists g12; isplitr; · ipureintro; rfl
      iexact S12
    iexact Hg
  isplitl [Ho]; · iexact Ho
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists g5; isplitr; · ipureintro; exact e5
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments as they were and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.AttnB

end
-- ==== Proof.AttnB.Soft.lean ====
module

public import Idealize.ShloMosaic.PureOps.Ideal
public import Mathlib.Analysis.SpecialFunctions.Log.Basic
public import Mathlib.Analysis.SpecialFunctions.Pow.Real

/-! The masked softmax over the extended reals, in the two ways the programs compute it, as one real number. -/

@[expose] public section

noncomputable section

namespace Cert.AttnB

open Idealize.ShloMosaic

/-- The word the programs write for minus infinity. -/
theorem least : Ideal.ofBits .f32 4286578688#32 = ⊥ := by simp [Ideal.ofBits, Ideal.ieee]

/-- A masked score: the score where the mask allows it, minus infinity elsewhere. -/
def win {n : ℕ} (a : Fin n → Prop) [DecidablePred a] (s : Fin n → ℝ) (k : Fin n) : EReal := if a k then (s k : EReal) else ⊥

/-- The softmax of the masked scores `s`, applied to `v`. -/
def soft {n : ℕ} (a : Fin n → Prop) [DecidablePred a] (s v : Fin n → ℝ) : ℝ :=
  (∑ k, if a k then v k * Real.exp (s k) else 0) / ∑ k, if a k then Real.exp (s k) else 0

variable {n : ℕ} (a : Fin n → Prop) [DecidablePred a] (s v : Fin n → ℝ)

theorem coe_sum {ι : Type*} (S : Finset ι) (f : ι → ℝ) : ((∑ k ∈ S, f k : ℝ) : EReal) = ∑ k ∈ S, (f k : EReal) := by
  classical
  induction S using Finset.induction_on with
  | empty => simp
  | insert i S hi ih => rw [Finset.sum_insert hi, Finset.sum_insert hi, EReal.coe_add, ih]

/-- The largest masked score is a real number where the mask allows any. -/
theorem top_real (h : ∃ k, a k) : ∃ μ : ℝ, Finset.fold max (⊥ : EReal) (win a s) Finset.univ = μ := by
  obtain ⟨k, hk⟩ := h
  refine ⟨EReal.toReal (Finset.fold max (⊥ : EReal) (win a s) Finset.univ), (EReal.coe_toReal ?_ ?_).symm⟩
  · refine ne_of_lt (Finset.fold_max_lt _ |>.2 ⟨bot_lt_top, fun j _ => ?_⟩)
    unfold win
    split
    · exact EReal.coe_lt_top _
    · exact bot_lt_top
  · have h1 : (s k : EReal) ≤ Finset.fold max (⊥ : EReal) (win a s) Finset.univ :=
      (Finset.le_fold_max _).2 (Or.inr ⟨k, Finset.mem_univ _, by unfold win; rw [if_pos hk]⟩)
    exact fun h2 => absurd (h2 ▸ h1) (not_le.2 (EReal.bot_lt_coe _))

theorem exp_win (μ : ℝ) (k : Fin n) :
    Ideal.exp (win a s k - μ) = (((if a k then Real.exp (s k) else 0) * Real.exp (-μ) : ℝ) : EReal) := by
  unfold win
  split
  · rw [← EReal.coe_sub, Ideal.exp_coe, ← Real.exp_add, sub_eq_add_neg]
  · rw [EReal.bot_sub, Ideal.exp_bot, zero_mul, EReal.coe_zero]

theorem exp2_win (μ : ℝ) (k : Fin n) :
    Ideal.exp2 (win a (fun j => s j * (Real.log 2)⁻¹) k - μ)
      = (((if a k then Real.exp (s k) else 0) * Real.exp (-(μ * Real.log 2)) : ℝ) : EReal) := by
  have h2 : Real.log 2 ≠ 0 := ne_of_gt (Real.log_pos (by norm_num))
  unfold win
  split
  · rw [← EReal.coe_sub, Ideal.exp2_coe, ← Real.exp_add]
    congr 1
    show (2 : ℝ) ^ (s k * (Real.log 2)⁻¹ - μ) = _
    rw [Real.rpow_def_of_pos (by norm_num)]
    congr 1
    field_simp
    ring
  · rw [EReal.bot_sub, Ideal.exp2_bot, zero_mul, EReal.coe_zero]

theorem weights_pos (h : ∃ k, a k) : 0 < ∑ k, if a k then Real.exp (s k) else 0 := by
  obtain ⟨k, hk⟩ := h
  refine Finset.sum_pos' (fun j _ => ?_) ⟨k, Finset.mem_univ _, by rw [if_pos hk]; exact Real.exp_pos _⟩
  split
  · exact (Real.exp_pos _).le
  · exact le_rfl

/-- The reference's softmax: every weight divided by the sum, then the products summed. -/
theorem soft_ref (h : ∃ k, a k) (S V : Fin n → EReal) (hS : ∀ k, S k = win a s k) (hV : ∀ k, V k = v k) (μ : ℝ) :
    ∑ k, V k * Ideal.div (Ideal.exp (S k - μ)) (∑ j, Ideal.exp (S j - μ)) = soft a s v := by
  have hp := weights_pos a s h
  have he := Real.exp_pos (-μ)
  simp only [hS, hV, exp_win, ← coe_sum, ← Finset.sum_mul]
  have hd : ∀ x : ℝ, Ideal.div x (((∑ k, if a k then Real.exp (s k) else 0) * Real.exp (-μ) : ℝ) : EReal)
      = ((x / ((∑ k, if a k then Real.exp (s k) else 0) * Real.exp (-μ)) : ℝ) : EReal) :=
    fun x => by rw [Ideal.div_coe (ne_of_gt (mul_pos hp he)), ← EReal.coe_mul, mul_one_div]
  simp only [hd, ← EReal.coe_mul, ← coe_sum]
  congr 1
  unfold soft
  rw [Finset.sum_div]
  refine Finset.sum_congr rfl fun k _ => ?_
  rw [mul_div_mul_right _ _ (ne_of_gt he)]
  split <;> ring

/-- The kernel's softmax in base 2: the products summed, then one product with the reciprocal of the sum. -/
theorem soft_ker (h : ∃ k, a k) (S V : Fin n → EReal) (hS : ∀ k, S k = win a (fun j => s j * (Real.log 2)⁻¹) k)
    (hV : ∀ k, V k = v k) (μ : ℝ) :
    (∑ k, V k * Ideal.exp2 (S k - μ)) * Ideal.div 1 (∑ j, Ideal.exp2 (S j - μ)) = soft a s v := by
  have hp := weights_pos a s h
  have he := Real.exp_pos (-(μ * Real.log 2))
  simp only [hS, hV, exp2_win, ← coe_sum, ← Finset.sum_mul, ← EReal.coe_mul]
  rw [Ideal.div_coe (ne_of_gt (mul_pos hp he)), one_mul, ← EReal.coe_mul]
  congr 1
  unfold soft
  rw [show (∑ k, v k * ((if a k then Real.exp (s k) else 0) * Real.exp (-(μ * Real.log 2))))
      = (∑ k, if a k then v k * Real.exp (s k) else 0) * Real.exp (-(μ * Real.log 2)) from by
    rw [Finset.sum_mul]
    refine Finset.sum_congr rfl fun k _ => ?_
    split <;> ring]
  field_simp

/-- A softmax whose mask lies in a window is the softmax over the window. -/
theorem soft_window {N : ℕ} (A : Fin N → Prop) [DecidablePred A] (S V : Fin N → ℝ) (e : Fin n → Fin N)
    (he : Function.Injective e) (hA : ∀ k, A k → ∃ r, e r = k) (ha : ∀ r, a r ↔ A (e r))
    (hs : ∀ r, A (e r) → s r = S (e r)) (hv : ∀ r, v r = V (e r)) : soft a s v = soft A S V := by
  unfold soft
  congr 1 <;>
  · refine Finset.sum_of_injOn e he.injOn (fun _ _ => Finset.mem_coe.2 (Finset.mem_univ _)) (fun k _ hk => ?_) fun r _ => ?_
    · rw [if_neg]
      intro h
      obtain ⟨r, rfl⟩ := hA k h
      exact hk ⟨r, Finset.mem_coe.2 (Finset.mem_univ _), rfl⟩
    · by_cases h : A (e r)
      · rw [if_pos h, if_pos ((ha r).2 h)]; simp only [hs r h, hv r]
      · rw [if_neg h, if_neg fun q => h ((ha r).1 q)]

end Cert.AttnB
end
-- ==== Proof.AttnB.Band.lean ====
module

public import proofs.«01_k».proof.Proof.AttnB.Soft

/-! One head's attention over a band of chunks, as real numbers, and the window of keys in which a chunk of queries
finds its band. -/

@[expose] public section

noncomputable section

namespace Cert.AttnB

open Idealize.ShloMosaic

/-- Query `s` sees key `k`: `k`'s chunk of 64 is `s`'s or one of the eight before. -/
def sees (s k : Fin 8192) : Prop := k.val / 64 ≤ s.val / 64 ∧ s.val / 64 ≤ k.val / 64 + 8

instance (s : Fin 8192) : DecidablePred (sees s) := fun k => inferInstanceAs (Decidable (_ ∧ _))

/-- The place in the bias table: the key's position less the query's, cut off at 128 either way, plus 128. -/
def place257 (s k : Fin 8192) : Fin 257 := ⟨min 256 (k.val + 128 - s.val), by omega⟩

/-- The score of query `s` and key `k`. -/
def score (q k : Fin 8192 → Fin 128 → ℝ) (b : Fin 257 → ℝ) (s j : Fin 8192) : ℝ :=
  (∑ d, q s d * k j d) * (Real.sqrt 128)⁻¹ + b (place257 s j)

/-- One head's attention. -/
def band (q k v : Fin 8192 → Fin 128 → ℝ) (b : Fin 257 → ℝ) (s : Fin 8192) (d : Fin 128) : ℝ :=
  soft (sees s) (score q k b s) fun j => v j d

/-- Chunk `g`'s result over a window of `n` keys that ends with chunk `g`: the scores `S` in base 2 without the
bias, the bias `B` of the window, which starts at the bias's row `o`. -/
theorem window_band (q k v : Fin 8192 → Fin 128 → ℝ) (b : Fin 257 → ℝ) {n : ℕ} (g k0 o : ℕ) (hg : g < 32)
    (hk : k0 = 256 * (g - 2)) (hn : k0 + n = 256 * (g + 1)) (ho : o + 256 * g = k0 + 512) (c : Fin 256) (d : Fin 128)
    (S B V : Fin n → EReal)
    (hS : ∀ r : Fin n, S r = ∑ x, (k ⟨k0 + r.val, by omega⟩ x : EReal) * ((q ⟨256 * g + c.val, by omega⟩ x : EReal) * (((Real.sqrt 128)⁻¹ * (Real.log 2)⁻¹ : ℝ) : EReal)))
    (hB : ∀ r : Fin n, B r = if c.val / 64 ≤ (o + r.val) / 64 ∧ (o + r.val) / 64 ≤ 8 + c.val / 64
      then ((b ⟨min 256 (o + r.val - (c.val + 384)), by omega⟩ * (Real.log 2)⁻¹ : ℝ) : EReal) else ⊥)
    (hV : ∀ r : Fin n, V r = (v ⟨k0 + r.val, by omega⟩ d : EReal)) :
    (∑ r, V r * Ideal.exp2 (S r + B r - Finset.fold max (⊥ : EReal) (fun x => S x + B x) Finset.univ))
      * Ideal.div 1 (∑ r, Ideal.exp2 (S r + B r - Finset.fold max (⊥ : EReal) (fun x => S x + B x) Finset.univ))
      = band q k v b ⟨256 * g + c.val, by omega⟩ d := by
  set s : Fin 8192 := ⟨256 * g + c.val, by omega⟩ with hs
  let e : Fin n → Fin 8192 := fun r => ⟨k0 + r.val, by omega⟩
  have hc := c.isLt
  -- the window's mask is the band's
  have ha : ∀ r : Fin n, (c.val / 64 ≤ (o + r.val) / 64 ∧ (o + r.val) / 64 ≤ 8 + c.val / 64) ↔ sees s (e r) := fun r => by
    unfold sees
    show _ ↔ (k0 + r.val) / 64 ≤ (256 * g + c.val) / 64 ∧ (256 * g + c.val) / 64 ≤ (k0 + r.val) / 64 + 8
    omega
  have hL : ∀ r : Fin n, S r + B r = win (fun r => sees s (e r)) (fun r => score q k b s (e r) * (Real.log 2)⁻¹) r := fun r => by
    have hx : ∀ x : Fin 128, (k (e r) x : EReal) * ((q s x : EReal) * (((Real.sqrt 128)⁻¹ * (Real.log 2)⁻¹ : ℝ) : EReal))
        = ((q s x * k (e r) x * ((Real.sqrt 128)⁻¹ * (Real.log 2)⁻¹) : ℝ) : EReal) := fun x => by
      rw [← EReal.coe_mul, ← EReal.coe_mul]
      congr 1
      ring
    rw [hS r, hB r, Finset.sum_congr rfl fun x _ => hx x, ← coe_sum, ← Finset.sum_mul]
    unfold win
    by_cases h : sees s (e r)
    · rw [if_pos ((ha r).2 h), if_pos h, ← EReal.coe_add]
      congr 1
      have hp : (⟨min 256 (o + r.val - (c.val + 384)), by omega⟩ : Fin 257) = place257 s (e r) := by
        apply Fin.ext
        show min 256 (o + r.val - (c.val + 384)) = min 256 (k0 + r.val + 128 - (256 * g + c.val))
        omega
      rw [hp]
      unfold score
      ring
    · rw [if_neg fun x => h ((ha r).1 x), if_neg h, EReal.add_bot]
  have hown : ∃ r : Fin n, sees s (e r) := by
    refine ⟨⟨256 * g + c.val - k0, by omega⟩, ?_⟩
    unfold sees
    show (k0 + (256 * g + c.val - k0)) / 64 ≤ (256 * g + c.val) / 64 ∧ (256 * g + c.val) / 64 ≤ (k0 + (256 * g + c.val - k0)) / 64 + 8
    omega
  have hf : (fun x => S x + B x) = win (fun r => sees s (e r)) (fun r => score q k b s (e r) * (Real.log 2)⁻¹) := funext hL
  obtain ⟨μ, hμ⟩ := top_real (fun r => sees s (e r)) (fun r => score q k b s (e r) * (Real.log 2)⁻¹) hown
  rw [hf, hμ]
  refine (soft_ker (fun r => sees s (e r)) (fun r => score q k b s (e r)) (fun r => v (e r) d) hown
    (fun r => S r + B r) V hL hV μ).trans (congrArg _ ?_)
  refine soft_window _ _ _ (sees s) (score q k b s) (fun j => v j d) e (fun x y h => ?_) (fun j hj => ?_) (fun r => Iff.rfl)
    (fun _ _ => rfl) fun _ => rfl
  · have := congrArg Fin.val h
    exact Fin.ext (by simpa [e] using this)
  · unfold sees at hj
    have h1 : j.val / 64 ≤ (256 * g + c.val) / 64 := hj.1
    have h2 : (256 * g + c.val) / 64 ≤ j.val / 64 + 8 := hj.2
    exact ⟨⟨j.val - k0, by omega⟩, Fin.ext (by show k0 + (j.val - k0) = j.val; omega)⟩

end Cert.AttnB
end
-- ==== Proof.AttnB.Ker.lean ====
module

public import proofs.«01_k».proof.Proof.AttnB.Body
public import proofs.«01_k».proof.Proof.AttnB.Band
public import Idealize.ShloMosaic.Lib.Pointwise
public import Idealize.ShloMosaic.Lib.Pipeline.ValueKit
public import Idealize.ShloMosaic.Lib.Tactic.CleanTypes

/-! What the kernel of the band attention computes of one head, at the ideal values: every tile holds the head's
attention of its 256 queries. -/

@[expose] public section

set_option maxRecDepth 16384

noncomputable section

namespace Cert.AttnB

open Cert.KernelIdeal Cert.KernelIdeal.Gen
open Idealize.ShloMosaic Idealize.ShloMosaic.TcCoe Idealize.SL.Sem

/-! ## The constants -/

theorem named_log2e : (Named.named κ "log2e" 0x3FB8AA3B#32 : Ideal .f32) = (((Real.log 2)⁻¹ : ℝ) : EReal) :=
  IdealRules.named_const.ideal_named_scalar _ _ _ _ rfl
theorem named_scale : (Named.named κ "scale_log2e" 0x3E0293EE#32 : Ideal .f32) = (((Real.sqrt 128)⁻¹ * (Real.log 2)⁻¹ : ℝ) : EReal) :=
  IdealRules.named_const.ideal_named_scalar _ _ _ _ rfl

/-! ## What is kept, and its parts -/

theorem at2_eq (r : Fin 256) (n : Fin 128) : at2 r n = ix2 r n := by
  funext a
  match a with
  | 0 => rfl
  | 1 => rfl
theorem at3_eq (r : Fin 128) (n : Fin 256) : at3 r n = ix3 0 r n := by
  funext a
  match a with
  | 0 => rfl
  | 1 => rfl
  | 2 => rfl

theorem rows256_apply (x : Vec Ideal S1x8192x128 .f32) (g : ℕ) (c : Fin 256) (d : Fin 128) (h : 256 * g + c.val < 8192) :
    rows256 x g (ix3 0 c d) = x (ix3 0 ⟨256 * g + c.val, h⟩ d) := by
  refine congrArg x (funext fun a => ?_)
  match a with
  | 0 => rfl
  | 1 => exact Fin.ext (Nat.mod_eq_of_lt h)
  | 2 => rfl

theorem pay46_apply (x : Vec Ideal S1x256x128 .f32) (r : Fin 256) (d : Fin 128) : k0_pay46 x (at2 r d) = x (ix3 0 r d) := by
  rw [at2_eq]
  clean_types
  pointwise [k0_pay46]
theorem pay47_apply (x : Vec Ideal S1x256x128 .f32) (r : Fin 256) (d : Fin 128) : k0_pay47 x (at3 d r) = x (ix3 0 r d) := by
  rw [at3_eq]
  clean_types
  pointwise [k0_pay47]

theorem keys_apply (x : Vec Ideal S1x8192x128 .f32) (n g : ℕ) (r : Fin n) (d : Fin 128) (h : 256 * g + r.val < 8192) :
    keys n (keptK x) g (ix2 r d) = x (ix3 0 ⟨256 * g + r.val, h⟩ d) := by
  have hm : (256 * g + r.val) % 8192 = 256 * g + r.val := Nat.mod_eq_of_lt h
  show k0_pay46 (rows256 x ((256 * g + r.val) % 8192 / 256)) (at2 (Fin.ofNat 256 ((256 * g + r.val) % 8192)) d) = _
  rw [hm, pay46_apply, rows256_apply x _ _ d (by show 256 * ((256 * g + r.val) / 256) + (256 * g + r.val) % 256 < 8192; omega)]
  refine congrArg x (congrArg (fun j => ix3 0 j d) (Fin.ext ?_))
  show 256 * ((256 * g + r.val) / 256) + (256 * g + r.val) % 256 = 256 * g + r.val
  omega

theorem vals_apply (x : Vec Ideal S1x8192x128 .f32) (j : ℕ) (r : Fin 256) (d : Fin 128) (h : 256 * j + r.val < 8192) :
    vals (keptV x) j (ix3 0 d r) = x (ix3 0 ⟨256 * j + r.val, h⟩ d) := by
  have hm : j % 32 = j := Nat.mod_eq_of_lt (by omega)
  show k0_pay47 (rows256 x (j % 32)) (at3 d r) = _
  rw [hm, pay47_apply, rows256_apply x _ _ d h]

theorem bias_apply (x : Vec Ideal S8x257 .f32) (h : Fin 8) (b : Fin 257 → ℝ) (hx : ∀ n, x (ix2 h n) = (b n : EReal)) (r : Fin 768) (c : Fin 256) :
    biasOf x h.val (ix2 r c) = if c.val / 64 ≤ r.val / 64 ∧ r.val / 64 ≤ 8 + c.val / 64
      then ((b ⟨min 256 (r.val - (c.val + 384)), by omega⟩ * (Real.log 2)⁻¹ : ℝ) : EReal) else ⊥ := by
  have ht : ∀ n (hn : n < 257), x (atT h.val n) = (b ⟨n, hn⟩ : EReal) := fun n hn => by
    rw [← hx]
    refine congrArg x (funext fun a => ?_)
    match a with
    | 0 => exact Fin.ext (Nat.mod_eq_of_lt h.isLt)
    | 1 => exact Fin.ext (Nat.mod_eq_of_lt hn)
  show (if c.val / 64 ≤ r.val / 64 ∧ r.val / 64 ≤ 8 + c.val / 64 then
    if r.val / 128 ≤ c.val / 128 + 2 then x (atT h.val 0) * (Named.named κ "log2e" 0x3FB8AA3B#32 : Ideal .f32)
    else x (atT h.val (min 256 (r.val - (c.val + 384)))) * (Named.named κ "log2e" 0x3FB8AA3B#32 : Ideal .f32)
    else Ideal.ofBits .f32 4286578688#32) = _
  rw [named_log2e, least, ht 0 (by omega), ht _ (by omega : min 256 (r.val - (c.val + 384)) < 257)]
  split
  · split
    · rw [← EReal.coe_mul]
      refine congrArg (fun n => ((b n * (Real.log 2)⁻¹ : ℝ) : EReal)) (Fin.ext ?_)
      show 0 = min 256 (r.val - (c.val + 384))
      omega
    · rw [← EReal.coe_mul]
  · rfl

/-! ## The tiles -/

theorem scores1 (q : Vec Ideal S1x256x128 .f32) (s : EReal) (K : Vec Ideal S256x128 .bf16) (r : Fin 256) (c : Fin 256) :
    k0_pay195 (k0_pay194 q) s K (ix2 r c) = ∑ x, K (ix2 r x) * (q (ix3 0 c x) * s) := by
  clean_types
  pointwise [k0_pay195, k0_pay194]
theorem scores2 (q : Vec Ideal S1x256x128 .f32) (K : Vec Ideal S512x128 .bf16) (r : Fin 512) (c : Fin 256) :
    k0_pay196 q K (ix2 r c) = ∑ x, K (ix2 r x) * (q (ix3 0 c x) * (Named.named κ "scale_log2e" 0x3E0293EE#32 : Ideal .f32)) := by
  clean_types
  pointwise [k0_pay196]
theorem scores3 (q : Vec Ideal S1x256x128 .f32) (K : Vec Ideal S768x128 .bf16) (r : Fin 768) (c : Fin 256) :
    k0_pay2 q K (ix2 r c) = ∑ x, K (ix2 r x) * (q (ix3 0 c x) * (Named.named κ "scale_log2e" 0x3E0293EE#32 : Ideal .f32)) := by
  clean_types
  pointwise [k0_pay2]

/-- The softmax in base 2 of scores and biases, applied to values. -/
def soft2 {n : ℕ} (V S B : Fin n → EReal) : EReal :=
  (∑ r, V r * Ideal.exp2 (S r + B r - Finset.fold max (⊥ : EReal) (fun x => S x + B x) Finset.univ))
    * Ideal.div 1 (∑ r, Ideal.exp2 (S r + B r - Finset.fold max (⊥ : EReal) (fun x => S x + B x) Finset.univ))

theorem fin1 (S B : Vec Ideal S256x256 .f32) (V : Vec Ideal S1x128x256 .bf16) (c : Fin 256) (d : Fin 128) :
    k0_pay199 S B V (ix2 c d) = soft2 (fun r => V (ix3 0 d r)) (fun r => S (ix2 r c)) (fun r => B (ix2 r c)) := by
  unfold soft2
  rw [← least]
  clean_types
  pointwise [k0_pay199]
  rfl

theorem fin2 (S B : Vec Ideal S512x256 .f32) (V W : Vec Ideal S1x128x256 .bf16) (c : Fin 256) (d : Fin 128) (X : Fin 512 → EReal)
    (h0 : ∀ r : Fin 256, X ⟨r.val, by omega⟩ = V (ix3 0 d r)) (h1 : ∀ r : Fin 256, X ⟨256 + r.val, by omega⟩ = W (ix3 0 d r)) :
    k0_pay202 S B V W (ix2 c d) = soft2 X (fun r => S (ix2 r c)) (fun r => B (ix2 r c)) := by
  unfold soft2
  rw [← least, Fin.sum_univ_add (a := 256) (b := 256) (fun r : Fin 512 => X r * _)]
  simp only [Fin.castAdd, Fin.natAdd, Fin.castLE, h0, h1]
  clean_types
  pointwise [k0_pay202]
  rfl

theorem fin3 (S B : Vec Ideal S768x256 .f32) (U V W : Vec Ideal S1x128x256 .bf16) (c : Fin 256) (d : Fin 128) (X : Fin 768 → EReal)
    (h0 : ∀ r : Fin 256, X ⟨r.val, by omega⟩ = U (ix3 0 d r)) (h1 : ∀ r : Fin 256, X ⟨256 + r.val, by omega⟩ = V (ix3 0 d r))
    (h2 : ∀ r : Fin 256, X ⟨512 + r.val, by omega⟩ = W (ix3 0 d r)) :
    k0_pay6 (k0_pay4 S B) (k0_pay5 S B) U V W (ix2 c d) = soft2 X (fun r => S (ix2 r c)) (fun r => B (ix2 r c)) := by
  unfold soft2
  rw [← least, Fin.sum_univ_add (a := 512) (b := 256) (fun r : Fin 768 => X r * _),
    Fin.sum_univ_add (a := 256) (b := 256)]
  simp only [Fin.castAdd, Fin.natAdd, Fin.castLE, h0, h1, h2]
  clean_types
  pointwise [k0_pay6, k0_pay5, k0_pay4, k0_pay3]
  rfl

variable (Q K V : Vec Ideal S1x8192x128 .f32) (x : Vec Ideal S8x257 .f32) (h : Fin 8) (q k v : Fin 8192 → Fin 128 → ℝ) (b : Fin 257 → ℝ)
  (hQ : ∀ s d, Q (ix3 0 s d) = (q s d : EReal)) (hK : ∀ s d, K (ix3 0 s d) = (k s d : EReal)) (hV : ∀ s d, V (ix3 0 s d) = (v s d : EReal))
  (hx : ∀ n, x (ix2 h n) = (b n : EReal))

include hQ hK hV hx in
/-- Chunk `g`'s tile is the head's attention of its queries. -/
theorem tile_value (g : ℕ) (hg : g < 32) (c : Fin 256) (d : Fin 128) :
    tiles Q (keptK K) (keptV V) (biasOf x h.val) g (ix2 c d) = (band q k v b ⟨256 * g + c.val, by omega⟩ d : EReal) := by
  match g, hg with
  | 0, hg =>
    refine (fin1 _ _ _ c d).trans (window_band q k v b 0 0 512 hg rfl rfl rfl c d _ _ _ (fun r => ?_) (fun r => ?_) fun r => ?_)
    · rw [scores1, named_scale]
      refine Finset.sum_congr rfl fun z _ => ?_
      rw [keys_apply K 256 0 r z (by omega), rows256_apply Q 0 c z (by omega), hK, hQ]
    · refine Eq.trans ?_ (bias_apply x h b hx ⟨512 + r.val, by omega⟩ c)
      refine congrArg (biasOf x h.val) (funext fun a => Fin.ext ?_)
      match a with
      | 0 => show (512 + r.val) % 768 = 512 + r.val; omega
      | 1 => rfl
    · exact (vals_apply V 0 r d (by omega)).trans (hV _ _)
  | 1, hg =>
    refine (fin2 _ _ _ _ c d (fun r => V (ix3 0 ⟨0 + r.val, by omega⟩ d)) (fun r => ?_) fun r => ?_).trans
      (window_band q k v b 1 0 256 hg rfl rfl rfl c d _ _ _ (fun r => ?_) (fun r => ?_) fun r => hV _ _)
    · exact (vals_apply V 0 r d (by omega)).symm
    · refine Eq.trans ?_ (vals_apply V 1 r d (by omega)).symm
      refine congrArg V (congrArg (fun j => ix3 0 j d) (Fin.ext ?_))
      show 0 + (256 + r.val) = 256 * 1 + r.val
      omega
    · rw [scores2, named_scale]
      refine Finset.sum_congr rfl fun z _ => ?_
      rw [keys_apply K 512 0 r z (by omega), rows256_apply Q 1 c z (by omega), hK, hQ]
    · refine Eq.trans ?_ (bias_apply x h b hx ⟨256 + r.val, by omega⟩ c)
      refine congrArg (biasOf x h.val) (funext fun a => Fin.ext ?_)
      match a with
      | 0 => show (256 + r.val) % 768 = 256 + r.val; omega
      | 1 => rfl
  | g + 2, hg =>
    refine (fin3 _ _ _ _ _ c d (fun r => V (ix3 0 ⟨256 * g + r.val, by omega⟩ d)) (fun r => ?_) (fun r => ?_) fun r => ?_).trans
      (window_band q k v b (g + 2) (256 * g) 0 hg rfl (by omega) (by omega) c d _ _ _ (fun r => ?_) (fun r => ?_) fun r => hV _ _)
    · exact (vals_apply V g r d (by omega)).symm
    · refine Eq.trans ?_ (vals_apply V (g + 1) r d (by omega)).symm
      refine congrArg V (congrArg (fun j => ix3 0 j d) (Fin.ext ?_))
      show 256 * g + (256 + r.val) = 256 * (g + 1) + r.val
      omega
    · refine Eq.trans ?_ (vals_apply V (g + 2) r d (by omega)).symm
      refine congrArg V (congrArg (fun j => ix3 0 j d) (Fin.ext ?_))
      show 256 * g + (512 + r.val) = 256 * (g + 2) + r.val
      omega
    · show k0_pay2 _ _ (ix2 r c) = _
      rw [scores3, named_scale]
      refine Finset.sum_congr rfl fun z _ => ?_
      rw [show g + 2 - 2 = g from rfl, keys_apply K 768 g r z (by omega), rows256_apply Q (g + 2) c z (by omega), hK, hQ]
    · simp only [Nat.zero_add]
      exact bias_apply x h b hx r c

include hQ hK hV hx in
/-- The head's array is the head's attention. -/
theorem head_value (s : Fin 8192) (d : Fin 128) :
    ofTiles (tiles Q (keptK K) (keptV V) (biasOf x h.val)) (ix2 s d) = (band q k v b s d : EReal) := by
  have hm : (Fin.ofNat 256 s.val).val = s.val % 256 := rfl
  show tiles Q (keptK K) (keptV V) (biasOf x h.val) (s.val / 256) (at2 (Fin.ofNat 256 s.val) d) = _
  rw [at2_eq, tile_value Q K V x h q k v b hQ hK hV hx (s.val / 256) (by omega)]
  refine congrArg (fun j => (band q k v b j d : EReal)) (Fin.ext ?_)
  show 256 * (s.val / 256) + s.val % 256 = s.val
  omega

end Cert.AttnB
end
-- ==== Proof.AttnB.Ref.lean ====
module

public import proofs.«01_k».proof.Proof.Gen.ReferenceIdeal.Run
public import proofs.«01_k».proof.Proof.AttnB.Band
public import Idealize.ShloMosaic.Lib.Pointwise
public import Idealize.ShloMosaic.Lib.Pipeline.ValueKit
public import Idealize.ShloMosaic.Lib.Tactic.CleanTypes

/-! What the reference of the band attention computes. -/

@[expose] public section

set_option maxRecDepth 16384
set_option maxHeartbeats 4000000

noncomputable section

namespace Cert.AttnB

open Idealize.ShloMosaic Idealize.SL.Sem
open Cert.ReferenceIdeal Cert.ReferenceIdeal.Gen

/-- The chunk of every position: the position floor-divided by 64. -/
def chunk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- The mask: at (query, key), whether the key's chunk is one of the nine up to the query's. -/
def allowed : IVec S8192x8192 1 :=
  andi (cmpi .sle (broadcastInDim S8192x8192 ![0, 1] bcast_S1x8192_S8192x8192_0_1 (broadcastInDim S1x8192 ![1] bcast_S8192_S1x8192_1 chunk)) (broadcastInDim S8192x8192 ![0, 1] bcast_S8192x1_S8192x8192_0_1 (broadcastInDim S8192x1 ![0] bcast_S8192_S8192x1_0 chunk))) (cmpi .sge (broadcastInDim S8192x8192 ![0, 1] bcast_S1x8192_S8192x8192_0_1 (broadcastInDim S1x8192 ![1] bcast_S8192_S1x8192_1 chunk)) (broadcastInDim S8192x8192 ![0, 1] bcast_S8192x1_S8192x8192_0_1 (subi (broadcastInDim S8192x1 ![0] bcast_S8192_S8192x1_0 chunk) (broadcastInDim S8192x1 ![] bcast_S_S8192x1 (constantI S_ 32 8#32)))))

/-- At (query, key): the difference of positions cut off at 128 either way, plus 128. -/
def away : IVec S8192x8192 32 :=
  addi (minsi (broadcastInDim S8192x8192 ![] bcast_S_S8192x8192 (id (constantI S_ 32 128#32))) (maxsi (broadcastInDim S8192x8192 ![] bcast_S_S8192x8192 (id (constantI S_ 32 4294967168#32))) (subi (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (broadcastInDim S8192x8192 ![] bcast_S_S8192x8192 (constantI S_ 32 128#32))

/-- The place in the bias table of every (query, key). -/
def slot : IVec S8192x8192x1 32 :=
  broadcastInDim S8192x8192x1 ![0, 1] bcast_S8192x8192_S8192x8192x1_0_1 (select (cmpi .slt away (broadcastInDim S8192x8192 ![] bcast_S_S8192x8192 (constantI S_ 32 0#32))) (addi away (broadcastInDim S8192x8192 ![] bcast_S_S8192x8192 (constantI S_ 32 257#32))) away)

/-- The bias of every (head, query, key). -/
def biased (b : FVec Ideal S8x257 .f32) : FVec Ideal S8x8192x8192 .f32 :=
  Host.gather gather_S8x257_S8192x8192x1_S8x8192x8192_0_1_n_n_1_2_81 b slot

/-- The queries by position, head and lane. -/
def part2 (x : FVec Ideal S10x8192x1024 .f32) : FVec Ideal S8192x8x128 .f32 :=
  shapeCast _ (shapeCast _ (extractStridedSlice S1x8192x1024 ![2, 0, 0] x slices_S10x8192x1024_S1x8192x1024_2_0_0) shapeCasts_S1x8192x1024_S8192x1024) shapeCasts_S8192x1024_S8192x8x128

/-- The keys by position, head and lane. -/
def part3 (x : FVec Ideal S10x8192x1024 .f32) : FVec Ideal S8192x8x128 .f32 :=
  shapeCast _ (shapeCast _ (extractStridedSlice S1x8192x1024 ![3, 0, 0] x slices_S10x8192x1024_S1x8192x1024_3_0_0) shapeCasts_S1x8192x1024_S8192x1024) shapeCasts_S8192x1024_S8192x8x128

/-- The values by position, head and lane. -/
def part4 (x : FVec Ideal S10x8192x1024 .f32) : FVec Ideal S8192x8x128 .f32 :=
  shapeCast _ (shapeCast _ (extractStridedSlice S1x8192x1024 ![4, 0, 0] x slices_S10x8192x1024_S1x8192x1024_4_0_0) shapeCasts_S1x8192x1024_S8192x1024) shapeCasts_S8192x1024_S8192x8x128

/-- The scores: the products of queries and keys over the root of the head's width. -/
def scored (x : FVec Ideal S10x8192x1024 .f32) : FVec Ideal S8x8192x8192 .f32 :=
  Host.divf (Host.dotGeneral (F := Ideal) dot_S8192x8x128_S8192x8x128_S8x8192x8192_2_2_0_0_1_1 none (part2 x) (part3 x)) (broadcastInDim S8x8192x8192 ![] bcast_S_S8x8192x8192 (Host.sqrt (constant S_ .f32 0x43000000#32)))

/-- The masked scores with their bias. -/
def masked (x : FVec Ideal S10x8192x1024 .f32) (b : FVec Ideal S8x257 .f32) : FVec Ideal S8x8192x8192 .f32 :=
  select (broadcastInDim S8x8192x8192 ![1, 2] bcast_S8192x8192_S8x8192x8192_1_2 allowed) (addf (scored x) (biased b)) (broadcastInDim S8x8192x8192 ![] bcast_S_S8x8192x8192 (id (constant S_ .f32 0xFF800000#32)))

/-- The largest masked score of every (head, query). -/
def most (x : FVec Ideal S10x8192x1024 .f32) (b : FVec Ideal S8x257 .f32) : FVec Ideal S8x8192 .f32 :=
  maximumf (broadcastInDim S8x8192 ![] bcast_S_S8x8192 (constant S_ .f32 0xFF800000#32)) (Host.reduce FloatOps.maximumf (masked x b) (constant S_ .f32 0xFF800000#32) reducesTo_S8x8192x8192_S8x8192_d2 h_S_)

/-- The exponentials of the masked scores less the largest. -/
def grown (x : FVec Ideal S10x8192x1024 .f32) (b : FVec Ideal S8x257 .f32) : FVec Ideal S8x8192x8192 .f32 :=
  Host.exp (subf (masked x b) (broadcastInDim S8x8192x8192 ![0, 1, 2] bcast_S8x8192x1_S8x8192x8192_0_1_2 (broadcastInDim S8x8192x1 ![0, 1] bcast_S8x8192_S8x8192x1_0_1 (most x b))))

/-- The weights. -/
def weight (x : FVec Ideal S10x8192x1024 .f32) (b : FVec Ideal S8x257 .f32) : FVec Ideal S8x8192x8192 .f32 :=
  Host.divf (grown x b) (broadcastInDim S8x8192x8192 ![0, 1, 2] bcast_S8x8192x1_S8x8192x8192_0_1_2 (broadcastInDim S8x8192x1 ![0, 1] bcast_S8x8192_S8x8192x1_0_1 (Host.reduceAdd (grown x b) (constant S_ .f32 0x00000000#32) reducesTo_S8x8192x8192_S8x8192_d2 h_S_)))

/-- The result of the reference. -/
def attended (x : FVec Ideal S10x8192x1024 .f32) (b : FVec Ideal S8x257 .f32) : FVec Ideal S8192x1024 .f32 :=
  shapeCast _ (transpose S8192x8x128 [2, 0, 1] (Host.dotGeneral (F := Ideal) dot_S8192x8x128_S8x8192x8192_S8x128x8192_0_2_2_1_1_0 none (part4 x) (weight x b)) transposes_S8x128x8192_S8192x8x128_2_0_1) shapeCasts_S8192x8x128_S8192x1024

theorem res_attended (m : (ℓ : Loc nD τ sig) → Buf (Elt Ideal) ℓ) (c : Dev nD) :
    Cert.ReferenceIdeal.Value.res_out0 m c
      = attended (m ((c.tc : Thread nD τ).loc main_arg0)) (m ((c.tc : Thread nD τ).loc main_arg1)) := rfl

/-! ## The parts, entry by entry -/

theorem chunk_apply (s : Fin 8192) : chunk (ix1 s) = BitVec.ofNat 32 (s.val / 64) := by
  unfold chunk
  pointwise []
  revert s
  decide +kernel

theorem mask_word : ∀ a b : Fin 128, IntOp.andi (IntOp.cmpi .sle (BitVec.ofNat 32 a.val) (BitVec.ofNat 32 b.val))
    (IntOp.cmpi .sge (BitVec.ofNat 32 a.val) (IntOp.subi (BitVec.ofNat 32 b.val) 8#32)) = if a.val ≤ b.val ∧ b.val ≤ a.val + 8 then 1#1 else 0#1 := by
  decide +kernel

theorem allowed_apply (s k : Fin 8192) : allowed (ix2 s k) = if sees s k then 1#1 else 0#1 := by
  unfold allowed
  pointwise []
  rw [chunk_apply, chunk_apply]
  exact mask_word ⟨k.val / 64, by omega⟩ ⟨s.val / 64, by omega⟩

/-- A difference of positions, cut off at 128 either way, plus 128. -/
theorem clip_word (w : BitVec 32) (k s : ℕ) (h1 : k < 8192) (h2 : s < 8192) (hd : w.toInt = (k : ℤ) - (s : ℤ))
    (hn : w.toNat = (4294967296 - s + k) % 4294967296) :
    IntOp.addi (IntOp.minsi 128#32 (IntOp.maxsi 4294967168#32 w)) 128#32 = BitVec.ofNat 32 (min 256 (k + 128 - s)) := by
  have l1 : (4294967168#32).toInt = -128 := by decide
  have l2 : (128#32).toInt = 128 := by decide
  simp only [IntOp.addi, IntOp.minsi, IntOp.maxsi, BitVec.slt, decide_eq_true_eq]
  by_cases c1 : w.toInt < (4294967168#32).toInt
  · rw [if_pos c1, if_neg (by decide)]
    rw [hd, l1] at c1
    rw [show min 256 (k + 128 - s) = 0 by omega]
    decide
  · rw [if_neg c1]
    by_cases c2 : (128#32).toInt < w.toInt
    · rw [if_pos c2]
      rw [hd, l2] at c2
      rw [show min 256 (k + 128 - s) = 256 by omega]
      decide
    · rw [if_neg c2]
      rw [hd, l1] at c1
      rw [hd, l2] at c2
      apply BitVec.eq_of_toNat_eq
      rw [BitVec.toNat_add, BitVec.toNat_ofNat, BitVec.toNat_ofNat, hn]
      omega

theorem away_apply (s k : Fin 8192) : away (ix2 s k) = BitVec.ofNat 32 (place257 s k).val := by
  unfold away
  pointwise []
  show IntOp.addi (IntOp.minsi 128#32 (IntOp.maxsi 4294967168#32 (IntOp.subi (BitVec.ofNat 32 k.val) (BitVec.ofNat 32 s.val)))) 128#32
    = BitVec.ofNat 32 (min 256 (k.val + 128 - s.val))
  have h1 := k.isLt
  have h2 := s.isLt
  have hd : (BitVec.ofNat 32 k.val - BitVec.ofNat 32 s.val).toInt = (k.val : ℤ) - (s.val : ℤ) := by
    rw [BitVec.toInt_eq_toNat_cond, BitVec.toNat_sub, BitVec.toNat_ofNat, BitVec.toNat_ofNat]
    split <;> omega
  have hn : (BitVec.ofNat 32 k.val - BitVec.ofNat 32 s.val).toNat = (4294967296 - s.val + k.val) % 4294967296 := by
    rw [BitVec.toNat_sub, BitVec.toNat_ofNat, BitVec.toNat_ofNat]
    omega
  exact clip_word _ k.val s.val h1 h2 hd hn

theorem slot_word : ∀ n : Fin 257, min (Scalar.select (IntOp.cmpi .slt (BitVec.ofNat 32 n.val) 0#32) (IntOp.addi (BitVec.ofNat 32 n.val) 257#32) (BitVec.ofNat 32 n.val)).toInt.toNat 256 = n.val := by
  decide +kernel

theorem slot_apply (s k : Fin 8192) : min (slot (ix3 s k 0)).toInt.toNat 256 = (place257 s k).val := by
  unfold slot
  pointwise []
  rw [away_apply]
  exact slot_word (place257 s k)

/-- The gather down the table's second axis. -/
theorem gathered_apply (x : FVec Ideal S8x257 .f32) (idx : IVec S8192x8192x1 32) (h : Fin 8) (s k : Fin 8192) :
    Host.gather gather_S8x257_S8192x8192x1_S8x8192x8192_0_1_n_n_1_2_81 x idx (ix3 h s k)
      = x (ix2 h ⟨min (idx (ix3 s k 0)).toInt.toNat 256, by omega⟩) := by
  unfold Host.gather
  refine congrArg x (funext fun a => Fin.ext ?_)
  match a with
  | ⟨0, _⟩ =>
    show GatherDims.start _ (ix3 h s k) idx 0 + GatherDims.batchCoord _ (ix3 h s k) 0 + GatherDims.offCoord _ (ix3 h s k) 0 = h.val
    rw [GatherDims.batchCoord_eq_zero _ _ _ List.not_mem_nil, Nat.add_zero]
    unfold GatherDims.start
    rw [dif_neg (by decide), Nat.zero_add]
    unfold GatherDims.offCoord
    rw [dif_pos (by decide)]
    rfl
  | ⟨1, _⟩ =>
    show GatherDims.start _ (ix3 h s k) idx 1 + GatherDims.batchCoord _ (ix3 h s k) 1 + GatherDims.offCoord _ (ix3 h s k) 1 = min (idx (ix3 s k 0)).toInt.toNat 256
    rw [GatherDims.batchCoord_eq_zero _ _ _ List.not_mem_nil, GatherDims.offCoord_eq_zero _ _ _ (by decide)]
    simp only [Nat.add_zero]
    unfold GatherDims.start
    rw [dif_pos (by decide)]
    refine congrArg (fun z => min (idx z).toInt.toNat 256) (funext fun b => Fin.ext ?_)
    match b with
    | ⟨0, _⟩ => rfl
    | ⟨1, _⟩ => rfl
    | ⟨2, _⟩ => rfl

theorem biased_apply (b : FVec Ideal S8x257 .f32) (h : Fin 8) (s k : Fin 8192) : biased b (ix3 h s k) = b (ix2 h (place257 s k)) := by
  unfold biased
  rw [gathered_apply]
  exact congrArg (fun n => b (ix2 h n)) (Fin.ext (slot_apply s k))

theorem scored_apply (x : FVec Ideal S10x8192x1024 .f32) (h : Fin 8) (s k : Fin 8192) :
    scored x (ix3 h s k) = Ideal.div (∑ d : Fin 128, x (ix3 2 s ⟨h.val * 128 + d.val, by omega⟩) * x (ix3 3 k ⟨h.val * 128 + d.val, by omega⟩))
      (Ideal.sqrt (Ideal.ofBits FTy.f32 1124073472#32)) := by
  unfold scored
  pointwise [part2, part3]

theorem masked_apply (x : FVec Ideal S10x8192x1024 .f32) (b : FVec Ideal S8x257 .f32) (h : Fin 8) (s k : Fin 8192) :
    masked x b (ix3 h s k) = if sees s k then scored x (ix3 h s k) + biased b (ix3 h s k) else ⊥ := by
  unfold masked
  pointwise []
  show Scalar.select _ _ (Ideal.ofBits FTy.f32 4286578688#32) = _
  rw [allowed_apply, least]
  split <;> rfl

/-- The largest over the last axis. -/
theorem largest_apply (v : FVec Ideal S8x8192x8192 .f32) (z : FVec Ideal S_ .f32) (h : Fin 8) (s : Fin 8192) :
    Host.reduce FloatOps.maximumf v z reducesTo_S8x8192x8192_S8x8192_d2 h_S_ (ix2 h s)
      = Finset.fold max (z (Shape.Idx.first h_S_)) (fun k => v (ix3 h s k)) Finset.univ := by
  simp only [pointwise]

theorem larger_apply (u w : FVec Ideal S8x8192 .f32) (i : S8x8192.Idx) : maximumf u w i = max (u i) (w i) := rfl

theorem least_vec (i : S8x8192.Idx) :
    (broadcastInDim S8x8192 ![] bcast_S_S8x8192 (constant S_ .f32 0xFF800000#32 : FVec Ideal S_ .f32) : FVec Ideal S8x8192 .f32) i = (⊥ : EReal) :=
  least
theorem least_scalar (i : S_.Idx) : (constant S_ .f32 0xFF800000#32 : FVec Ideal S_ .f32) i = (⊥ : EReal) := least

theorem most_apply (x : FVec Ideal S10x8192x1024 .f32) (b : FVec Ideal S8x257 .f32) (h : Fin 8) (s : Fin 8192) :
    most x b (ix2 h s) = Finset.fold max (⊥ : EReal) (fun k => masked x b (ix3 h s k)) Finset.univ := by
  unfold most
  rw [larger_apply, largest_apply, least_vec, least_scalar]
  exact max_eq_right bot_le

theorem grown_apply (x : FVec Ideal S10x8192x1024 .f32) (b : FVec Ideal S8x257 .f32) (h : Fin 8) (s k : Fin 8192) :
    grown x b (ix3 h s k) = Ideal.exp (masked x b (ix3 h s k) - most x b (ix2 h s)) := by
  unfold grown
  pointwise []

theorem weight_apply (x : FVec Ideal S10x8192x1024 .f32) (b : FVec Ideal S8x257 .f32) (h : Fin 8) (s k : Fin 8192) :
    weight x b (ix3 h s k) = Ideal.div (grown x b (ix3 h s k)) (∑ j, grown x b (ix3 h s j)) := by
  unfold weight
  pointwise []

theorem attended_apply (x : FVec Ideal S10x8192x1024 .f32) (b : FVec Ideal S8x257 .f32) (s : Fin 8192) (e : Fin 1024) :
    attended x b (ix2 s e) = ∑ k, x (ix3 4 k e) * weight x b (ix3 ⟨e.val / 128, by omega⟩ s k) := by
  unfold attended
  pointwise [part4]

end Cert.AttnB
end
-- ==== Proof.AttnB.RefValue.lean ====
module

public import proofs.«01_k».proof.Proof.AttnB.Ref

/-! The reference's result at real arguments: every head's attention over the band of chunks. -/

@[expose] public section

set_option maxRecDepth 16384

noncomputable section

namespace Cert.AttnB

open Idealize.ShloMosaic Idealize.SL.Sem
open Cert.ReferenceIdeal Cert.ReferenceIdeal.Gen

/-- The root the reference divides by. -/
theorem root : Ideal.sqrt (Ideal.ofBits .f32 1124073472#32) = ((Real.sqrt 128 : ℝ) : EReal) := by
  have h : Ideal.ofBits .f32 1124073472#32 = ((128 : ℝ) : EReal) := by
    simp [Ideal.ofBits, Ideal.ieee, -EReal.coe_mul]; norm_num
  rw [h]
  show (if (128 : ℝ) < 0 then ⊥ else (Real.sqrt 128 : EReal)) = _
  rw [if_neg (by norm_num)]

/-- One head's part of an array of ten parts. -/
def headOf (x : Fin 10 → Fin 8192 → Fin 1024 → ℝ) (p : Fin 10) (h : Fin 8) : Fin 8192 → Fin 128 → ℝ :=
  fun s d => x p s ⟨h.val * 128 + d.val, by omega⟩

/-- The attention of every head, its lanes beside the other heads'. -/
def heads (x : Fin 10 → Fin 8192 → Fin 1024 → ℝ) (b : Fin 8 → Fin 257 → ℝ) (s : Fin 8192) (e : Fin 1024) : ℝ :=
  band (headOf x 2 ⟨e.val / 128, by omega⟩) (headOf x 3 ⟨e.val / 128, by omega⟩) (headOf x 4 ⟨e.val / 128, by omega⟩)
    (b ⟨e.val / 128, by omega⟩) s ⟨e.val % 128, by omega⟩

variable (X : FVec Ideal S10x8192x1024 .f32) (B : FVec Ideal S8x257 .f32) (x : Fin 10 → Fin 8192 → Fin 1024 → ℝ) (b : Fin 8 → Fin 257 → ℝ)
  (hX : ∀ p s e, X (ix3 p s e) = (x p s e : EReal)) (hB : ∀ h n, B (ix2 h n) = (b h n : EReal))

include hX hB in
theorem masked_value (h : Fin 8) (s k : Fin 8192) :
    masked X B (ix3 h s k) = win (sees s) (score (headOf x 2 h) (headOf x 3 h) (b h) s) k := by
  rw [masked_apply]
  unfold win
  split
  · rw [scored_apply, biased_apply, hB, root, Ideal.div_coe (by positivity)]
    have hs : ∀ d : Fin 128, X (ix3 2 s ⟨h.val * 128 + d.val, by omega⟩) * X (ix3 3 k ⟨h.val * 128 + d.val, by omega⟩)
        = ((headOf x 2 h s d * headOf x 3 h k d : ℝ) : EReal) := fun d => by
      rw [hX, hX, ← EReal.coe_mul]; rfl
    rw [Finset.sum_congr rfl fun d _ => hs d, ← coe_sum, ← EReal.coe_mul, ← EReal.coe_add, one_div]
    rfl
  · rfl

include hX hB in
/-- The reference's result. -/
theorem attended_value (s : Fin 8192) (e : Fin 1024) : attended X B (ix2 s e) = (heads x b s e : EReal) := by
  have hown : ∃ k, sees s k := ⟨s, le_rfl, by omega⟩
  rw [attended_apply]
  set h : Fin 8 := ⟨e.val / 128, by omega⟩ with hh
  obtain ⟨μ, hμ⟩ := top_real (sees s) (score (headOf x 2 h) (headOf x 3 h) (b h) s) hown
  have hm : most X B (ix2 h s) = μ := by
    rw [most_apply, funext fun k => masked_value X B x b hX hB h s k, hμ]
  simp only [weight_apply, grown_apply, hm]
  refine (soft_ref (sees s) (score (headOf x 2 h) (headOf x 3 h) (b h) s) (fun k => x 4 k e) hown _ _
    (fun k => masked_value X B x b hX hB h s k) (fun k => hX 4 k e) μ).trans (congrArg _ ?_)
  unfold heads band
  refine congrArg _ (funext fun k => congrArg (x 4 k) (Fin.ext ?_))
  show e.val = e.val / 128 * 128 + e.val % 128
  omega

end Cert.AttnB
end
-- ==== Proof.AttnB.Claim.lean ====
module

public import proofs.«01_k».proof.Defs
public import proofs.«01_k».proof.Proof.AttnB.Frame
public import proofs.«01_k».proof.Proof.AttnB.Ker
public import proofs.«01_k».proof.Proof.AttnB.RefValue
public import Idealize.ShloMosaic.Lib.ReduceAll
public import Idealize.ShloMosaic.Lib.Pointwise
public import Idealize.ShloMosaic.Lib.Pipeline.ValueKit
public import Idealize.ShloMosaic.Lib.Tactic.CleanTypes
public import proofs.«01_k».proof.Proof.Gen.ReferenceIdeal
public import proofs.«01_k».proof.Proof.Gen.KernelIdeal
public import proofs.«01_k».proof.Proof.Gen.Pre_finite

/-! The band attention: kernel and reference end with the same array, where the arguments are finite. -/

@[expose] public section

set_option maxRecDepth 16384

noncomputable section

namespace Cert.AttnB

open Idealize.ShloMosaic Idealize.ShloMosaic.TcCoe Idealize.SL.Sem

/-! ## Finite arguments are real -/

theorem real_of_less (x : EReal) (h : Ideal.cmp .olt (FloatOps.hostAbsf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  induction x with
  | bot => exact absurd h (by show ¬ Ideal.cmp .olt (max (⊥ : EReal) (-⊥)) ⊤ = 1#1; simp [Ideal.cmp])
  | coe r => exact ⟨r, rfl⟩
  | top => exact absurd h (by show ¬ Ideal.cmp .olt (max (⊤ : EReal) (-⊤)) ⊤ = 1#1; simp [Ideal.cmp])

section Finite
open Cert.Pre_finite

theorem both_one {a b : BitVec 1} (h : IntOp.andi a b = 1#1) : a = 1#1 ∧ b = 1#1 := by
  revert a b
  decide

theorem finite_real [Cert.Pre_finite.Facts] (X : FVec Ideal S10x8192x1024 .f32) (B : FVec Ideal S8x257 .f32)
    (h : Cert.Pre_finite.fn (F := Ideal) X B = fun _ => 1#1) : (∀ i, ∃ r : ℝ, X i = r) ∧ ∀ i, ∃ r : ℝ, B i = r := by
  obtain ⟨hX, hB⟩ := both_one (congrFun h ix0)
  exact ⟨fun i => real_of_less _ (Host.reduce_andi_all _ _ _ _ ix0 hX i), fun i => real_of_less _ (Host.reduce_andi_all _ _ _ _ ix0 hB i)⟩

end Finite

/-! ## The kernel's array -/

section Kernel
open Cert.KernelIdeal Cert.KernelIdeal.Gen

variable (m : (ℓ : Loc nD τ sig) → Buf (Elt Ideal) ℓ) (c : Dev nD) (t : Fin cfg0.N)

/-- Where head `t` finds each block. -/
theorem idx : ∀ t : Fin cfg0.N, win0_0.index t = ![0, 0] ∧ win0_1.index t = ![2, 0, t.val] ∧ win0_2.index t = ![3, 0, t.val]
    ∧ win0_3.index t = ![4, 0, t.val] ∧ win0_4.index t = ![0, t.val] ∧ (grid0.coords t 0).val = t.val :=
  (by decide +kernel : ∀ t : Fin grid0.N, _)

/-- The head of the grid's point. -/
abbrev headAt (t : Fin cfg0.N) : Fin 8 := ⟨t.val, by have := t.isLt; have : cfg0.N = 8 := N_0; omega⟩
/-- The lane `d` of head `h` among all heads' lanes. -/
abbrev lane (h : Fin 8) (d : Fin 128) : Fin 1024 := ⟨h.val * 128 + d.val, by omega⟩

theorem read0 (h : Fin 8) (n : Fin 257) : iblk m c 0 t (ix2 h n) = m ((c.tc : Thread _ _).loc main_arg1) (ix2 h n) := by
  have e := (idx t).1
  show V m c main_arg1 (((cfg0.win 0).blk t).view.emb (ix2 h n)) = _
  rw [V_main_arg1]
  congr 1
  blk_ext [e]
theorem read1 (s : Fin 8192) (d : Fin 128) : iblk m c 1 t (ix3 0 s d) = m ((c.tc : Thread _ _).loc main_arg0) (ix3 2 s (lane (headAt t) d)) := by
  have e := (idx t).2.1
  show V m c main_arg0 (((cfg0.win 1).blk t).view.emb (ix3 0 s d)) = _
  rw [V_main_arg0]
  congr 1
  blk_ext [e]
theorem read2 (s : Fin 8192) (d : Fin 128) : iblk m c 2 t (ix3 0 s d) = m ((c.tc : Thread _ _).loc main_arg0) (ix3 3 s (lane (headAt t) d)) := by
  have e := (idx t).2.2.1
  show V m c main_arg0 (((cfg0.win 2).blk t).view.emb (ix3 0 s d)) = _
  rw [V_main_arg0]
  congr 1
  blk_ext [e]
theorem read3 (s : Fin 8192) (d : Fin 128) : iblk m c 3 t (ix3 0 s d) = m ((c.tc : Thread _ _).loc main_arg0) (ix3 4 s (lane (headAt t) d)) := by
  have e := (idx t).2.2.2.1
  show V m c main_arg0 (((cfg0.win 3).blk t).view.emb (ix3 0 s d)) = _
  rw [V_main_arg0]
  congr 1
  blk_ext [e]
theorem place4 (s : Fin 8192) (d : Fin 128) : ((cfg0.win 4).blk t).view.emb (ix2 s d) = (ix2 s (lane (headAt t) d) : S8192x1024.Idx) := by
  have e := (idx t).2.2.2.2.1
  blk_ext [e]

/-- The result as one array. -/
def whole (x : Fin 10 → Fin 8192 → Fin 1024 → ℝ) (b : Fin 8 → Fin 257 → ℝ) : FVec Ideal S8192x1024 .f32 :=
  fun i => (heads x b (i 0) (i 1) : EReal)

/-- The kernel's result: every head's attention. -/
theorem ker_whole (x : Fin 10 → Fin 8192 → Fin 1024 → ℝ) (b : Fin 8 → Fin 257 → ℝ)
    (hX : ∀ p s e, m ((c.tc : Thread _ _).loc main_arg0) (ix3 p s e) = (x p s e : EReal))
    (hB : ∀ h n, m ((c.tc : Thread _ _).loc main_arg1) (ix2 h n) = (b h n : EReal)) :
    (dats m 0 c).arrAt 4 cfg0.N = whole x b := by
  refine (dats m 0 c).arrAt_eq_of_covers 4 _ (by decide +kernel) fun t hf y => ?_
  obtain ⟨s, d, rfl⟩ : ∃ (a : Fin 8192) (b : Fin 128), y = ix2 a b := ⟨y 0, y 1, eq_ix2 y⟩
  rw [place4]
  blk_simp
  rw [after4]
  have hh : (⟨(lane (headAt t) d).val / 128, by omega⟩ : Fin 8) = headAt t := Fin.ext (by show (t.val * 128 + d.val) / 128 = t.val; omega)
  have hd : (⟨(lane (headAt t) d).val % 128, by omega⟩ : Fin 128) = d := Fin.ext (by show (t.val * 128 + d.val) % 128 = d.val; omega)
  have hw : whole x b (ix2 s (lane (headAt t) d)) = (band (headOf x 2 (headAt t)) (headOf x 3 (headAt t)) (headOf x 4 (headAt t)) (b (headAt t)) s d : EReal) := by
    show (band (headOf x 2 ⟨(lane (headAt t) d).val / 128, _⟩) (headOf x 3 ⟨(lane (headAt t) d).val / 128, _⟩) (headOf x 4 ⟨(lane (headAt t) d).val / 128, _⟩)
      (b ⟨(lane (headAt t) d).val / 128, _⟩) s ⟨(lane (headAt t) d).val % 128, _⟩ : EReal) = _
    rw [hh, hd]
  refine Eq.trans ?_ hw.symm
  unfold outO
  rw [(idx t).2.2.2.2.2]
  exact head_value _ _ _ _ (headAt t) _ _ _ _ (fun s d => (read1 m c t s d).trans (hX _ _ _)) (fun s d => (read2 m c t s d).trans (hX _ _ _))
    (fun s d => (read3 m c t s d).trans (hX _ _ _)) (fun n => (read0 m c t _ n).trans (hB _ _)) s d

/-- The run of the kernel, its result and its arguments read off. -/
theorem run_values (ρ : Dev nD → PrngReg) :
    θ_run (defs (F := Ideal)) (onTc (τ := τ) (main (F := Ideal))) ⟨m, fun _ => 0, ρ⟩
      (fun r => ∀ c : Dev nD,
        r.2.mem ((c.tc : Thread _ _).loc main_v0) = (dats m 0 c).arrAt 4 cfg0.N
        ∧ r.2.mem ((c.tc : Thread _ _).loc main_arg0) = m ((c.tc : Thread _ _).loc main_arg0)
        ∧ r.2.mem ((c.tc : Thread _ _).loc main_arg1) = m ((c.tc : Thread _ _).loc main_arg1)) :=
  (θ_run _ _ _).mono (fun _ h c => ⟨(h.1 c).1 4, h.2 c⟩)
    (θ_run_and (run_main m ρ) (frame_of m ρ (dats m) (A_eq m) (run_main m ρ)))

end Kernel

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hfin hagree
  refine ⟨fun c => _, run_values m g, ?_⟩
  refine (θ_run _ _ _).mono (fun r h c => ⟨(h c).1.trans ?_, (h c).2⟩) (Cert.ReferenceIdeal.Value.run m' g')
  obtain ⟨h0, h1⟩ := hagree c
  obtain ⟨hX, hB⟩ := finite_real _ _ (hfin c)
  choose x hx using hX
  choose b hb using hB
  refine Eq.trans ?_ (ker_whole m c (fun p s e => x (ix3 p s e)) (fun h n => b (ix2 h n)) (fun p s e => hx _) fun h n => hb _).symm
  refine (res_attended m' c).trans ?_
  rw [h0, h1]
  funext i
  obtain ⟨s, e, rfl⟩ : ∃ (a : Fin 8192) (b : Fin 1024), i = ix2 a b := ⟨i 0, i 1, eq_ix2 i⟩
  exact attended_value _ _ (fun p s e => x (ix3 p s e)) (fun h n => b (ix2 h n)) (fun p s e => hx _) (fun h n => hb _) s e

theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

theorem frame_ker : Cert.quiescent_KernelIdeal (hKernelIdeal := Cert.KernelIdeal.Gen.facts) := fun m g _ => frame m g

end Cert.AttnB
end
-- ==== Proof.AttnB.Same.lean ====
module

public import proofs.«01_k».proof.Defs
public import proofs.«01_k».proof.Proof.AttnB.Frame
public import proofs.«01_k».proof.Proof.Gen.Kernel

/-! The kernel at the machine's own floats: a named constant is its own word there, so the idealized program is the same and the one run serves. -/

@[expose] public section

set_option maxRecDepth 16384

noncomputable section

namespace Cert.AttnB

open Idealize.ShloMosaic Idealize.SL.Sem

/-- At the machine's own floats a named constant is its printed word. -/
instance namedWord : Named Bits where
  named _ _ {φ} w := (FloatOps.ofBits φ w : Bits φ)

theorem defs₀_same : Cert.Kernel.defs₀ (F := Bits) = Cert.KernelIdeal.defs₀ (F := Bits) := by
  refine congrArg Defs.onTc ?_
  funext l a
  match l, a with
  | 0, (t, s) => rfl

theorem defs_same : Cert.Kernel.defs (F := Bits) = Cert.KernelIdeal.defs (F := Bits) :=
  congrArg (Pipeline.defs Cert.Kernel.pcfgs) defs₀_same

theorem frame_bits : Cert.quiescent_Kernel (hKernel := Cert.Kernel.Gen.facts) := by
  intro m g _
  rw [defs_same]
  exact frame (F := Bits) m g

end Cert.AttnB

end
-- ==== Proof.InProj.Math.lean ====
module

public import proofs.«01_k».proof.Proof.Gen.Reference2Ideal.Run
public import Idealize.ShloMosaic.Lib.Pointwise
public import Idealize.ShloMosaic.Lib.Pipeline.ValueKit
public import Idealize.ShloMosaic.Lib.Tactic.CleanTypes

/-! The input projection, element by element. -/

@[expose] public section

set_option maxRecDepth 16384

noncomputable section

namespace Cert.InProj

open Idealize.ShloMosaic Idealize.SL.Sem

/-- One entry of a row divided by its root mean square and scaled by the gain. -/
def nrm (x g : Fin 2048 → EReal) (k : Fin 2048) : EReal :=
  x k * Ideal.rsqrt (Ideal.div (∑ j : Fin 2048, x j * x j) (Ideal.ofBits .f32 0x45000000#32)
    + Ideal.ofBits .f32 0x358637BD#32) * g k

/-- One entry of the projection of a normalised row: its product with a column of the weights. -/
def dot (x g w : Fin 2048 → EReal) : EReal := ∑ k : Fin 2048, nrm x g k * w k

/-- Row `s`, column `e` of the projection of the whole input, of any number of rows. -/
def proj {R : ℕ} (x : (⟨2, ![R, 2048]⟩ : Shape).Idx → EReal) (g : (⟨1, ![2048]⟩ : Shape).Idx → EReal) (w : (⟨2, ![2048, 12288]⟩ : Shape).Idx → EReal)
    (s : Fin R) (e : Fin 12288) : EReal :=
  dot (fun k => x (ix2 s k)) (fun k => g (ix1 k)) (fun k => w (ix2 k e))

/-- The column block of the projection that slab `p` of the first result is: the keys' and the values' blocks, 1 and 2, are left out. -/
def colBlock (p : Fin 10) : Fin 12 := if p.val = 0 then 0 else ⟨p.val + 2, by omega⟩

/-- Column `n` of column block `b`. -/
def col (b : Fin 12) (n : Fin 1024) : Fin 12288 := ⟨b.val * 1024 + n.val, by omega⟩

/-- The first result: ten column blocks, one above the other. -/
def slabs {R : ℕ} (x : (⟨2, ![R, 2048]⟩ : Shape).Idx → EReal) (g : (⟨1, ![2048]⟩ : Shape).Idx → EReal) (w : (⟨2, ![2048, 12288]⟩ : Shape).Idx → EReal) :
    (⟨3, ![10, R, 1024]⟩ : Shape).Idx → EReal := fun i => proj x g w (i 1) (col (colBlock (i 0)) (i 2))

/-- One column block as a result of its own. -/
def block {R : ℕ} (b : Fin 12) (x : (⟨2, ![R, 2048]⟩ : Shape).Idx → EReal) (g : (⟨1, ![2048]⟩ : Shape).Idx → EReal) (w : (⟨2, ![2048, 12288]⟩ : Shape).Idx → EReal) :
    (⟨2, ![R, 1024]⟩ : Shape).Idx → EReal := fun i => proj x g w (i 0) (col b (i 1))

end Cert.InProj

end
-- ==== Proof.InProj.Run.lean ====
module

public import proofs.«01_k».proof.Proof.Gen.Kernel2Ideal.Skeleton
public import proofs.«01_k».proof.Proof.Gen.Kernel2Ideal.Frame

/-! The body of the input projection, run at one grid point.

At column 0 it normalises its 1024 rows in four groups of 256, keeps them in the scratch, and projects
them; at the other columns it projects the rows kept. Each lemma says what the body leaves. -/

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev q0 : Rect S1024x2048 := Rect.unit (s := S1024x2048) ![0, 0] S256x2048.size inb_S1024x2048_S256x2048_0_0
abbrev q1 : Rect S1024x2048 := Rect.unit (s := S1024x2048) ![256, 0] S256x2048.size inb_S1024x2048_S256x2048_256_0
abbrev q2 : Rect S1024x2048 := Rect.unit (s := S1024x2048) ![512, 0] S256x2048.size inb_S1024x2048_S256x2048_512_0
abbrev q3 : Rect S1024x2048 := Rect.unit (s := S1024x2048) ![768, 0] S256x2048.size inb_S1024x2048_S256x2048_768_0
abbrev o0 : Rect S1x1024x1024 := Rect.unit (s := S1x1024x1024) ![0, 0, 0] S1x256x1024.size inb_S1x1024x1024_S1x256x1024_0_0_0
abbrev o1 : Rect S1x1024x1024 := Rect.unit (s := S1x1024x1024) ![0, 256, 0] S1x256x1024.size inb_S1x1024x1024_S1x256x1024_0_256_0
abbrev o2 : Rect S1x1024x1024 := Rect.unit (s := S1x1024x1024) ![0, 512, 0] S1x256x1024.size inb_S1x1024x1024_S1x256x1024_0_512_0
abbrev o3 : Rect S1x1024x1024 := Rect.unit (s := S1x1024x1024) ![0, 768, 0] S1x256x1024.size inb_S1x1024x1024_S1x256x1024_0_768_0

abbrev rg : Rect S1x2048 := Rect.unit (s := S1x2048) ![0, 0] S1x2048.size inb_S1x2048_S1x2048_0_0
abbrev rw : Rect S2048x1024 := Rect.unit (s := S2048x1024) ![0, 0] S2048x1024.size inb_S2048x1024_S2048x1024_0_0
abbrev rh : Rect S1024x2048 := Rect.unit (s := S1024x2048) ![0, 0] S1024x2048.size inb_S1024x2048_S1024x2048_0_0
abbrev rk : Rect S1024x1024 := Rect.unit (s := S1024x1024) ![0, 0] S1024x1024.size inb_S1024x1024_S1024x1024_0_0
abbrev ro : Rect S1x1024x1024 := Rect.unit (s := S1x1024x1024) ![0, 0, 0] S1x1024x1024.size inb_S1x1024x1024_S1x1024x1024_0_0_0

/-- The normalised rows the scratch holds: four groups of 256. -/
def hid (x : Vec F S1024x2048 .f32) (g : Vec F S1x2048 .f32) : Vec F S1024x2048 .bf16 :=
  View.canon [⟨q3, k0_pay3 (View.ld x q3) (View.ld g rg)⟩, ⟨q2, k0_pay16 (View.ld x q2) (View.ld g rg)⟩,
    ⟨q1, k0_pay13 (k0_pay11 (View.ld x q1)) (View.ld g rg)⟩, ⟨q0, k0_pay9 (View.ld x q0) (View.ld g rg)⟩]

/-- The first column block's projection, stored group by group. -/
def slab (x : Vec F S1024x2048 .f32) (g : Vec F S1x2048 .f32) (w : Vec F S2048x1024 .bf16) : Vec F S1x1024x1024 .f32 :=
  View.canon [⟨o3, k0_pay4 (View.ld x q3) (View.ld g rg) (View.ld w rw)⟩, ⟨o2, k0_pay1 (k0_pay17 (View.ld x q2) (View.ld g rg) (View.ld w rw))⟩,
    ⟨o1, k0_pay14 (k0_pay11 (View.ld x q1)) (View.ld g rg) (View.ld w rw)⟩, ⟨o0, k0_pay10 (View.ld x q0) (View.ld g rg) (View.ld w rw)⟩]

/-- A later column block's projection of the rows kept: into the keys' block, the values' block, the slab. -/
def projK (h : Vec F S1024x2048 .bf16) (w : Vec F S2048x1024 .bf16) : Vec F S1024x1024 .f32 :=
  View.canon [⟨rk, k0_pay5 (View.ld h rh) (View.ld w rw)⟩]
def projV (h : Vec F S1024x2048 .bf16) (w : Vec F S2048x1024 .bf16) : Vec F S1024x1024 .f32 :=
  View.canon [⟨rk, k0_pay6 (View.ld h rh) (View.ld w rw)⟩]
def projO (h : Vec F S1024x2048 .bf16) (w : Vec F S2048x1024 .bf16) : Vec F S1x1024x1024 .f32 :=
  View.canon [⟨ro, k0_pay7 (View.ld h rh) (View.ld w rw)⟩]

theorem cover_hid (p3 : Vec F S256x2048 .bf16) (p2 : Vec F S256x2048 .bf16) (p1 : Vec F S256x2048 .bf16) (p0 : Vec F S256x2048 .bf16) (y : S1024x2048.Idx) :
    ∃ pc ∈ ([⟨q3, p3⟩, ⟨q2, p2⟩, ⟨q1, p1⟩, ⟨q0, p0⟩] : List (View.Piece (Elt F) S1024x2048 .bf16)), y ∈ pc.1.set :=
  View.cover_of_tiled [⟨q3, p3⟩, ⟨q2, p2⟩, ⟨q1, p1⟩, ⟨q0, p0⟩] S256x2048.size (by rfl) y
theorem cover_slab (p3 p2 p1 p0 : Vec F S1x256x1024 .f32) (y : S1x1024x1024.Idx) :
    ∃ pc ∈ ([⟨o3, p3⟩, ⟨o2, p2⟩, ⟨o1, p1⟩, ⟨o0, p0⟩] : List (View.Piece (Elt F) S1x1024x1024 .f32)), y ∈ pc.1.set :=
  View.cover_of_tiled [⟨o3, p3⟩, ⟨o2, p2⟩, ⟨o1, p1⟩, ⟨o0, p0⟩] S1x256x1024.size (by rfl) y
theorem cover_k (p0 : Vec F S1024x1024 .f32) (y : S1024x1024.Idx) :
    ∃ pc ∈ ([⟨rk, p0⟩] : List (View.Piece (Elt F) S1024x1024 .f32)), y ∈ pc.1.set :=
  View.cover_of_tiled [⟨rk, p0⟩] S1024x1024.size (by rfl) y
theorem cover_o (p0 : Vec F S1x1024x1024 .f32) (y : S1x1024x1024.Idx) :
    ∃ pc ∈ ([⟨ro, p0⟩] : List (View.Piece (Elt F) S1x1024x1024 .f32)), y ∈ pc.1.set :=
  View.cover_of_tiled [⟨ro, p0⟩] S1x1024x1024.size (by rfl) y

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x2048 .bf16) (harg8 : arg8.IsWhole)
    (x0 : Vec F S1024x2048 .f32) (x1 : Vec F S1x2048 .f32) (x2 : Vec F S2048x1024 .bf16) (h : Vec F S1024x2048 .bf16)

set_option maxHeartbeats 1000000 in
/-- Column 0 normalises the rows and projects them, four groups of 256. -/
theorem runA (hc0 : k0_cond1 i = 1#1) (hc1 : ¬ k0_cond2 i = 1#1) (hc2 : ¬ k0_cond3 i = 1#1) (hc3 : ¬ k0_cond4 i = 1#1)
    (E : Set ℕ) (K : PUnit → sProp 𝕄) :
    iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg8 fullShare d)
      ∗ (iprop(owns (c : Thread nD τ) arg2 fullShare x0 ∗ owns (c : Thread nD τ) arg3 fullShare x1 ∗ owns (c : Thread nD τ) arg4 fullShare x2
          ∗ owns (c : Thread nD τ) arg5 fullShare (slab x0 x1 x2) ∗ owns (c : Thread nD τ) arg8 fullShare (hid x0 x1)) -∗ K ⟨⟩))
    ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%ds0, %fs0, -, HS0⟩, Hk⟩
  subst hf0 hf1 hf2
  sl_exec (disch := first | sl_exact hc0 | sl_exact hc1 | sl_exact hc2 | sl_exact hc3)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (View.read_writes_eq_canon _ _ _ (cover_slab _ _ _ _)).trans ?_
    rfl
  iexists _; isplitr; swap; · iexact HS0
  ipureintro
  refine (View.read_writes_eq_canon _ _ _ (cover_hid _ _ _ _)).trans ?_
  rfl

set_option maxHeartbeats 1000000 in
/-- Column 1 projects the rows kept into the keys' block. -/
theorem runB (hc0 : ¬ k0_cond1 i = 1#1) (hc1 : k0_cond2 i = 1#1) (hc2 : ¬ k0_cond3 i = 1#1) (hc3 : ¬ k0_cond4 i = 1#1)
    (E : Set ℕ) (K : PUnit → sProp 𝕄) :
    iprop(owns (c : Thread nD τ) arg4 fullShare x2
      ∗ (∃ d, owns (c : Thread nD τ) arg6 fullShare d) ∗ owns (c : Thread nD τ) arg8 fullShare h
      ∗ (iprop(owns (c : Thread nD τ) arg4 fullShare x2
          ∗ owns (c : Thread nD τ) arg6 fullShare (projK h x2) ∗ owns (c : Thread nD τ) arg8 fullShare h) -∗ K ⟨⟩))
    ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton, k0_part2_eq_skeleton]
  unfold owns
  iintro ⟨⟨%f2, %hf2, H2⟩, ⟨%d3, %f3, -, H3⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_k _)).trans ?_
    rfl
  iexists fs0; isplitr; · ipureintro; rfl
  iexact HS0

set_option maxHeartbeats 1000000 in
/-- Column 2 projects the rows kept into the values' block. -/
theorem runC (hc0 : ¬ k0_cond1 i = 1#1) (hc1 : ¬ k0_cond2 i = 1#1) (hc2 : k0_cond3 i = 1#1) (hc3 : ¬ k0_cond4 i = 1#1)
    (E : Set ℕ) (K : PUnit → sProp 𝕄) :
    iprop(owns (c : Thread nD τ) arg4 fullShare x2
      ∗ (∃ d, owns (c : Thread nD τ) arg7 fullShare d) ∗ owns (c : Thread nD τ) arg8 fullShare h
      ∗ (iprop(owns (c : Thread nD τ) arg4 fullShare x2
          ∗ owns (c : Thread nD τ) arg7 fullShare (projV h x2) ∗ owns (c : Thread nD τ) arg8 fullShare h) -∗ K ⟨⟩))
    ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton, k0_part2_eq_skeleton]
  unfold owns
  iintro ⟨⟨%f2, %hf2, H2⟩, ⟨%d3, %f3, -, H3⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_k _)).trans ?_
    rfl
  iexists fs0; isplitr; · ipureintro; rfl
  iexact HS0

set_option maxHeartbeats 1000000 in
/-- The later columns project the rows kept into the slab. -/
theorem runD (hc0 : ¬ k0_cond1 i = 1#1) (hc1 : ¬ k0_cond2 i = 1#1) (hc2 : ¬ k0_cond3 i = 1#1) (hc3 : k0_cond4 i = 1#1)
    (E : Set ℕ) (K : PUnit → sProp 𝕄) :
    iprop(owns (c : Thread nD τ) arg4 fullShare x2
      ∗ (∃ d, owns (c : Thread nD τ) arg5 fullShare d) ∗ owns (c : Thread nD τ) arg8 fullShare h
      ∗ (iprop(owns (c : Thread nD τ) arg4 fullShare x2
          ∗ owns (c : Thread nD τ) arg5 fullShare (projO h x2) ∗ owns (c : Thread nD τ) arg8 fullShare h) -∗ K ⟨⟩))
    ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton, k0_part2_eq_skeleton]
  unfold owns
  iintro ⟨⟨%f2, %hf2, H2⟩, ⟨%d3, %f3, -, H3⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_o _)).trans ?_
    rfl
  iexists fs0; isplitr; · ipureintro; rfl
  iexact HS0

end Cert.InProj

end
-- ==== Proof.InProj.Block.lean ====
module

public import proofs.«01_k».proof.Proof.InProj.Math
public import proofs.«01_k».proof.Proof.InProj.Run

/-! What the body leaves in a block, element by element, at the ideal values. -/

@[expose] public section

set_option maxRecDepth 16384

noncomputable section

namespace Cert.InProj

open Idealize.ShloMosaic Idealize.SL.Sem
open Cert.Kernel2Ideal Cert.Kernel2Ideal.Gen

variable (x : Vec Ideal S256x2048 .f32) (g : Vec Ideal S1x2048 .f32) (w : Vec Ideal S2048x1024 .bf16) (r : Fin 256) (k : Fin 2048) (n : Fin 1024)

theorem pay2_eq : k0_pay2 x g (ix2 r k) = nrm (fun k => x (ix2 r k)) (fun k => g (ix2 0 k)) k := by pointwise [k0_pay2, nrm]
theorem pay8_eq : k0_pay8 x g (ix2 r k) = nrm (fun k => x (ix2 r k)) (fun k => g (ix2 0 k)) k := by pointwise [k0_pay8, nrm]
theorem pay15_eq : k0_pay15 x g (ix2 r k) = nrm (fun k => x (ix2 r k)) (fun k => g (ix2 0 k)) k := by pointwise [k0_pay15, nrm]
theorem pay12_eq : k0_pay12 (k0_pay11 x) g (ix2 r k) = nrm (fun k => x (ix2 r k)) (fun k => g (ix2 0 k)) k := by pointwise [k0_pay12, k0_pay11, nrm]

theorem pay4_eq : k0_pay4 x g w (ix3 0 r n) = dot (fun k => x (ix2 r k)) (fun k => g (ix2 0 k)) (fun k => w (ix2 k n)) := by pointwise [k0_pay4, pay2_eq, dot]
theorem pay10_eq : k0_pay10 x g w (ix3 0 r n) = dot (fun k => x (ix2 r k)) (fun k => g (ix2 0 k)) (fun k => w (ix2 k n)) := by pointwise [k0_pay10, pay8_eq, dot]
theorem pay17_eq : k0_pay1 (k0_pay17 x g w) (ix3 0 r n) = dot (fun k => x (ix2 r k)) (fun k => g (ix2 0 k)) (fun k => w (ix2 k n)) := by pointwise [k0_pay1, k0_pay17, pay15_eq, dot]
theorem pay14_eq : k0_pay14 (k0_pay11 x) g w (ix3 0 r n) = dot (fun k => x (ix2 r k)) (fun k => g (ix2 0 k)) (fun k => w (ix2 k n)) := by pointwise [k0_pay14, pay12_eq, dot]
theorem pay3_eq : k0_pay3 x g (ix2 r k) = nrm (fun k => x (ix2 r k)) (fun k => g (ix2 0 k)) k := by pointwise [k0_pay3, pay2_eq]
theorem pay9_eq : k0_pay9 x g (ix2 r k) = nrm (fun k => x (ix2 r k)) (fun k => g (ix2 0 k)) k := by pointwise [k0_pay9, pay8_eq]
theorem pay16_eq : k0_pay16 x g (ix2 r k) = nrm (fun k => x (ix2 r k)) (fun k => g (ix2 0 k)) k := by pointwise [k0_pay16, pay15_eq]
theorem pay13_eq : k0_pay13 (k0_pay11 x) g (ix2 r k) = nrm (fun k => x (ix2 r k)) (fun k => g (ix2 0 k)) k := by pointwise [k0_pay13, pay12_eq]

/-- Where a group of 256 rows lies. -/
theorem q_emb (q : Fin 4) (o : Fin 2 → ℕ) (ho : o = ![q.val * 256, 0]) (hq) (a : Fin 256) (b : Fin 2048) :
    (Rect.unit (s := S1024x2048) o S256x2048.size hq).emb (ix2 a b) = (ix2 ⟨q.val * 256 + a.val, by omega⟩ b : S1024x2048.Idx) := by
  subst ho
  blk_ext

theorem o_emb (q : Fin 4) (o : Fin 3 → ℕ) (ho : o = ![0, q.val * 256, 0]) (hq) (a : Fin 256) (b : Fin 1024) :
    (Rect.unit (s := S1x1024x1024) o S1x256x1024.size hq).emb (ix3 0 a b) = (ix3 0 ⟨q.val * 256 + a.val, by omega⟩ b : S1x1024x1024.Idx) := by
  subst ho
  blk_ext

theorem whole_gain (g : Vec Ideal S1x2048 .f32) : View.ld g rg = g := by
  funext i
  obtain ⟨a, b, rfl⟩ : ∃ (a : Fin 1) (b : Fin 2048), i = ix2 a b := ⟨i 0, i 1, eq_ix2 i⟩
  show g (rg.emb (ix2 a b)) = g _
  congr 1
  blk_ext

theorem whole_weight (w : Vec Ideal S2048x1024 .bf16) : View.ld w rw = w := by
  funext i
  obtain ⟨a, b, rfl⟩ : ∃ (a : Fin 2048) (b : Fin 1024), i = ix2 a b := ⟨i 0, i 1, eq_ix2 i⟩
  show w (rw.emb (ix2 a b)) = w _
  congr 1
  blk_ext

/-- A group of rows, read out of the block. -/
theorem ld_rows (x : Vec Ideal S1024x2048 .f32) (q : Fin 4) (o : Fin 2 → ℕ) (ho : o = ![q.val * 256, 0]) (hq) (a : Fin 256) (b : Fin 2048) :
    View.ld x (Rect.unit (s := S1024x2048) o S256x2048.size hq) (ix2 a b) = x (ix2 ⟨q.val * 256 + a.val, by omega⟩ b) := by
  show x ((Rect.unit (s := S1024x2048) o S256x2048.size hq).emb (ix2 a b)) = _
  rw [q_emb q o ho hq]

/-- The normalised rows and their projection, as functions of the block's index. -/
def hidFn (x : Vec Ideal S1024x2048 .f32) (g : Vec Ideal S1x2048 .f32) (y : S1024x2048.Idx) : Elt Ideal .bf16 :=
  nrm (fun k => x (ix2 (y 0) k)) (fun k => g (ix2 0 k)) (y 1)
def slabFn (x : Vec Ideal S1024x2048 .f32) (g : Vec Ideal S1x2048 .f32) (w : Vec Ideal S2048x1024 .bf16) (y : S1x1024x1024.Idx) : Elt Ideal .f32 :=
  dot (fun k => x (ix2 (y 1) k)) (fun k => g (ix2 0 k)) (fun k => w (ix2 k (y 2)))

/-- The rows the scratch holds are the normalised rows. -/
theorem hid_eq (x : Vec Ideal S1024x2048 .f32) (g : Vec Ideal S1x2048 .f32) (r : Fin 1024) (k : Fin 2048) :
    hid x g (ix2 r k) = nrm (fun k => x (ix2 r k)) (fun k => g (ix2 0 k)) k := by
  refine View.canon_apply_of_pieces (Val := Elt Ideal) (e := .bf16) (hidFn x g) _ ?_ _ (cover_hid _ _ _ _ _)
  intro p hp z
  simp only [List.mem_cons, List.not_mem_nil, or_false] at hp
  rcases hp with rfl | rfl | rfl | rfl
  all_goals
    obtain ⟨a, b, rfl⟩ : ∃ (a : Fin 256) (b : Fin 2048), z = ix2 a b := ⟨z 0, z 1, eq_ix2 z⟩
    rw [whole_gain]
  · refine (pay3_eq _ _ a b).trans (Eq.trans ?_ (congrArg (hidFn x g) (q_emb 3 _ rfl inb_S1024x2048_S256x2048_768_0 a b).symm))
    have hl : ∀ k, View.ld x q3 (ix2 a k) = _ := fun k => ld_rows x 3 _ rfl inb_S1024x2048_S256x2048_768_0 a k
    simp only [hl]
    rfl
  · refine (pay16_eq _ _ a b).trans (Eq.trans ?_ (congrArg (hidFn x g) (q_emb 2 _ rfl inb_S1024x2048_S256x2048_512_0 a b).symm))
    have hl : ∀ k, View.ld x q2 (ix2 a k) = _ := fun k => ld_rows x 2 _ rfl inb_S1024x2048_S256x2048_512_0 a k
    simp only [hl]
    rfl
  · refine (pay13_eq _ _ a b).trans (Eq.trans ?_ (congrArg (hidFn x g) (q_emb 1 _ rfl inb_S1024x2048_S256x2048_256_0 a b).symm))
    have hl : ∀ k, View.ld x q1 (ix2 a k) = _ := fun k => ld_rows x 1 _ rfl inb_S1024x2048_S256x2048_256_0 a k
    simp only [hl]
    rfl
  · refine (pay9_eq _ _ a b).trans (Eq.trans ?_ (congrArg (hidFn x g) (q_emb 0 _ rfl inb_S1024x2048_S256x2048_0_0 a b).symm))
    have hl : ∀ k, View.ld x q0 (ix2 a k) = _ := fun k => ld_rows x 0 _ rfl inb_S1024x2048_S256x2048_0_0 a k
    simp only [hl]
    rfl

/-- The slab of column block 0. -/
theorem slab_eq (x : Vec Ideal S1024x2048 .f32) (g : Vec Ideal S1x2048 .f32) (w : Vec Ideal S2048x1024 .bf16) (r n : Fin 1024) :
    slab x g w (ix3 0 r n) = dot (fun k => x (ix2 r k)) (fun k => g (ix2 0 k)) (fun k => w (ix2 k n)) := by
  refine View.canon_apply_of_pieces (Val := Elt Ideal) (e := .f32) (slabFn x g w) _ ?_ _ (cover_slab _ _ _ _ _)
  intro p hp z
  simp only [List.mem_cons, List.not_mem_nil, or_false] at hp
  rcases hp with rfl | rfl | rfl | rfl
  all_goals
    obtain ⟨u, a, b, rfl⟩ : ∃ (u : Fin 1) (a : Fin 256) (b : Fin 1024), z = ix3 u a b := ⟨z 0, z 1, z 2, eq_ix3 z⟩
    obtain rfl : u = 0 := Subsingleton.elim _ _
    rw [whole_gain, whole_weight]
  · refine (pay4_eq _ _ _ a b).trans (Eq.trans ?_ (congrArg (slabFn x g w) (o_emb 3 _ rfl inb_S1x1024x1024_S1x256x1024_0_768_0 a b).symm))
    have hl : ∀ k, View.ld x q3 (ix2 a k) = _ := fun k => ld_rows x 3 _ rfl inb_S1024x2048_S256x2048_768_0 a k
    simp only [hl]
    rfl
  · refine (pay17_eq _ _ _ a b).trans (Eq.trans ?_ (congrArg (slabFn x g w) (o_emb 2 _ rfl inb_S1x1024x1024_S1x256x1024_0_512_0 a b).symm))
    have hl : ∀ k, View.ld x q2 (ix2 a k) = _ := fun k => ld_rows x 2 _ rfl inb_S1024x2048_S256x2048_512_0 a k
    simp only [hl]
    rfl
  · refine (pay14_eq _ _ _ a b).trans (Eq.trans ?_ (congrArg (slabFn x g w) (o_emb 1 _ rfl inb_S1x1024x1024_S1x256x1024_0_256_0 a b).symm))
    have hl : ∀ k, View.ld x q1 (ix2 a k) = _ := fun k => ld_rows x 1 _ rfl inb_S1024x2048_S256x2048_256_0 a k
    simp only [hl]
    rfl
  · refine (pay10_eq _ _ _ a b).trans (Eq.trans ?_ (congrArg (slabFn x g w) (o_emb 0 _ rfl inb_S1x1024x1024_S1x256x1024_0_0_0 a b).symm))
    have hl : ∀ k, View.ld x q0 (ix2 a k) = _ := fun k => ld_rows x 0 _ rfl inb_S1024x2048_S256x2048_0_0 a k
    simp only [hl]
    rfl

theorem projK_eq (h : Vec Ideal S1024x2048 .bf16) (w : Vec Ideal S2048x1024 .bf16) (r n : Fin 1024) :
    projK h w (ix2 r n) = ∑ k : Fin 2048, h (ix2 r k) * w (ix2 k n) := by
  unfold projK
  frame_out
  pointwise [k0_pay5]
theorem projV_eq (h : Vec Ideal S1024x2048 .bf16) (w : Vec Ideal S2048x1024 .bf16) (r n : Fin 1024) :
    projV h w (ix2 r n) = ∑ k : Fin 2048, h (ix2 r k) * w (ix2 k n) := by
  unfold projV
  frame_out
  pointwise [k0_pay6]
theorem projO_eq (h : Vec Ideal S1024x2048 .bf16) (w : Vec Ideal S2048x1024 .bf16) (r n : Fin 1024) :
    projO h w (ix3 0 r n) = ∑ k : Fin 2048, h (ix2 r k) * w (ix2 k n) := by
  unfold projO
  frame_out
  pointwise [k0_pay7]

end Cert.InProj

end
-- ==== Proof.InProj.Frame.lean ====
module

public import proofs.«01_k».proof.Proof.InProj.Run
public import Idealize.ShloMosaic.Lib.Pipeline.TableIdle
public import Idealize.ShloMosaic.Lib.Claim

/-! The input projection as a pipeline: what every buffer holds after every grid point, and the run.

The grid has 8 row blocks of 12 columns; point `t` is column `t % 12` of row block `t / 12`. The scratch
carries the normalised rows through a row block. The keys' and the values' block are stored at columns 1
and 2 and held, unchanged, until they are written back in the next row block; the slab stored at column 0
is held through columns 1 and 2. -/

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

theorem cond1_iff : ∀ t : Fin cfg0.N, k0_cond1 (grid0.coords t) = 1#1 ↔ t.val % 12 = 0 :=
  (by decide +kernel : ∀ t : Fin grid0.N, k0_cond1 (grid0.coords t) = 1#1 ↔ t.val % 12 = 0)
theorem cond2_iff : ∀ t : Fin cfg0.N, k0_cond2 (grid0.coords t) = 1#1 ↔ t.val % 12 = 1 :=
  (by decide +kernel : ∀ t : Fin grid0.N, k0_cond2 (grid0.coords t) = 1#1 ↔ t.val % 12 = 1)
theorem cond3_iff : ∀ t : Fin cfg0.N, k0_cond3 (grid0.coords t) = 1#1 ↔ t.val % 12 = 2 :=
  (by decide +kernel : ∀ t : Fin grid0.N, k0_cond3 (grid0.coords t) = 1#1 ↔ t.val % 12 = 2)
theorem cond4_iff : ∀ t : Fin cfg0.N, k0_cond4 (grid0.coords t) = 1#1 ↔ 3 ≤ t.val % 12 :=
  (by decide +kernel : ∀ t : Fin grid0.N, k0_cond4 (grid0.coords t) = 1#1 ↔ 3 ≤ t.val % 12)

theorem idle3 : ∀ t : Fin cfg0.N, cfg0.idle 3 (cfg0.grid.coords t) = decide (t.val % 12 = 1 ∨ t.val % 12 = 2) :=
  (by decide +kernel : ∀ t : Fin grid0.N, idle0 3 (grid0.coords t) = decide (t.val % 12 = 1 ∨ t.val % 12 = 2))
theorem idle4 : ∀ t : Fin cfg0.N, cfg0.idle 4 (cfg0.grid.coords t) = decide (t.val % 12 ≠ 1) :=
  (by decide +kernel : ∀ t : Fin grid0.N, idle0 4 (grid0.coords t) = decide (t.val % 12 ≠ 1))
theorem idle5 : ∀ t : Fin cfg0.N, cfg0.idle 5 (cfg0.grid.coords t) = decide (t.val % 12 ≠ 2) :=
  (by decide +kernel : ∀ t : Fin grid0.N, idle0 5 (grid0.coords t) = decide (t.val % 12 ≠ 2))
theorem flush3 : ∀ t : Fin cfg0.N, (cfg0.win 3).flush t = decide (2 ≤ t.val % 12) :=
  (by decide +kernel : ∀ t : Fin grid0.N, win0_3.flush t = decide (2 ≤ t.val % 12))
theorem flush4 : ∀ t : Fin cfg0.N, (cfg0.win 4).flush t = decide (t.val % 12 = 0 ∧ t.val ≠ 0 ∨ t.val = 95) :=
  (by decide +kernel : ∀ t : Fin grid0.N, win0_4.flush t = decide (t.val % 12 = 0 ∧ t.val ≠ 0 ∨ t.val = 95))
theorem flush5 : ∀ t : Fin cfg0.N, (cfg0.win 5).flush t = decide (t.val % 12 = 1 ∧ t.val ≠ 1 ∨ t.val = 95) :=
  (by decide +kernel : ∀ t : Fin grid0.N, win0_5.flush t = decide (t.val % 12 = 1 ∧ t.val ≠ 1 ∨ t.val = 95))

/-- The point of column 0, 1 or 2 whose stores `t` still holds. -/
def at0 (t : Fin cfg0.N) : Fin cfg0.N := ⟨t.val / 12 * 12, by have := t.isLt; omega⟩
def at1 (t : Fin cfg0.N) : Fin cfg0.N := ⟨(t.val - 1) / 12 * 12 + 1, by have h := t.isLt; have : cfg0.N = 96 := N_0; omega⟩
def at2 (t : Fin cfg0.N) : Fin cfg0.N := ⟨(t.val - 2) / 12 * 12 + 2, by have h := t.isLt; have : cfg0.N = 96 := N_0; omega⟩

/-! ## The proof data -/

variable (m : (ℓ : Loc nD τ sig) → Buf (Elt F) ℓ) (ρ : Dev nD → PrngReg)

/-- The normalised rows of `t`'s row block. -/
def rows (c : Dev nD) (t : Fin cfg0.N) : Vec F S1024x2048 .bf16 := hid (iblk m c 0 (at0 t)) (iblk m c 1 (at0 t))

def outO (c : Dev nD) (t : Fin cfg0.N) : Vec F S1x1024x1024 .f32 :=
  if t.val % 12 ≤ 2 then slab (iblk m c 0 (at0 t)) (iblk m c 1 (at0 t)) (iblk m c 2 (at0 t)) else projO (rows m c t) (iblk m c 2 t)
def outK (c : Dev nD) (t : Fin cfg0.N) : Vec F S1024x1024 .f32 := projK (rows m c (at1 t)) (iblk m c 2 (at1 t))
def outV (c : Dev nD) (t : Fin cfg0.N) : Vec F S1024x1024 .f32 := projV (rows m c (at2 t)) (iblk m c 2 (at2 t))

/-- The kernel's own scratch. -/
abbrev scM : Memref sig .tc .vmem S1024x2048 .bf16 := Memref.whole cc0_scratch0

/-- Before point `n`: at the first the scratch holds anything, later the rows of the point before. -/
def inv (c : Dev nD) (n : Fin (cfg0.N + 1)) : sProp 𝕄 :=
  if h : n.val = 0 then Pipeline.ΦA spec0 c
  else iprop(owns (c : Thread nD τ) scM fullShare (rows m c ⟨n.val - 1, by have := n.isLt; omega⟩) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO m c t
    | ⟨4, _⟩ => outK m c t
    | ⟨5, _⟩ => outV m c t
  Φ n := inv m c n
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outO m c t := by dsimp only [dats]
theorem after4 (c : Dev nD) (t : Fin cfg0.N) : (dats m 0 c).after 4 t = outK m c t := by dsimp only [dats]
theorem after5 (c : Dev nD) (t : Fin cfg0.N) : (dats m 0 c).after 5 t = outV m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- An output window whose block was stored at `s` and neither stored nor written back since holds what `s` left. -/
theorem held (c : Dev nD) (w : Fin cfg0.W) (ho : (cfg0.win w).isOut = true)
    (hc : ∀ (t : Fin cfg0.N) d, (dats m 0 c).kept w t d = (dats m 0 c).after w t) (s t : Fin cfg0.N) (hst : s.val < t.val)
    (hs : cfg0.idle w (cfg0.grid.coords s) = false)
    (hf : ∀ j : Fin cfg0.N, s.val ≤ j.val → j.val < t.val → (cfg0.win w).flush j = false)
    (hi : ∀ j : Fin cfg0.N, s.val < j.val → j.val < t.val → cfg0.idle w (cfg0.grid.coords j) = true) (d) :
    (dats m 0 c).before w t d = (dats m 0 c).after w s := by
  rw [(dats m 0 c).before_idle_run w ((cfg0.win w).fetch_out ho) d (t.val - s.val - 1) t (by omega)
    (fun j h₁ h₂ => ⟨hi j (by omega) h₂, hf j (by omega) h₂⟩)]
  rw [(dats m 0 c).before_of_pos w _ (by simp only; omega) ((cfg0.win w).fetch_out ho _)]
  have e : (⟨t.val - (t.val - s.val - 1) - 1, by have := t.isLt; omega⟩ : Fin cfg0.N) = s := Fin.ext (by simp only; omega)
  simp only [e]
  rw [hf s le_rfl hst, if_neg Bool.false_ne_true]
  unfold Dat.left
  rw [hs]
  exact hc s d

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A window the point does not store into is handed back as found; where the point writes it back, that is what it should hold. -/
theorem leaves_idle (c : Dev nD) (w : Fin cfg0.W) (t : Fin cfg0.N) (hi : cfg0.idle w (cfg0.grid.coords t) = true) (d)
    (hb : (cfg0.win w).flush t = true → (dats m 0 c).before w t d = (dats m 0 c).after w t) :
    owns (c : Thread nD τ) ((cfg0.win w).stage (cfg0.slots t w)) fullShare ((dats m 0 c).before w t d)
      ⊢ ((dats m 0 c).leavesExact w t : sProp 𝕄) := by
  unfold Dat.leavesExact; rw [hi]
  cases hf : (cfg0.win w).flush t
  · iintro H; iexists d; iexact H
  · rw [hb hf]

theorem idle3_ok (c : Dev nD) (t : Fin cfg0.N) (h : t.val % 12 = 1 ∨ t.val % 12 = 2) (d) (hf : (cfg0.win 3).flush t = true) :
    (dats m 0 c).before 3 t d = (dats m 0 c).after 3 t := by
  rw [held m c 3 rfl (fun t d => rfl) (at0 t) t (by simp only [at0]; omega)
    (by rw [idle3]; exact decide_eq_false (by simp only [at0]; omega))
    (fun j h1 h2 => by rw [flush3]; simp only [at0, decide_eq_false_iff_not] at *; omega)
    (fun j h1 h2 => by rw [idle3]; simp only [at0, decide_eq_true_eq] at *; omega)]
  rw [after3, after3]
  have e : at0 (at0 t) = at0 t := Fin.ext (by simp only [at0]; omega)
  unfold outO
  rw [if_pos (by simp only [at0]; omega), if_pos (by omega), e]

theorem idle4_ok (c : Dev nD) (t : Fin cfg0.N) (h : t.val % 12 ≠ 1) (d) (hf : (cfg0.win 4).flush t = true) :
    (dats m 0 c).before 4 t d = (dats m 0 c).after 4 t := by
  have hN : t.val < 96 := lt_of_lt_of_eq t.isLt N_0
  have h0 : t.val ≠ 0 := by rw [flush4] at hf; simp only [decide_eq_true_eq] at hf; omega
  rw [held m c 4 rfl (fun t d => rfl) (at1 t) t (by simp only [at1]; omega)
    (by rw [idle4]; exact decide_eq_false (by simp only [at1]; omega))
    (fun j h1 h2 => by rw [flush4]; simp only [at1, decide_eq_false_iff_not] at *; omega)
    (fun j h1 h2 => by rw [idle4]; simp only [at1, decide_eq_true_eq] at *; omega)]
  rw [after4, after4]
  have e : at1 (at1 t) = at1 t := Fin.ext (by simp only [at1]; omega)
  unfold outK
  rw [e]

theorem idle5_ok (c : Dev nD) (t : Fin cfg0.N) (h : t.val % 12 ≠ 2) (d) (hf : (cfg0.win 5).flush t = true) :
    (dats m 0 c).before 5 t d = (dats m 0 c).after 5 t := by
  have hN : t.val < 96 := lt_of_lt_of_eq t.isLt N_0
  have h0 : 2 < t.val := by rw [flush5] at hf; simp only [decide_eq_true_eq] at hf; omega
  rw [held m c 5 rfl (fun t d => rfl) (at2 t) t (by simp only [at2]; omega)
    (by rw [idle5]; exact decide_eq_false (by simp only [at2]; omega))
    (fun j h1 h2 => by rw [flush5]; simp only [at2, decide_eq_false_iff_not] at *; omega)
    (fun j h1 h2 => by rw [idle5]; simp only [at2, decide_eq_true_eq] at *; omega)]
  rw [after5, after5]
  have e : at2 (at2 t) = at2 t := Fin.ext (by simp only [at2]; omega)
  unfold outV
  rw [e]

/-! ## The body obligation -/

theorem inv_zero (c : Dev nD) (n : Fin (cfg0.N + 1)) (h : n.val = 0) :
    (inv m c n : sProp 𝕄) = iprop((∃ d, owns (c : Thread nD τ) scM fullShare d) ∗ (∃ r, prngReg c r)) := by
  unfold inv; rw [dif_pos h]; unfold Pipeline.ΦA; rw [scopedRest0_eq]; simp only [scM, owns_whole]; try rfl

theorem inv_pos (c : Dev nD) (n : Fin (cfg0.N + 1)) (h : n.val ≠ 0) :
    (inv m c n : sProp 𝕄) = iprop(owns (c : Thread nD τ) scM fullShare (rows m c ⟨n.val - 1, by have := n.isLt; omega⟩) ∗ (∃ r, prngReg c r)) := by
  unfold inv; rw [dif_neg h]

/-- Whatever the point, the scratch is owned at some contents. -/
theorem inv_some (c : Dev nD) (n : Fin (cfg0.N + 1)) :
    (inv m c n : sProp 𝕄) ⊢ iprop((∃ d, owns (c : Thread nD τ) scM fullShare d) ∗ (∃ r, prngReg c r)) := by
  by_cases h : n.val = 0
  · rw [inv_zero m c n h]
  · rw [inv_pos m c n h]
    iintro ⟨H, Hg⟩
    isplitl [H]
    · iexists _; iexact H
    iexact Hg

/-- Within a row block the rows are the block's. -/
theorem inv_rows (c : Dev nD) (t : Fin cfg0.N) (h : t.val % 12 ≠ 0) :
    (inv m c t.castSucc : sProp 𝕄) = iprop(owns (c : Thread nD τ) scM fullShare (rows m c t) ∗ (∃ r, prngReg c r)) := by
  rw [inv_pos m c _ (by simp only [Fin.val_castSucc]; omega)]
  have e : at0 ⟨t.castSucc.val - 1, by have := t.castSucc.isLt; simp only [Fin.val_castSucc] at *; have := t.isLt; omega⟩ = at0 t :=
    Fin.ext (by simp only [at0, Fin.val_castSucc]; omega)
  unfold rows
  rw [e]

theorem inv_succ (c : Dev nD) (t : Fin cfg0.N) :
    (inv m c t.succ : sProp 𝕄) = iprop(owns (c : Thread nD τ) scM fullShare (rows m c t) ∗ (∃ r, prngReg c r)) := by
  rw [inv_pos m c _ (by simp only [Fin.val_succ]; omega)]
  rfl

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S1x1024x1024 .f32 := win0_3.stage (cfg0.slots t 3)
abbrev ms4 (t : Fin cfg0.N) : Memref sig .tc .vmem S1024x1024 .f32 := win0_4.stage (cfg0.slots t 4)
abbrev ms5 (t : Fin cfg0.N) : Memref sig .tc .vmem S1024x1024 .f32 := win0_5.stage (cfg0.slots t 5)

def bodyPre (c : Dev nD) (t : Fin cfg0.N) : sProp 𝕄 :=
  iprop(inv m c t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop(inv m c t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point, by its column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, inv_succ]
  rw [leaves_live m c 0 t rfl, leaves_live m c 1 t rfl, leaves_live m c 2 t rfl, after0, after1, after2]
  have hN : t.val < 96 := lt_of_lt_of_eq t.isLt N_0
  rcases (by omega : t.val % 12 = 0 ∨ t.val % 12 = 1 ∨ t.val % 12 = 2 ∨ 3 ≤ t.val % 12) with h | h | h | h
  · have e : at0 t = t := Fin.ext (by simp only [at0]; omega)
    rw [leaves_live m c 3 t (by rw [idle3]; simp only [decide_eq_false_iff_not]; omega), after3]
    unfold outO rows
    rw [if_pos (by omega), e]
    iintro ⟨HI, Ho, ⟨%d0, H0⟩, ⟨%d1, H1⟩, ⟨%d2, H2⟩, ⟨%d3, H3⟩, ⟨%d4, H4⟩, ⟨%d5, H5⟩⟩
    ihave HI' := (inv_some m c t.castSucc) $$ HI
    icases HI' with ⟨HS, Hg⟩
    iapply (runA c (grid0.coords t) _ _ _ _ _ _ _ _ _ _ _ _ _ _ (iblk m c 0 t) (iblk m c 1 t) (iblk m c 2 t)
      ((cond1_iff t).mpr h) (fun h' => by have := (cond2_iff t).mp h'; omega) (fun h' => by have := (cond3_iff t).mp h'; omega) (fun h' => by have := (cond4_iff t).mp h'; omega) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · iapply (leaves_idle m c 4 t (by rw [idle4]; simp only [decide_eq_true_eq]; omega) d4 (idle4_ok m c t (by omega) d4))
      iexact H4
    iapply (leaves_idle m c 5 t (by rw [idle5]; simp only [decide_eq_true_eq]; omega) d5 (idle5_ok m c t (by omega) d5))
    iexact H5
  · have e : at1 t = t := Fin.ext (by simp only [at1]; omega)
    rw [leaves_live m c 4 t (by rw [idle4]; simp only [decide_eq_false_iff_not]; omega), after4, inv_rows m c t (by omega)]
    unfold outK
    rw [e]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (iblk m c 2 t) (rows m c t)
      (fun h' => by have := (cond1_iff t).mp h'; omega) ((cond2_iff t).mpr h) (fun h' => by have := (cond3_iff t).mp h'; omega) (fun h' => by have := (cond4_iff t).mp h'; omega) Set.univ _)
    isplitl [H2]; · iexact H2
    isplitl [H4]; · iexists _; iexact H4
    isplitl [HS]; · iexact HS
    iintro ⟨H2, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_idle m c 3 t (by rw [idle3]; simp only [decide_eq_true_eq]; omega) d3 (idle3_ok m c t (by omega) d3))
      iexact H3
    isplitl [H4]; · iexact H4
    iapply (leaves_idle m c 5 t (by rw [idle5]; simp only [decide_eq_true_eq]; omega) d5 (idle5_ok m c t (by omega) d5))
    iexact H5
  · have e : at2 t = t := Fin.ext (by simp only [at2]; omega)
    rw [leaves_live m c 5 t (by rw [idle5]; simp only [decide_eq_false_iff_not]; omega), after5, inv_rows m c t (by omega)]
    unfold outV
    rw [e]
    iintro ⟨⟨HS, Hg⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ (iblk m c 2 t) (rows m c t)
      (fun h' => by have := (cond1_iff t).mp h'; omega) (fun h' => by have := (cond2_iff t).mp h'; omega) ((cond3_iff t).mpr h) (fun h' => by have := (cond4_iff t).mp h'; omega) Set.univ _)
    isplitl [H2]; · iexact H2
    isplitl [H5]; · iexists _; iexact H5
    isplitl [HS]; · iexact HS
    iintro ⟨H2, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_idle m c 3 t (by rw [idle3]; simp only [decide_eq_true_eq]; omega) d3 (idle3_ok m c t (by omega) d3))
      iexact H3
    isplitl [H4]
    · iapply (leaves_idle m c 4 t (by rw [idle4]; simp only [decide_eq_true_eq]; omega) d4 (idle4_ok m c t (by omega) d4))
      iexact H4
    iexact H5
  · rw [leaves_live m c 3 t (by rw [idle3]; simp only [decide_eq_false_iff_not]; omega), after3, inv_rows m c t (by omega)]
    unfold outO
    rw [if_neg (by omega)]
    iintro ⟨⟨HS, Hg⟩, Ho, ⟨%d0, H0⟩, ⟨%d1, H1⟩, ⟨%d2, H2⟩, ⟨%d3, H3⟩, ⟨%d4, H4⟩, ⟨%d5, H5⟩⟩
    iapply (runD c (grid0.coords t) _ _ _ _ _ _ _ _ _ _ _ _ _ _ (iblk m c 2 t) (rows m c t)
      (fun h' => by have := (cond1_iff t).mp h'; omega) (fun h' => by have := (cond2_iff t).mp h'; omega) (fun h' => by have := (cond3_iff t).mp h'; omega) ((cond4_iff t).mpr h) Set.univ _)
    isplitl [H2]; · iexact H2
    isplitl [H3]; · iexists _; iexact H3
    isplitl [HS]; · iexact HS
    iintro ⟨H2, H3, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · iapply (leaves_idle m c 4 t (by rw [idle4]; simp only [decide_eq_true_eq]; omega) d4 (idle4_ok m c t (by omega) d4))
      iexact H4
    iapply (leaves_idle m c 5 t (by rw [idle5]; simp only [decide_eq_true_eq]; omega) d5 (idle5_ok m c t (by omega) d5))
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ inv m c 0
      rw [show (inv m c 0 : sProp 𝕄) = Pipeline.ΦA spec0 c from dif_pos rfl])
    (hout := fun c => by
      show inv m c (Fin.last cfg0.N) ⊢ _
      refine (inv_some m c _).trans ?_
      unfold Pipeline.ΦA; rw [scopedRest0_eq]; simp only [scM, owns_whole]; exact .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments as they were and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InProj

end
-- ==== Proof.InProj.Ker.lean ====
module

public import proofs.«01_k».proof.Proof.InProj.Block
public import proofs.«01_k».proof.Proof.InProj.Frame

/-! What the input projection leaves in its three result arrays. -/

@[expose] public section

set_option maxRecDepth 16384

noncomputable section

namespace Cert.InProj

open Idealize.ShloMosaic Idealize.SL.Sem
open Cert.Kernel2Ideal Cert.Kernel2Ideal.Gen

/-- Where the grid's point `t` finds each block. -/
theorem idx : ∀ t : Fin cfg0.N, win0_0.index t = ![t.val / 12, 0] ∧ win0_1.index t = ![0, 0] ∧ win0_2.index t = ![0, t.val % 12]
    ∧ win0_3.index t = ![if t.val % 12 ≤ 2 then 0 else t.val % 12 - 2, t.val / 12, 0]
    ∧ win0_4.index t = ![if t.val % 12 = 0 then t.val / 12 - 1 else t.val / 12, 0]
    ∧ win0_5.index t = ![if t.val % 12 ≤ 1 then t.val / 12 - 1 else t.val / 12, 0] :=
  (by decide +kernel : ∀ t : Fin grid0.N, _)

/-- The row of the whole array that is row `r` of `t`'s row block. -/
abbrev row (t : Fin cfg0.N) (r : Fin 1024) : Fin 8192 :=
  ⟨t.val / 12 * 1024 + r.val, by have := t.isLt; have : cfg0.N = 96 := N_0; omega⟩

/-- `t`'s column block. -/
abbrev colOf (t : Fin cfg0.N) : Fin 12 := ⟨t.val % 12, by omega⟩

variable (m : (ℓ : Loc nD τ sig) → Buf (Elt Ideal) ℓ) (c : Dev nD) (t : Fin cfg0.N)

abbrev X : FVec Ideal Cert.Reference2Ideal.S8192x2048 .f32 := m ((c.tc : Thread _ _).loc main_arg0)
abbrev G : FVec Ideal Cert.Reference2Ideal.S2048 .f32 := m ((c.tc : Thread _ _).loc main_arg1)
abbrev W : FVec Ideal Cert.Reference2Ideal.S2048x12288 .f32 := m ((c.tc : Thread _ _).loc main_arg2)

theorem read0 (r : Fin 1024) (k : Fin 2048) : iblk m c 0 t (ix2 r k) = X m c (ix2 (row t r) k) := by
  have e := (idx t).1
  show V m c main_arg0 (((cfg0.win 0).blk t).view.emb (ix2 r k)) = _
  rw [V_main_arg0]
  congr 1
  blk_ext [e]

theorem read1 (k : Fin 2048) : iblk m c 1 t (ix2 0 k) = G m c (ix1 k) := by
  have e := (idx t).2.1
  have hi : ((cfg0.win 1).blk t).view.emb (ix2 0 k) = (ix2 0 k : S1x2048.Idx) := by blk_ext [e]
  show V m c main_v1 (((cfg0.win 1).blk t).view.emb (ix2 0 k)) = _
  rw [hi]
  unfold V
  entry_read
  pointwise

theorem read2 (k : Fin 2048) (n : Fin 1024) : iblk m c 2 t (ix2 k n) = W m c (ix2 k (col (colOf t) n)) := by
  have e := (idx t).2.2.1
  show V m c main_v0 (((cfg0.win 2).blk t).view.emb (ix2 k n)) = _
  unfold V
  entry_read
  show m ((c.tc : Thread _ _).loc main_arg2) _ = _
  congr 1
  unfold col
  blk_ext [e]

theorem rows_eq (r : Fin 1024) (k : Fin 2048) :
    rows m c t (ix2 r k) = nrm (fun k => X m c (ix2 (row t r) k)) (fun k => G m c (ix1 k)) k := by
  unfold rows
  rw [hid_eq]
  simp only [read0, read1]
  have e : row (at0 t) r = row t r := Fin.ext (by simp only [row, at0]; omega)
  rw [e]

theorem outO_eq (r n : Fin 1024) :
    outO m c t (ix3 0 r n) = proj (X m c) (G m c) (W m c) (row t r) (col (colOf (if t.val % 12 ≤ 2 then at0 t else t)) n) := by
  unfold outO
  by_cases h : t.val % 12 ≤ 2
  · rw [if_pos h, if_pos h, slab_eq]
    simp only [read0, read1, read2]
    have e : row (at0 t) r = row t r := Fin.ext (by simp only [row, at0]; omega)
    rw [e]
    rfl
  · rw [if_neg h, if_neg h, projO_eq]
    simp only [rows_eq, read2]
    rfl

theorem outK_eq (r n : Fin 1024) : outK m c t (ix2 r n) = proj (X m c) (G m c) (W m c) (row (at1 t) r) (col 1 n) := by
  unfold outK
  rw [projK_eq]
  have e : colOf (at1 t) = 1 := Fin.ext (by simp only [colOf, at1]; show _ = 1; omega)
  simp only [rows_eq, read2, e]
  rfl

theorem outV_eq (r n : Fin 1024) : outV m c t (ix2 r n) = proj (X m c) (G m c) (W m c) (row (at2 t) r) (col 2 n) := by
  unfold outV
  rw [projV_eq]
  have e : colOf (at2 t) = 2 := Fin.ext (by simp only [colOf, at2]; show _ = 2; omega)
  simp only [rows_eq, read2, e]
  rfl

theorem place3 (r n : Fin 1024) : ((cfg0.win 3).blk t).view.emb (ix3 0 r n)
    = (ix3 (if h : t.val % 12 ≤ 2 then 0 else ⟨t.val % 12 - 2, by omega⟩) (row t r) n : S10x8192x1024.Idx) := by
  have e := (idx t).2.2.2.1
  split <;> rename_i h <;> simp only [h, if_true, if_false] at e <;> blk_ext [e]

theorem place4 (r n : Fin 1024) (ht : t.val ≠ 0) : ((cfg0.win 4).blk t).view.emb (ix2 r n) = (ix2 (row (at1 t) r) n : S8192x1024.Idx) := by
  have e := (idx t).2.2.2.2.1
  have e' : (if t.val % 12 = 0 then t.val / 12 - 1 else t.val / 12) = (at1 t).val / 12 := by
    simp only [at1]; split <;> omega
  rw [e'] at e
  blk_ext [e]

theorem place5 (r n : Fin 1024) (ht : 1 < t.val) : ((cfg0.win 5).blk t).view.emb (ix2 r n) = (ix2 (row (at2 t) r) n : S8192x1024.Idx) := by
  have e := (idx t).2.2.2.2.2
  have e' : (if t.val % 12 ≤ 1 then t.val / 12 - 1 else t.val / 12) = (at2 t).val / 12 := by
    simp only [at2]; split <;> omega
  rw [e'] at e
  blk_ext [e]

/-- The column block a slab holds is the one its stores come from. -/
theorem slab_col : colBlock (if h : t.val % 12 ≤ 2 then 0 else ⟨t.val % 12 - 2, by omega⟩) = colOf (if t.val % 12 ≤ 2 then at0 t else t) := by
  by_cases h : t.val % 12 ≤ 2
  · rw [dif_pos h, if_pos h]
    refine Fin.ext ?_
    show 0 = (at0 t).val % 12
    simp only [at0]
    omega
  · rw [dif_neg h, if_neg h]
    unfold colBlock
    rw [if_neg (by simp only; omega)]
    exact Fin.ext (by simp only; omega)

/-- The first result: the ten column blocks. -/
theorem ker_slabs : (dats m 0 c).arrAt 3 cfg0.N = slabs (X m c) (G m c) (W m c) := by
  refine (dats m 0 c).arrAt_eq_of_covers 3 _ (by decide +kernel) fun t hf y => ?_
  obtain ⟨u, r, n, rfl⟩ : ∃ (u : Fin 1) (a b : Fin 1024), y = ix3 u a b := ⟨y 0, y 1, y 2, eq_ix3 y⟩
  obtain rfl : u = 0 := Subsingleton.elim _ _
  rw [place3]
  blk_simp
  rw [after3]
  refine (outO_eq m c t r n).trans ?_
  exact congrArg (fun b => proj (X m c) (G m c) (W m c) (row t r) (col b n)) (slab_col t).symm

theorem ker_keys : (dats m 0 c).arrAt 4 cfg0.N = block 1 (X m c) (G m c) (W m c) := by
  refine (dats m 0 c).arrAt_eq_of_covers 4 _ (by decide +kernel) fun t hf y => ?_
  obtain ⟨r, n, rfl⟩ : ∃ (a b : Fin 1024), y = ix2 a b := ⟨y 0, y 1, eq_ix2 y⟩
  rw [flush4] at hf
  simp only [decide_eq_true_eq] at hf
  rw [place4 t r n (by omega)]
  blk_simp
  rw [after4]
  exact outK_eq m c t r n

theorem ker_values : (dats m 0 c).arrAt 5 cfg0.N = block 2 (X m c) (G m c) (W m c) := by
  refine (dats m 0 c).arrAt_eq_of_covers 5 _ (by decide +kernel) fun t hf y => ?_
  obtain ⟨r, n, rfl⟩ : ∃ (a b : Fin 1024), y = ix2 a b := ⟨y 0, y 1, eq_ix2 y⟩
  rw [flush5] at hf
  simp only [decide_eq_true_eq] at hf
  rw [place5 t r n (by omega)]
  blk_simp
  rw [after5]
  exact outV_eq m c t r n

end Cert.InProj

end
-- ==== Proof.InProj.Ref.lean ====
module

public import proofs.«01_k».proof.Proof.InProj.Math

/-! What the reference of the input projection computes. -/

@[expose] public section

set_option maxRecDepth 16384
set_option maxHeartbeats 4000000

noncomputable section

namespace Cert.InProj

open Idealize.ShloMosaic Idealize.SL.Sem
open Cert.Reference2Ideal Cert.Reference2Ideal.Gen

variable (m : (ℓ : Loc nD τ sig) → Buf (Elt Ideal) ℓ) (c : Dev nD)

/-- A choice whose two values are both `c`, each under its condition, is `c`. -/
theorem of_cases {α : Type} {P : Prop} [Decidable P] {a : P → α} {b : ¬ P → α} {c : α} (ha : ∀ h, a h = c) (hb : ∀ h, b h = c) :
    dite P a b = c := by
  by_cases h : P
  · rw [dif_pos h, ha]
  · rw [dif_neg h, hb]

theorem col_val (p : Fin 10) (n : Fin 1024) : (col (colBlock p) n).val = (if p.val = 0 then 0 else p.val + 2) * 1024 + n.val := by
  unfold col colBlock
  split_ifs <;> rfl

theorem ref_slabs : Cert.Reference2Ideal.Value.res_out0 m c
      = slabs (m ((c.tc : Thread _ _).loc main_arg0)) (m ((c.tc : Thread _ _).loc main_arg1)) (m ((c.tc : Thread _ _).loc main_arg2)) := by
  funext i
  obtain ⟨p, r, n, rfl⟩ : ∃ (p : Fin 10) (a : Fin 8192) (b : Fin 1024), i = ix3 p a b := ⟨i 0, i 1, i 2, eq_ix3 i⟩
  unfold Cert.Reference2Ideal.Value.res_out0 Cert.Reference2Ideal.Value.res_main_v38
  clean_types
  pointwise [slabs, proj, dot, nrm]
  repeat' refine of_cases (fun h => ?_) (fun h => ?_)
  all_goals
    refine Finset.sum_congr rfl fun k _ => congrArg (_ * ·) (congrArg _ (congrArg (ix2 k) (Fin.ext ?_)))
    rw [col_val]
    simp only
    split <;> omega

/-- The keys' and the values' blocks, as the reference returns them. -/
theorem ref_block (b : Fin 12) (o : Fin 2 → ℕ) (h) (hb : o = ![0, b.val * 1024]) (x : FVec Ideal S8192x2048 .f32) (g : FVec Ideal S2048 .f32)
    (w : FVec Ideal S2048x12288 .f32) :
    extractStridedSlice S8192x1024 o (Host.dotGeneral dot_S8192x2048_S2048x12288_S8192x12288_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) w) h
      = block b x g w := by
  subst hb
  funext i
  obtain ⟨r, n, rfl⟩ : ∃ (a : Fin 8192) (b : Fin 1024), i = ix2 a b := ⟨i 0, i 1, eq_ix2 i⟩
  pointwise [block, proj, dot, nrm, col]

end Cert.InProj

end
-- ==== Proof.InProj.Claim.lean ====
module

public import proofs.«01_k».proof.Defs
public import proofs.«01_k».proof.Proof.InProj.Ker
public import proofs.«01_k».proof.Proof.InProj.Ref
public import proofs.«01_k».proof.Proof.Gen.Reference2Ideal
public import proofs.«01_k».proof.Proof.Gen.Kernel2Ideal

/-! The input projection: kernel and reference end with the same three arrays. -/

@[expose] public section

set_option maxRecDepth 16384

noncomputable section

namespace Cert.InProj

open Idealize.ShloMosaic Idealize.SL.Sem

/-- The run of the kernel, its three results and its arguments read off. -/
theorem run_values (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem ((c.tc : Thread _ _).loc Cert.Kernel2Ideal.main_v2_0) = (dats m 0 c).arrAt 3 Cert.Kernel2Ideal.cfg0.N
        ∧ r.2.mem ((c.tc : Thread _ _).loc Cert.Kernel2Ideal.main_v2_1) = (dats m 0 c).arrAt 4 Cert.Kernel2Ideal.cfg0.N
        ∧ r.2.mem ((c.tc : Thread _ _).loc Cert.Kernel2Ideal.main_v2_2) = (dats m 0 c).arrAt 5 Cert.Kernel2Ideal.cfg0.N
        ∧ r.2.mem ((c.tc : Thread _ _).loc Cert.Kernel2Ideal.main_arg0) = m ((c.tc : Thread _ _).loc Cert.Kernel2Ideal.main_arg0)
        ∧ r.2.mem ((c.tc : Thread _ _).loc Cert.Kernel2Ideal.main_arg1) = m ((c.tc : Thread _ _).loc Cert.Kernel2Ideal.main_arg1)
        ∧ r.2.mem ((c.tc : Thread _ _).loc Cert.Kernel2Ideal.main_arg2) = m ((c.tc : Thread _ _).loc Cert.Kernel2Ideal.main_arg2)) :=
  (θ_run _ _ _).mono (fun _ h c => ⟨(h.1 c).1 3, (h.1 c).1 4, (h.1 c).1 5, h.2 c⟩)
    (θ_run_and (run_main m ρ) (Cert.Kernel2Ideal.Gen.frame_of m ρ (dats m) (A_eq m) (run_main m ρ)))

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => _, fun c => _, fun c => _, run_values m g, ?_⟩
  refine (θ_run _ _ _).mono (fun r h c => ⟨(h c).1.trans ?_, (h c).2.1.trans ?_, (h c).2.2.1.trans ?_, (h c).2.2.2⟩) (Cert.Reference2Ideal.Value.run m' g')
  · obtain ⟨h0, h1, h2⟩ := hagree c
    refine (ref_slabs m' c).trans ?_
    rw [h0, h1, h2]
    exact (ker_slabs m c).symm
  · obtain ⟨h0, h1, h2⟩ := hagree c
    refine (ref_block 1 _ _ rfl _ _ _).trans ?_
    rw [h0, h1, h2]
    exact (ker_keys m c).symm
  · obtain ⟨h0, h1, h2⟩ := hagree c
    refine (ref_block 2 _ _ rfl _ _ _).trans ?_
    rw [h0, h1, h2]
    exact (ker_values m c).symm

theorem frame_ref : Cert.quiescent_Reference2Ideal (hReference2Ideal := Cert.Reference2Ideal.Gen.facts) := fun m g _ =>
  (θ_run _ _ _).mono (fun r h => ⟨fun c => (h c).2.2.2, sem_eq_zero_of_no_sems (by decide) r.2⟩)
    (Cert.Reference2Ideal.Value.run m g)

theorem frame_ker : Cert.quiescent_Kernel2Ideal (hKernel2Ideal := Cert.Kernel2Ideal.Gen.facts) := fun m g _ => frame m g

end Cert.InProj

end
-- ==== Proof.InProj.Same.lean ====
module

public import proofs.«01_k».proof.Defs
public import proofs.«01_k».proof.Proof.InProj.Frame
public import proofs.«01_k».proof.Proof.Gen.Kernel2

/-! The kernel at the machine's own floats: its program is the idealized one's text, so the one run serves. -/

@[expose] public section

set_option maxRecDepth 16384

noncomputable section

namespace Cert.InProj

open Idealize.ShloMosaic Idealize.SL.Sem

theorem defs₀_same : Cert.Kernel2.defs₀ (F := Bits) = Cert.Kernel2Ideal.defs₀ (F := Bits) := by
  refine congrArg Defs.onTc ?_
  funext l a
  match l, a with
  | 0, (t, s) => rfl

theorem defs_same : Cert.Kernel2.defs (F := Bits) = Cert.Kernel2Ideal.defs (F := Bits) :=
  congrArg (Pipeline.defs Cert.Kernel2.pcfgs) defs₀_same

theorem frame_bits : Cert.quiescent_Kernel2 (hKernel2 := Cert.Kernel2.Gen.facts) := by
  intro m g _
  rw [defs_same]
  exact frame (F := Bits) m g

end Cert.InProj

end
-- ==== Proof.Merge.Math.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Tactic.CleanTypes

/-! The merge layer, element by element: what one row of the result is, as a function of the arrays. -/

@[expose] public section

set_option maxRecDepth 16384

noncomputable section

namespace Cert.Merge

open Idealize.ShloMosaic Idealize.SL.Sem

/-- The logistic gate of one number. -/
def gate (z : EReal) : EReal := Ideal.div 1 (1 + Ideal.exp (-z))

/-- The two halves of a row of 2048 numbers, kept in two arrays of 1024 columns. -/
def halves (f g : Fin 1024 → EReal) (j : Fin 2048) : EReal :=
  if h : j.val < 1024 then f ⟨j.val, h⟩ else g ⟨j.val - 1024, by omega⟩

/-- One branch: a row of the attention's output, gated by `z`, through its output projection. -/
def branch (o z : Fin 1024 → EReal) (w : Fin 1024 → Fin 2048 → EReal) (n : Fin 2048) : EReal :=
  ∑ k : Fin 1024, o k * (z k * gate (z k)) * w k n

/-- The gated mix of the two branches through the last projection. -/
def mixed (ga gb ya yb : Fin 2048 → EReal) (w : Fin 2048 → Fin 2048 → EReal) (n : Fin 2048) : EReal :=
  ∑ j : Fin 2048, (gate (ga j) * ya j + gate (gb j) * yb j) * w j n

/-- The residual plus the normed row. -/
def normed (x r g : Fin 2048 → EReal) (n : Fin 2048) : EReal :=
  x n + r n * Ideal.rsqrt (Ideal.div (∑ j : Fin 2048, r j * r j) (Ideal.ofBits .f32 0x45000000#32)
    + Ideal.ofBits .f32 0x358637BD#32) * g n

/-- The result array as a function of the eight arguments, for any number of rows. -/
def out {R : ℕ} (x : (⟨2, ![R, 2048]⟩ : Shape).Idx → EReal) (oa ob : (⟨2, ![R, 1024]⟩ : Shape).Idx → EReal)
    (p : (⟨3, ![10, R, 1024]⟩ : Shape).Idx → EReal) (wa wb : (⟨2, ![1024, 2048]⟩ : Shape).Idx → EReal)
    (wo : (⟨2, ![2048, 2048]⟩ : Shape).Idx → EReal) (g : (⟨1, ![2048]⟩ : Shape).Idx → EReal)
    (i : (⟨2, ![R, 2048]⟩ : Shape).Idx) : EReal :=
  normed (fun n => x (ix2 (i 0) n))
    (mixed (halves (fun k => p (ix3 6 (i 0) k)) (fun k => p (ix3 7 (i 0) k)))
      (halves (fun k => p (ix3 8 (i 0) k)) (fun k => p (ix3 9 (i 0) k)))
      (branch (fun k => oa (ix2 (i 0) k)) (fun k => p (ix3 1 (i 0) k)) fun k n => wa (ix2 k n))
      (branch (fun k => ob (ix2 (i 0) k)) (fun k => p (ix3 5 (i 0) k)) fun k n => wb (ix2 k n))
      (fun j n => wo (ix2 j n)))
    (fun n => g (ix1 n)) (i 1)

end Cert.Merge

end
-- ==== Proof.Merge.Block.lean ====
module

public import proofs.«01_k».proof.Proof.Merge.Math

/-! What the merge kernel's body computes of its input blocks, element by element. -/

@[expose] public section

set_option maxRecDepth 16384
set_option maxHeartbeats 4000000

noncomputable section

namespace Cert.Merge

open Idealize.ShloMosaic Idealize.SL.Sem
open Cert.Kernel3Ideal Cert.Kernel3Ideal.Gen

/-- `0 - x` is the negative of `x`. -/
theorem zero_sub_ext (x : EReal) : 0 - x = -x := by rw [sub_eq_add_neg, zero_add]

theorem pay2_eq (P1 : Vec Ideal S1x256x1024 .f32) (P2 : Vec Ideal S256x1024 .f32) (P3 : Vec Ideal S1024x2048 .bf16)
    (r : Fin 256) (n : Fin 2048) : k0_pay2 P1 P2 P3 (ix2 r n)
      = branch (fun k => P2 (ix2 r k)) (fun k => P1 (ix3 0 r k)) (fun k n => P3 (ix2 k n)) n := by
  pointwise [k0_pay2, zero_sub_ext, branch, gate]

theorem pay3_eq (P1 : Vec Ideal S1x256x1024 .f32) (P2 : Vec Ideal S256x1024 .f32) (P3 : Vec Ideal S1024x2048 .bf16)
    (r : Fin 256) (n : Fin 2048) : k0_pay3 P1 P2 P3 (ix2 r n)
      = branch (fun k => P2 (ix2 r k)) (fun k => P1 (ix3 0 r k)) (fun k n => P3 (ix2 k n)) n := by
  pointwise [k0_pay3, zero_sub_ext, branch, gate]

theorem pay5_eq (A B : FVec Ideal S256x2048 .f32) (P7 P8 P9 P10 : Vec Ideal S1x256x1024 .f32)
    (P11 : Vec Ideal S2048x2048 .bf16) (r : Fin 256) (n : Fin 2048) :
    k0_pay5 A B (k0_pay4 P7) P8 P9 P10 P11 (ix2 r n)
      = mixed (halves (fun k => P7 (ix3 0 r k)) fun k => P8 (ix3 0 r k))
            (halves (fun k => P9 (ix3 0 r k)) fun k => P10 (ix3 0 r k))
            (fun j => A (ix2 r j)) (fun j => B (ix2 r j)) (fun j n => P11 (ix2 j n)) n := by
  pointwise [k0_pay5, k0_pay4, zero_sub_ext, mixed, halves, gate]

theorem pay6_eq (A B : FVec Ideal S256x2048 .f32) (C : FVec Ideal S256x1024 .f32) (P8 P9 P10 : Vec Ideal S1x256x1024 .f32)
    (P11 : Vec Ideal S2048x2048 .bf16) (r : Fin 256) :
    k0_pay6 A B C P8 P9 P10 P11 (ix2 r 0)
      = Ideal.div (∑ j : Fin 2048, k0_pay5 A B C P8 P9 P10 P11 (ix2 r j) * k0_pay5 A B C P8 P9 P10 P11 (ix2 r j))
          (Ideal.ofBits .f32 0x45000000#32) + Ideal.ofBits .f32 0x358637BD#32 := by
  unfold k0_pay6
  generalize k0_pay5 A B C P8 P9 P10 P11 = X
  pointwise

theorem pay1_eq (X P0 : Vec Ideal S256x2048 .f32) (Y : FVec Ideal S256x1 .f32) (P12 : Vec Ideal S1x2048 .f32)
    (r : Fin 256) (n : Fin 2048) : k0_pay1 X P0 Y P12 (ix2 r n)
      = P0 (ix2 r n) + X (ix2 r n) * Ideal.rsqrt (Y (ix2 r 0)) * P12 (ix2 0 n) := by
  pointwise [k0_pay1]

/-- One block of the result: the body's arithmetic on its thirteen input blocks, row `r`. -/
theorem block_eq (P0 : Vec Ideal S256x2048 .f32) (P1 : Vec Ideal S1x256x1024 .f32) (P2 : Vec Ideal S256x1024 .f32)
    (P3 : Vec Ideal S1024x2048 .bf16) (P4 : Vec Ideal S1x256x1024 .f32) (P5 : Vec Ideal S256x1024 .f32)
    (P6 : Vec Ideal S1024x2048 .bf16) (P7 P8 P9 P10 : Vec Ideal S1x256x1024 .f32) (P11 : Vec Ideal S2048x2048 .bf16)
    (P12 : Vec Ideal S1x2048 .f32) (r : Fin 256) (n : Fin 2048) :
    k0_pay1 (k0_pay5 (k0_pay2 P1 P2 P3) (k0_pay3 P4 P5 P6) (k0_pay4 P7) P8 P9 P10 P11) P0
        (k0_pay6 (k0_pay2 P1 P2 P3) (k0_pay3 P4 P5 P6) (k0_pay4 P7) P8 P9 P10 P11) P12 (ix2 r n)
      = normed (fun n => P0 (ix2 r n))
          (mixed (halves (fun k => P7 (ix3 0 r k)) fun k => P8 (ix3 0 r k))
            (halves (fun k => P9 (ix3 0 r k)) fun k => P10 (ix3 0 r k))
            (branch (fun k => P2 (ix2 r k)) (fun k => P1 (ix3 0 r k)) fun k n => P3 (ix2 k n))
            (branch (fun k => P5 (ix2 r k)) (fun k => P4 (ix3 0 r k)) fun k n => P6 (ix2 k n))
            (fun j n => P11 (ix2 j n)))
          (fun n => P12 (ix2 0 n)) n := by
  have h5 : ∀ v, k0_pay5 (k0_pay2 P1 P2 P3) (k0_pay3 P4 P5 P6) (k0_pay4 P7) P8 P9 P10 P11 (ix2 r v) = _ := fun v => pay5_eq _ _ P7 P8 P9 P10 P11 r v
  rw [pay1_eq, pay6_eq]
  simp only [h5, pay2_eq, pay3_eq, normed]

end Cert.Merge

end
-- ==== Proof.Merge.Ker.lean ====
module

public import proofs.«01_k».proof.Proof.Merge.Block

/-! What the merge kernel leaves in its result array. -/

@[expose] public section

set_option maxRecDepth 16384
set_option maxHeartbeats 400000

noncomputable section

namespace Cert.Merge

open Idealize.ShloMosaic Idealize.SL.Sem
open Cert.Kernel3Ideal Cert.Kernel3Ideal.Gen

/-- Where the grid's point `t` finds each block. -/
theorem idx : ∀ t : Fin cfg0.N, win0_0.index t = ![t.val, 0] ∧ win0_1.index t = ![t.val, 0] ∧ win0_2.index t = ![t.val, 0]
    ∧ win0_3.index t = ![1, t.val, 0] ∧ win0_4.index t = ![5, t.val, 0] ∧ win0_5.index t = ![6, t.val, 0]
    ∧ win0_6.index t = ![7, t.val, 0] ∧ win0_7.index t = ![8, t.val, 0] ∧ win0_8.index t = ![9, t.val, 0]
    ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

theorem N_eq : cfg0.N = 32 := rfl

/-- The row of the whole array that is row `r` of block `t`. -/
abbrev row (t : Fin cfg0.N) (r : Fin 256) : Fin 8192 :=
  ⟨t.val * 256 + r.val, by have := t.isLt; have := N_eq; omega⟩

variable (m : (ℓ : Loc nD τ sig) → Buf (Elt Ideal) ℓ) (c : Dev nD) (t : Fin cfg0.N)

theorem read0 (r : Fin 256) (n : Fin 2048) :
    iblk m c 0 t (ix2 r n) = m ((c.tc : Thread _ _).loc main_arg0) (ix2 (row t r) n) := by
  have e := (idx t).1
  show V m c main_arg0 (((cfg0.win 0).blk t).view.emb (ix2 r n)) = _
  rw [V_main_arg0]
  congr 1
  blk_ext [e]

theorem read1 (r : Fin 256) (n : Fin 1024) :
    iblk m c 1 t (ix2 r n) = m ((c.tc : Thread _ _).loc main_arg1) (ix2 (row t r) n) := by
  have e := (idx t).2.1
  show V m c main_arg1 (((cfg0.win 1).blk t).view.emb (ix2 r n)) = _
  rw [V_main_arg1]
  congr 1
  blk_ext [e]

theorem read2 (r : Fin 256) (n : Fin 1024) :
    iblk m c 2 t (ix2 r n) = m ((c.tc : Thread _ _).loc main_arg2) (ix2 (row t r) n) := by
  have e := (idx t).2.2.1
  show V m c main_arg2 (((cfg0.win 2).blk t).view.emb (ix2 r n)) = _
  rw [V_main_arg2]
  congr 1
  blk_ext [e]

theorem read3 (r : Fin 256) (n : Fin 1024) :
    iblk m c 3 t (ix3 0 r n) = m ((c.tc : Thread _ _).loc main_arg3) (ix3 1 (row t r) n) := by
  have e := (idx t).2.2.2.1
  show V m c main_arg3 (((cfg0.win 3).blk t).view.emb (ix3 0 r n)) = _
  rw [V_main_arg3]
  congr 1
  blk_ext [e]

theorem read4 (r : Fin 256) (n : Fin 1024) :
    iblk m c 4 t (ix3 0 r n) = m ((c.tc : Thread _ _).loc main_arg3) (ix3 5 (row t r) n) := by
  have e := (idx t).2.2.2.2.1
  show V m c main_arg3 (((cfg0.win 4).blk t).view.emb (ix3 0 r n)) = _
  rw [V_main_arg3]
  congr 1
  blk_ext [e]

theorem read5 (r : Fin 256) (n : Fin 1024) :
    iblk m c 5 t (ix3 0 r n) = m ((c.tc : Thread _ _).loc main_arg3) (ix3 6 (row t r) n) := by
  have e := (idx t).2.2.2.2.2.1
  show V m c main_arg3 (((cfg0.win 5).blk t).view.emb (ix3 0 r n)) = _
  rw [V_main_arg3]
  congr 1
  blk_ext [e]

theorem read6 (r : Fin 256) (n : Fin 1024) :
    iblk m c 6 t (ix3 0 r n) = m ((c.tc : Thread _ _).loc main_arg3) (ix3 7 (row t r) n) := by
  have e := (idx t).2.2.2.2.2.2.1
  show V m c main_arg3 (((cfg0.win 6).blk t).view.emb (ix3 0 r n)) = _
  rw [V_main_arg3]
  congr 1
  blk_ext [e]

theorem read7 (r : Fin 256) (n : Fin 1024) :
    iblk m c 7 t (ix3 0 r n) = m ((c.tc : Thread _ _).loc main_arg3) (ix3 8 (row t r) n) := by
  have e := (idx t).2.2.2.2.2.2.2.1
  show V m c main_arg3 (((cfg0.win 7).blk t).view.emb (ix3 0 r n)) = _
  rw [V_main_arg3]
  congr 1
  blk_ext [e]

theorem read8 (r : Fin 256) (n : Fin 1024) :
    iblk m c 8 t (ix3 0 r n) = m ((c.tc : Thread _ _).loc main_arg3) (ix3 9 (row t r) n) := by
  have e := (idx t).2.2.2.2.2.2.2.2.1
  show V m c main_arg3 (((cfg0.win 8).blk t).view.emb (ix3 0 r n)) = _
  rw [V_main_arg3]
  congr 1
  blk_ext [e]

theorem read9 (r : Fin 1024) (n : Fin 2048) :
    iblk m c 9 t (ix2 r n) = m ((c.tc : Thread _ _).loc main_arg4) (ix2 r n) := by
  have e := (idx t).2.2.2.2.2.2.2.2.2.1
  show V m c main_v0 (((cfg0.win 9).blk t).view.emb (ix2 r n)) = _
  unfold V
  entry_read
  show m ((c.tc : Thread _ _).loc main_arg4) _ = _
  congr 1
  blk_ext [e]

theorem read10 (r : Fin 1024) (n : Fin 2048) :
    iblk m c 10 t (ix2 r n) = m ((c.tc : Thread _ _).loc main_arg5) (ix2 r n) := by
  have e := (idx t).2.2.2.2.2.2.2.2.2.2.1
  show V m c main_v1 (((cfg0.win 10).blk t).view.emb (ix2 r n)) = _
  unfold V
  entry_read
  show m ((c.tc : Thread _ _).loc main_arg5) _ = _
  congr 1
  blk_ext [e]

theorem read11 (r : Fin 2048) (n : Fin 2048) :
    iblk m c 11 t (ix2 r n) = m ((c.tc : Thread _ _).loc main_arg6) (ix2 r n) := by
  have e := (idx t).2.2.2.2.2.2.2.2.2.2.2.1
  show V m c main_v2 (((cfg0.win 11).blk t).view.emb (ix2 r n)) = _
  unfold V
  entry_read
  show m ((c.tc : Thread _ _).loc main_arg6) _ = _
  congr 1
  blk_ext [e]

theorem read12 (n : Fin 2048) :
    iblk m c 12 t (ix2 0 n) = m ((c.tc : Thread _ _).loc main_arg7) (ix1 n) := by
  have e := (idx t).2.2.2.2.2.2.2.2.2.2.2.2.1
  have hi : ((cfg0.win 12).blk t).view.emb (ix2 0 n) = (ix2 0 n : S1x2048.Idx) := by blk_ext [e]
  show V m c main_v3 (((cfg0.win 12).blk t).view.emb (ix2 0 n)) = _
  rw [hi]
  unfold V
  entry_read
  pointwise

theorem place (r : Fin 256) (n : Fin 2048) :
    ((cfg0.win 13).blk t).view.emb (ix2 r n) = (ix2 (row t r) n : S8192x2048.Idx) := by
  have e := (idx t).2.2.2.2.2.2.2.2.2.2.2.2.2
  blk_ext [e]

/-- The result array after the run, as the layer's function of the arguments. -/
theorem ker_eq :
    (dats m 0 c).arrAt 13 cfg0.N
      = out (m ((c.tc : Thread _ _).loc main_arg0)) (m ((c.tc : Thread _ _).loc main_arg1))
          (m ((c.tc : Thread _ _).loc main_arg2)) (m ((c.tc : Thread _ _).loc main_arg3))
          (m ((c.tc : Thread _ _).loc main_arg4)) (m ((c.tc : Thread _ _).loc main_arg5))
          (m ((c.tc : Thread _ _).loc main_arg6)) (m ((c.tc : Thread _ _).loc main_arg7)) := by
  refine (dats m 0 c).arrAt_eq_of_covers 13 _ (by decide +kernel) fun t hf y => ?_
  obtain ⟨r, n, rfl⟩ : ∃ (a : Fin 256) (b : Fin 2048), y = ix2 a b := ⟨y 0, y 1, eq_ix2 y⟩
  rw [place]
  blk_simp
  rw [after0_13]
  frame_out
  simp only [k0_pay7, k0_pay8, k0_pay9]
  frame_out
  rw [block_eq]
  simp only [read0, read1, read2, read3, read4, read5, read6, read7, read8, read9, read10, read11, read12]
  rfl

end Cert.Merge

end
-- ==== Proof.Merge.Ref.lean ====
module

public import proofs.«01_k».proof.Proof.Merge.Math

/-! What the reference of the merge computes. -/

@[expose] public section

set_option maxRecDepth 16384
set_option maxHeartbeats 4000000

noncomputable section

namespace Cert.Merge

open Idealize.ShloMosaic Idealize.SL.Sem

theorem ref_eq (m : (ℓ : Loc Cert.Reference3Ideal.nD Cert.Reference3Ideal.τ Cert.Reference3Ideal.sig) → Buf (Elt Ideal) ℓ)
    (c : Dev Cert.Reference3Ideal.nD) :
    Cert.Reference3Ideal.Value.res_out0 m c
      = out (m ((c.tc : Thread _ _).loc Cert.Reference3Ideal.main_arg0)) (m ((c.tc : Thread _ _).loc Cert.Reference3Ideal.main_arg1))
          (m ((c.tc : Thread _ _).loc Cert.Reference3Ideal.main_arg2)) (m ((c.tc : Thread _ _).loc Cert.Reference3Ideal.main_arg3))
          (m ((c.tc : Thread _ _).loc Cert.Reference3Ideal.main_arg4)) (m ((c.tc : Thread _ _).loc Cert.Reference3Ideal.main_arg5))
          (m ((c.tc : Thread _ _).loc Cert.Reference3Ideal.main_arg6)) (m ((c.tc : Thread _ _).loc Cert.Reference3Ideal.main_arg7)) := by
  funext i
  obtain ⟨r, n, rfl⟩ : ∃ (a : Fin 8192) (b : Fin 2048), i = ix2 a b := ⟨i 0, i 1, eq_ix2 i⟩
  unfold Cert.Reference3Ideal.Value.res_out0 Cert.Reference3Ideal.Value.res_main_v49
  clean_types
  pointwise [out, normed, mixed, branch, halves, gate]

end Cert.Merge

end
-- ==== Proof.Merge.Claim.lean ====
module

public import proofs.«01_k».proof.Defs
public import proofs.«01_k».proof.Proof.Merge.Ker
public import proofs.«01_k».proof.Proof.Merge.Ref
public import proofs.«01_k».proof.Proof.Gen.Reference3Ideal
public import proofs.«01_k».proof.Proof.Gen.Kernel3Ideal

/-! The merge: kernel and reference end with one array. -/

@[expose] public section

noncomputable section

namespace Cert.Merge

open Idealize.ShloMosaic Idealize.SL.Sem

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => _, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5, h6, h7⟩ := hagree c
  refine (ref_eq m' c).trans ?_
  rw [h0, h1, h2, h3, h4, h5, h6, h7]
  exact (ker_eq m c).symm

theorem frame_ref : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run m g)

end Cert.Merge

end
-- ==== Proof.InSample.Run.lean ====
module

public import proofs.«01_k».proof.Proof.Gen.Kernel4Ideal.Skeleton
public import proofs.«01_k».proof.Proof.Gen.Kernel4Ideal.Frame

/-! The body of the sample batch's input projection, run at one grid point.

At column 0 it normalises its 256 rows into the scratch. At every column it casts its column block of the weights,
stores the cast block, and projects the rows kept: into the keys' block at column 1, the values' at column 2, the slab
at the others. -/

@[expose] public section

set_option maxRecDepth 16384

noncomputable section

namespace Cert.InSample

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rh : Rect S256x2048 := Rect.unit (s := S256x2048) ![0, 0] S256x2048.size inb_S256x2048_S256x2048_0_0
abbrev rg : Rect S1x2048 := Rect.unit (s := S1x2048) ![0, 0] S1x2048.size inb_S1x2048_S1x2048_0_0
abbrev rw : Rect S2048x1024 := Rect.unit (s := S2048x1024) ![0, 0] S2048x1024.size inb_S2048x1024_S2048x1024_0_0
abbrev rk : Rect S256x1024 := Rect.unit (s := S256x1024) ![0, 0] S256x1024.size inb_S256x1024_S256x1024_0_0
abbrev ro : Rect S1x256x1024 := Rect.unit (s := S1x256x1024) ![0, 0, 0] S1x256x1024.size inb_S1x256x1024_S1x256x1024_0_0_0

/-- The body's first condition: column 0. -/
def cond1 (i : grid0.Coords) : BitVec 1 :=
  Scalar.cmpi .ne (Scalar.extui (Scalar.cmpi .eq (BitVec.ofNat 32 (i 0).val) (0#32 : BitVec 32)) : BitVec 32) 0#32

/-- The normalised rows the scratch holds. -/
def hid (x : Vec F S256x2048 .f32) (g : Vec F S1x2048 .f32) : Vec F S256x2048 .bf16 :=
  View.canon [⟨rh, k0_pay1 (View.ld x rh) (View.ld g rg)⟩]
/-- The cast column block of the weights. -/
def cast (w : Vec F S2048x1024 .f32) : Vec F S2048x1024 .bf16 := View.canon [⟨rw, k0_pay2 (View.ld w rw)⟩]
/-- The projection of the rows kept: into the keys' block, the values' block, the slab. -/
def projK (h : Vec F S256x2048 .bf16) (w : Vec F S2048x1024 .f32) : Vec F S256x1024 .f32 :=
  View.canon [⟨rk, k0_pay3 (View.ld w rw) (View.ld h rh)⟩]
def projV (h : Vec F S256x2048 .bf16) (w : Vec F S2048x1024 .f32) : Vec F S256x1024 .f32 :=
  View.canon [⟨rk, k0_pay5 (View.ld w rw) (View.ld h rh)⟩]
def projO (h : Vec F S256x2048 .bf16) (w : Vec F S2048x1024 .f32) : Vec F S1x256x1024 .f32 :=
  View.canon [⟨ro, k0_pay7 (View.ld w rw) (View.ld h rh)⟩]

theorem cover_h (p : Vec F S256x2048 .bf16) (y : S256x2048.Idx) :
    ∃ pc ∈ ([⟨rh, p⟩] : List (View.Piece (Elt F) S256x2048 .bf16)), y ∈ pc.1.set :=
  View.cover_of_tiled [⟨rh, p⟩] S256x2048.size (by rfl) y
theorem cover_w (p : Vec F S2048x1024 .bf16) (y : S2048x1024.Idx) :
    ∃ pc ∈ ([⟨rw, p⟩] : List (View.Piece (Elt F) S2048x1024 .bf16)), y ∈ pc.1.set :=
  View.cover_of_tiled [⟨rw, p⟩] S2048x1024.size (by rfl) y
theorem cover_k (p : Vec F S256x1024 .f32) (y : S256x1024.Idx) :
    ∃ pc ∈ ([⟨rk, p⟩] : List (View.Piece (Elt F) S256x1024 .f32)), y ∈ pc.1.set :=
  View.cover_of_tiled [⟨rk, p⟩] S256x1024.size (by rfl) y
theorem cover_o (p : Vec F S1x256x1024 .f32) (y : S1x256x1024.Idx) :
    ∃ pc ∈ ([⟨ro, p⟩] : List (View.Piece (Elt F) S1x256x1024 .f32)), y ∈ pc.1.set :=
  View.cover_of_tiled [⟨ro, p⟩] S1x256x1024.size (by rfl) y

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S2048x1024 .bf16) (harg7 : arg7.IsWhole) (arg8 : Memref sig .tc .vmem S256x2048 .bf16) (harg8 : arg8.IsWhole)
    (x0 : Vec F S256x2048 .f32) (x1 : Vec F S1x2048 .f32) (x2 : Vec F S2048x1024 .f32) (h : Vec F S256x2048 .bf16)

set_option maxHeartbeats 1000000 in
/-- Column 0 normalises the rows and projects them. -/
theorem runA (hc0 : cond1 i = 1#1) (hc1 : ¬ k0_cond2 i = 1#1) (hc2 : ¬ k0_cond3 i = 1#1) (hc3 : k0_cond4 i = 1#1)
    (E : Set ℕ) (K : PUnit → sProp 𝕄) :
    iprop(owns (c : Thread nD τ) arg1 fullShare x0 ∗ owns (c : Thread nD τ) arg2 fullShare x1 ∗ owns (c : Thread nD τ) arg3 fullShare x2
      ∗ (∃ d, owns (c : Thread nD τ) arg4 fullShare d) ∗ (∃ d, owns (c : Thread nD τ) arg7 fullShare d) ∗ (∃ d, owns (c : Thread nD τ) arg8 fullShare d)
      ∗ (iprop(owns (c : Thread nD τ) arg1 fullShare x0 ∗ owns (c : Thread nD τ) arg2 fullShare x1 ∗ owns (c : Thread nD τ) arg3 fullShare x2
          ∗ owns (c : Thread nD τ) arg4 fullShare (projO (hid x0 x1) x2) ∗ owns (c : Thread nD τ) arg7 fullShare (cast x2)
          ∗ owns (c : Thread nD τ) arg8 fullShare (hid x0 x1)) -∗ K ⟨⟩))
    ⊢ wp frame (wpE (defs₀ (F := F)) Variants.none c none) E (cc0_in_proj_cast i arg1 harg1 arg2 harg2 arg3 harg3 arg4 harg4 arg5 harg5 arg6 harg6 arg7 harg7 arg8 harg8) K := by
  simp only [cc0_in_proj_cast_eq_skeleton]; unfold cc0_in_proj_cast_skel
  unfold owns
  iintro ⟨⟨%f0, %hf0, H0⟩, ⟨%f1, %hf1, H1⟩, ⟨%f2, %hf2, H2⟩, ⟨%d3, %f3, -, H3⟩, ⟨%d6, %f6, -, H6⟩, ⟨%ds0, %fs0, -, HS0⟩, Hk⟩
  subst hf0 hf1 hf2
  sl_exec (disch := first | sl_exact hc0 | sl_exact hc1 | sl_exact hc2 | sl_exact hc3)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (View.read_writes_eq_canon _ _ _ (cover_o _)).trans ?_
    rw [View.readCov_eq_canon_ld _ _ _ fun y => cover_h _ y]
    rfl
  isplitl [H6]
  · iexists _; isplitr; swap; · iexact H6
    ipureintro
    refine (View.read_writes_eq_canon _ _ _ (cover_w _)).trans ?_
    rfl
  iexists _; isplitr; swap; · iexact HS0
  ipureintro
  refine (View.read_writes_eq_canon _ _ _ (cover_h _)).trans ?_
  rfl

set_option maxHeartbeats 1000000 in
/-- Column 1 projects the rows kept into the keys' block. -/
theorem runB (hc0 : ¬ cond1 i = 1#1) (hc1 : k0_cond2 i = 1#1) (hc2 : ¬ k0_cond3 i = 1#1) (hc3 : ¬ k0_cond4 i = 1#1)
    (E : Set ℕ) (K : PUnit → sProp 𝕄) :
    iprop(owns (c : Thread nD τ) arg3 fullShare x2
      ∗ (∃ d, owns (c : Thread nD τ) arg5 fullShare d) ∗ (∃ d, owns (c : Thread nD τ) arg7 fullShare d) ∗ owns (c : Thread nD τ) arg8 fullShare h
      ∗ (iprop(owns (c : Thread nD τ) arg3 fullShare x2
          ∗ owns (c : Thread nD τ) arg5 fullShare (projK h x2) ∗ owns (c : Thread nD τ) arg7 fullShare (cast x2) ∗ owns (c : Thread nD τ) arg8 fullShare h) -∗ K ⟨⟩))
    ⊢ wp frame (wpE (defs₀ (F := F)) Variants.none c none) E (cc0_in_proj_cast i arg1 harg1 arg2 harg2 arg3 harg3 arg4 harg4 arg5 harg5 arg6 harg6 arg7 harg7 arg8 harg8) K := by
  simp only [cc0_in_proj_cast_eq_skeleton]; unfold cc0_in_proj_cast_skel
  unfold owns
  iintro ⟨⟨%f2, %hf2, H2⟩, ⟨%d3, %f3, -, H3⟩, ⟨%d6, %f6, -, H6⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_k _)).trans ?_
    rfl
  isplitl [H6]
  · iexists _; isplitr; swap; · iexact H6
    ipureintro
    refine (View.read_writes_eq_canon _ _ _ (cover_w _)).trans ?_
    rfl
  iexists fs0; isplitr; · ipureintro; rfl
  iexact HS0

set_option maxHeartbeats 1000000 in
/-- Column 2 projects the rows kept into the values' block. -/
theorem runC (hc0 : ¬ cond1 i = 1#1) (hc1 : ¬ k0_cond2 i = 1#1) (hc2 : k0_cond3 i = 1#1) (hc3 : ¬ k0_cond4 i = 1#1)
    (E : Set ℕ) (K : PUnit → sProp 𝕄) :
    iprop(owns (c : Thread nD τ) arg3 fullShare x2
      ∗ (∃ d, owns (c : Thread nD τ) arg6 fullShare d) ∗ (∃ d, owns (c : Thread nD τ) arg7 fullShare d) ∗ owns (c : Thread nD τ) arg8 fullShare h
      ∗ (iprop(owns (c : Thread nD τ) arg3 fullShare x2
          ∗ owns (c : Thread nD τ) arg6 fullShare (projV h x2) ∗ owns (c : Thread nD τ) arg7 fullShare (cast x2) ∗ owns (c : Thread nD τ) arg8 fullShare h) -∗ K ⟨⟩))
    ⊢ wp frame (wpE (defs₀ (F := F)) Variants.none c none) E (cc0_in_proj_cast i arg1 harg1 arg2 harg2 arg3 harg3 arg4 harg4 arg5 harg5 arg6 harg6 arg7 harg7 arg8 harg8) K := by
  simp only [cc0_in_proj_cast_eq_skeleton]; unfold cc0_in_proj_cast_skel
  unfold owns
  iintro ⟨⟨%f2, %hf2, H2⟩, ⟨%d3, %f3, -, H3⟩, ⟨%d6, %f6, -, H6⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_k _)).trans ?_
    rfl
  isplitl [H6]
  · iexists _; isplitr; swap; · iexact H6
    ipureintro
    refine (View.read_writes_eq_canon _ _ _ (cover_w _)).trans ?_
    rfl
  iexists fs0; isplitr; · ipureintro; rfl
  iexact HS0

set_option maxHeartbeats 1000000 in
/-- The later columns project the rows kept into the slab. -/
theorem runD (hc0 : ¬ cond1 i = 1#1) (hc1 : ¬ k0_cond2 i = 1#1) (hc2 : ¬ k0_cond3 i = 1#1) (hc3 : k0_cond4 i = 1#1)
    (E : Set ℕ) (K : PUnit → sProp 𝕄) :
    iprop(owns (c : Thread nD τ) arg3 fullShare x2
      ∗ (∃ d, owns (c : Thread nD τ) arg4 fullShare d) ∗ (∃ d, owns (c : Thread nD τ) arg7 fullShare d) ∗ owns (c : Thread nD τ) arg8 fullShare h
      ∗ (iprop(owns (c : Thread nD τ) arg3 fullShare x2
          ∗ owns (c : Thread nD τ) arg4 fullShare (projO h x2) ∗ owns (c : Thread nD τ) arg7 fullShare (cast x2) ∗ owns (c : Thread nD τ) arg8 fullShare h) -∗ K ⟨⟩))
    ⊢ wp frame (wpE (defs₀ (F := F)) Variants.none c none) E (cc0_in_proj_cast i arg1 harg1 arg2 harg2 arg3 harg3 arg4 harg4 arg5 harg5 arg6 harg6 arg7 harg7 arg8 harg8) K := by
  simp only [cc0_in_proj_cast_eq_skeleton]; unfold cc0_in_proj_cast_skel
  unfold owns
  iintro ⟨⟨%f2, %hf2, H2⟩, ⟨%d3, %f3, -, H3⟩, ⟨%d6, %f6, -, H6⟩, ⟨%fs0, %hs0, HS0⟩, Hk⟩
  subst hf2 hs0
  sl_exec (disch := first | sl_exact hc0 | sl_exact hc1 | sl_exact hc2 | sl_exact hc3)
  sl_step
  sl_unfold_words
  iapply Hk
  isplitl [H2]
  · iexists f2; isplitr; · ipureintro; rfl
    iexact H2
  isplitl [H3]
  · iexists _; isplitr; swap; · iexact H3
    ipureintro
    refine (View.read_writes_eq_canon _ _ _ (cover_o _)).trans ?_
    rfl
  isplitl [H6]
  · iexists _; isplitr; swap; · iexact H6
    ipureintro
    refine (View.read_writes_eq_canon _ _ _ (cover_w _)).trans ?_
    rfl
  iexists fs0; isplitr; · ipureintro; rfl
  iexact HS0

end Cert.InSample

end
-- ==== Proof.InSample.Frame.lean ====
module

public import proofs.«01_k».proof.Proof.InSample.Run
public import Idealize.ShloMosaic.Lib.Pipeline.TableIdle
public import Idealize.ShloMosaic.Lib.Claim

/-! The sample batch's input projection as a pipeline: what every buffer holds after every grid point, and the run.

The grid is one row block of 12 columns. The scratch carries the normalised rows from column 0 on; the keys' and the
values' block are stored at columns 1 and 2 and held to the end, where they are written back; the slab stored at
column 0 is held through columns 1 and 2; the cast column block of the weights is stored at every column. -/

@[expose] public section

set_option maxRecDepth 16384

noncomputable section

namespace Cert.InSample

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

theorem cond1_iff : ∀ t : Fin cfg0.N, cond1 (grid0.coords t) = 1#1 ↔ t.val = 0 :=
  (by decide +kernel : ∀ t : Fin grid0.N, cond1 (grid0.coords t) = 1#1 ↔ t.val = 0)
theorem cond2_iff : ∀ t : Fin cfg0.N, k0_cond2 (grid0.coords t) = 1#1 ↔ t.val = 1 :=
  (by decide +kernel : ∀ t : Fin grid0.N, k0_cond2 (grid0.coords t) = 1#1 ↔ t.val = 1)
theorem cond3_iff : ∀ t : Fin cfg0.N, k0_cond3 (grid0.coords t) = 1#1 ↔ t.val = 2 :=
  (by decide +kernel : ∀ t : Fin grid0.N, k0_cond3 (grid0.coords t) = 1#1 ↔ t.val = 2)
theorem cond4_iff : ∀ t : Fin cfg0.N, k0_cond4 (grid0.coords t) = 1#1 ↔ t.val ≠ 1 ∧ t.val ≠ 2 :=
  (by decide +kernel : ∀ t : Fin grid0.N, k0_cond4 (grid0.coords t) = 1#1 ↔ t.val ≠ 1 ∧ t.val ≠ 2)

theorem idle3 : ∀ t : Fin cfg0.N, cfg0.idle 3 (cfg0.grid.coords t) = decide (t.val = 1 ∨ t.val = 2) :=
  (by decide +kernel : ∀ t : Fin grid0.N, idle0 3 (grid0.coords t) = decide (t.val = 1 ∨ t.val = 2))
theorem idle4 : ∀ t : Fin cfg0.N, cfg0.idle 4 (cfg0.grid.coords t) = decide (t.val ≠ 1) :=
  (by decide +kernel : ∀ t : Fin grid0.N, idle0 4 (grid0.coords t) = decide (t.val ≠ 1))
theorem idle5 : ∀ t : Fin cfg0.N, cfg0.idle 5 (cfg0.grid.coords t) = decide (t.val ≠ 2) :=
  (by decide +kernel : ∀ t : Fin grid0.N, idle0 5 (grid0.coords t) = decide (t.val ≠ 2))
theorem idle6 : ∀ t : Fin cfg0.N, cfg0.idle 6 (cfg0.grid.coords t) = false :=
  (by decide +kernel : ∀ t : Fin grid0.N, idle0 6 (grid0.coords t) = false)
theorem flush3 : ∀ t : Fin cfg0.N, (cfg0.win 3).flush t = decide (2 ≤ t.val) :=
  (by decide +kernel : ∀ t : Fin grid0.N, win0_3.flush t = decide (2 ≤ t.val))
theorem flush4 : ∀ t : Fin cfg0.N, (cfg0.win 4).flush t = decide (t.val = 11) :=
  (by decide +kernel : ∀ t : Fin grid0.N, win0_4.flush t = decide (t.val = 11))
theorem flush5 : ∀ t : Fin cfg0.N, (cfg0.win 5).flush t = decide (t.val = 11) :=
  (by decide +kernel : ∀ t : Fin grid0.N, win0_5.flush t = decide (t.val = 11))

/-- The points of columns 0, 1 and 2. -/
def p0 : Fin cfg0.N := ⟨0, by rw [show cfg0.N = 12 from N_0]; decide⟩
def p1 : Fin cfg0.N := ⟨1, by rw [show cfg0.N = 12 from N_0]; decide⟩
def p2 : Fin cfg0.N := ⟨2, by rw [show cfg0.N = 12 from N_0]; decide⟩

/-! ## The proof data -/

variable (m : (ℓ : Loc nD τ sig) → Buf (Elt F) ℓ) (ρ : Dev nD → PrngReg)

/-- The normalised rows. -/
def rows (c : Dev nD) : Vec F S256x2048 .bf16 := hid (iblk m c 0 p0) (iblk m c 1 p0)

def outO (c : Dev nD) (t : Fin cfg0.N) : Vec F S1x256x1024 .f32 :=
  if t.val ≤ 2 then projO (rows m c) (iblk m c 2 p0) else projO (rows m c) (iblk m c 2 t)
def outK (c : Dev nD) : Vec F S256x1024 .f32 := projK (rows m c) (iblk m c 2 p1)
def outV (c : Dev nD) : Vec F S256x1024 .f32 := projV (rows m c) (iblk m c 2 p2)

/-- The kernel's own scratch. -/
abbrev scM : Memref sig .tc .vmem S256x2048 .bf16 := Memref.whole cc0_scratch0

/-- Before point `n`: at the first the scratch holds anything, later the rows. -/
def inv (c : Dev nD) (n : Fin (cfg0.N + 1)) : sProp 𝕄 :=
  if h : n.val = 0 then Pipeline.ΦA spec0 c
  else iprop(owns (c : Thread nD τ) scM fullShare (rows m c) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO m c t
    | ⟨4, _⟩ => outK m c
    | ⟨5, _⟩ => outV m c
    | ⟨6, _⟩ => cast (iblk m c 2 t)
  Φ n := inv m c n
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outO m c t := by dsimp only [dats]
theorem after4 (c : Dev nD) (t : Fin cfg0.N) : (dats m 0 c).after 4 t = outK m c := by dsimp only [dats]
theorem after5 (c : Dev nD) (t : Fin cfg0.N) : (dats m 0 c).after 5 t = outV m c := by dsimp only [dats]
theorem after6 (c : Dev nD) (t : Fin cfg0.N) : (dats m 0 c).after 6 t = cast (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- An output window whose block was stored at `s` and neither stored nor written back since holds what `s` left. -/
theorem held (c : Dev nD) (w : Fin cfg0.W) (ho : (cfg0.win w).isOut = true)
    (hc : ∀ (t : Fin cfg0.N) d, (dats m 0 c).kept w t d = (dats m 0 c).after w t) (s t : Fin cfg0.N) (hst : s.val < t.val)
    (hs : cfg0.idle w (cfg0.grid.coords s) = false)
    (hf : ∀ j : Fin cfg0.N, s.val ≤ j.val → j.val < t.val → (cfg0.win w).flush j = false)
    (hi : ∀ j : Fin cfg0.N, s.val < j.val → j.val < t.val → cfg0.idle w (cfg0.grid.coords j) = true) (d) :
    (dats m 0 c).before w t d = (dats m 0 c).after w s := by
  rw [(dats m 0 c).before_idle_run w ((cfg0.win w).fetch_out ho) d (t.val - s.val - 1) t (by omega)
    (fun j h₁ h₂ => ⟨hi j (by omega) h₂, hf j (by omega) h₂⟩)]
  rw [(dats m 0 c).before_of_pos w _ (by simp only; omega) ((cfg0.win w).fetch_out ho _)]
  have e : (⟨t.val - (t.val - s.val - 1) - 1, by have := t.isLt; omega⟩ : Fin cfg0.N) = s := Fin.ext (by simp only; omega)
  simp only [e]
  rw [hf s le_rfl hst, if_neg Bool.false_ne_true]
  unfold Dat.left
  rw [hs]
  exact hc s d

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A window the point does not store into is handed back as found; where the point writes it back, that is what it should hold. -/
theorem leaves_idle (c : Dev nD) (w : Fin cfg0.W) (t : Fin cfg0.N) (hi : cfg0.idle w (cfg0.grid.coords t) = true) (d)
    (hb : (cfg0.win w).flush t = true → (dats m 0 c).before w t d = (dats m 0 c).after w t) :
    owns (c : Thread nD τ) ((cfg0.win w).stage (cfg0.slots t w)) fullShare ((dats m 0 c).before w t d)
      ⊢ ((dats m 0 c).leavesExact w t : sProp 𝕄) := by
  unfold Dat.leavesExact; rw [hi]
  cases hf : (cfg0.win w).flush t
  · iintro H; iexists d; iexact H
  · rw [hb hf]

theorem idle3_ok (c : Dev nD) (t : Fin cfg0.N) (h : t.val = 1 ∨ t.val = 2) (d) :
    (dats m 0 c).before 3 t d = (dats m 0 c).after 3 t := by
  rw [held m c 3 rfl (fun t d => rfl) p0 t (by simp only [p0]; omega)
    (by rw [idle3]; exact decide_eq_false (by simp only [p0]; omega))
    (fun j h1 h2 => by rw [flush3]; simp only [decide_eq_false_iff_not] at *; omega)
    (fun j h1 h2 => by rw [idle3]; simp only [p0, decide_eq_true_eq] at *; omega)]
  rw [after3, after3]
  unfold outO
  rw [if_pos (by simp only [p0]; omega), if_pos (by omega)]

theorem idle4_ok (c : Dev nD) (t : Fin cfg0.N) (h : t.val ≠ 1) (d) (hf : (cfg0.win 4).flush t = true) :
    (dats m 0 c).before 4 t d = (dats m 0 c).after 4 t := by
  have h0 : t.val = 11 := by rw [flush4] at hf; exact of_decide_eq_true hf
  rw [held m c 4 rfl (fun t d => rfl) p1 t (by simp only [p1]; omega)
    (by rw [idle4]; exact decide_eq_false (by simp only [p1]; omega))
    (fun j h1 h2 => by rw [flush4]; simp only [decide_eq_false_iff_not] at *; omega)
    (fun j h1 h2 => by rw [idle4]; simp only [p1, decide_eq_true_eq] at *; omega)]
  rw [after4, after4]

theorem idle5_ok (c : Dev nD) (t : Fin cfg0.N) (h : t.val ≠ 2) (d) (hf : (cfg0.win 5).flush t = true) :
    (dats m 0 c).before 5 t d = (dats m 0 c).after 5 t := by
  have h0 : t.val = 11 := by rw [flush5] at hf; exact of_decide_eq_true hf
  rw [held m c 5 rfl (fun t d => rfl) p2 t (by simp only [p2]; omega)
    (by rw [idle5]; exact decide_eq_false (by simp only [p2]; omega))
    (fun j h1 h2 => by rw [flush5]; simp only [decide_eq_false_iff_not] at *; omega)
    (fun j h1 h2 => by rw [idle5]; simp only [p2, decide_eq_true_eq] at *; omega)]
  rw [after5, after5]

/-! ## The body obligation -/

theorem inv_zero (c : Dev nD) (n : Fin (cfg0.N + 1)) (h : n.val = 0) :
    (inv m c n : sProp 𝕄) = iprop((∃ d, owns (c : Thread nD τ) scM fullShare d) ∗ (∃ r, prngReg c r)) := by
  unfold inv; rw [dif_pos h]; unfold Pipeline.ΦA; rw [scopedRest0_eq]; simp only [scM, owns_whole]; try rfl

theorem inv_pos (c : Dev nD) (n : Fin (cfg0.N + 1)) (h : n.val ≠ 0) :
    (inv m c n : sProp 𝕄) = iprop(owns (c : Thread nD τ) scM fullShare (rows m c) ∗ (∃ r, prngReg c r)) := by
  unfold inv; rw [dif_neg h]

/-- Whatever the point, the scratch is owned at some contents. -/
theorem inv_some (c : Dev nD) (n : Fin (cfg0.N + 1)) :
    (inv m c n : sProp 𝕄) ⊢ iprop((∃ d, owns (c : Thread nD τ) scM fullShare d) ∗ (∃ r, prngReg c r)) := by
  by_cases h : n.val = 0
  · rw [inv_zero m c n h]
  · rw [inv_pos m c n h]
    iintro ⟨H, Hg⟩
    isplitl [H]
    · iexists _; iexact H
    iexact Hg

/-- After column 0 the scratch holds the rows. -/
theorem inv_rows (c : Dev nD) (t : Fin cfg0.N) (h : t.val ≠ 0) :
    (inv m c t.castSucc : sProp 𝕄) = iprop(owns (c : Thread nD τ) scM fullShare (rows m c) ∗ (∃ r, prngReg c r)) :=
  inv_pos m c _ (by simp only [Fin.val_castSucc]; omega)

theorem inv_succ (c : Dev nD) (t : Fin cfg0.N) :
    (inv m c t.succ : sProp 𝕄) = iprop(owns (c : Thread nD τ) scM fullShare (rows m c) ∗ (∃ r, prngReg c r)) :=
  inv_pos m c _ (by simp only [Fin.val_succ]; omega)

abbrev ms0 (t : Fin cfg0.N) : Memref sig .tc .vmem S256x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .f32 := win0_2.stage (cfg0.slots t 2)
abbrev ms3 (t : Fin cfg0.N) : Memref sig .tc .vmem S1x256x1024 .f32 := win0_3.stage (cfg0.slots t 3)
abbrev ms4 (t : Fin cfg0.N) : Memref sig .tc .vmem S256x1024 .f32 := win0_4.stage (cfg0.slots t 4)
abbrev ms5 (t : Fin cfg0.N) : Memref sig .tc .vmem S256x1024 .f32 := win0_5.stage (cfg0.slots t 5)
abbrev ms6 (t : Fin cfg0.N) : Memref sig .tc .vmem S2048x1024 .bf16 := win0_6.stage (cfg0.slots t 6)

def bodyPre (c : Dev nD) (t : Fin cfg0.N) : sProp 𝕄 :=
  iprop(inv m c t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop(inv m c t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 1600000 in
/-- The body at any point, by its column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, inv_succ]
  rw [leaves_live m c 0 t rfl, leaves_live m c 1 t rfl, leaves_live m c 2 t rfl, leaves_live m c 6 t (idle6 t), after0, after1, after2, after6]
  rcases (by omega : t.val = 0 ∨ t.val = 1 ∨ t.val = 2 ∨ t.val ≠ 0 ∧ t.val ≠ 1 ∧ t.val ≠ 2) with h | h | h | h
  · have e : t = p0 := Fin.ext (by simp only [p0]; omega)
    rw [leaves_live m c 3 t (by rw [idle3]; exact decide_eq_false (by omega)), after3]
    unfold outO rows
    rw [if_pos (by omega), ← e]
    iintro ⟨HI, Ho, ⟨%d0, H0⟩, ⟨%d1, H1⟩, ⟨%d2, H2⟩, ⟨%d3, H3⟩, ⟨%d4, H4⟩, ⟨%d5, H5⟩, ⟨%d6, H6⟩⟩
    ihave HI' := (inv_some m c t.castSucc) $$ HI
    icases HI' with ⟨HS, Hg⟩
    iapply (runA c (grid0.coords t) _ _ _ _ _ _ _ _ _ _ _ _ _ _ _ _ (iblk m c 0 t) (iblk m c 1 t) (iblk m c 2 t)
      ((cond1_iff t).mpr (by omega)) (fun h' => by have := (cond2_iff t).mp h'; omega) (fun h' => by have := (cond3_iff t).mp h'; omega) ((cond4_iff t).mpr (by omega)) Set.univ _)
    isplitl [H0]; · iexact H0
    isplitl [H1]; · iexact H1
    isplitl [H2]; · iexact H2
    isplitl [H3]; · iexists _; iexact H3
    isplitl [H6]; · iexists _; iexact H6
    isplitl [HS]; · iexact HS
    iintro ⟨H0, H1, H2, H3, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · iapply (leaves_idle m c 4 t (by rw [idle4]; exact decide_eq_true (by omega)) d4 (idle4_ok m c t (by omega) d4))
      iexact H4
    isplitl [H5]
    · iapply (leaves_idle m c 5 t (by rw [idle5]; exact decide_eq_true (by omega)) d5 (idle5_ok m c t (by omega) d5))
      iexact H5
    iexact H6
  · have e : t = p1 := Fin.ext (by simp only [p1]; omega)
    rw [leaves_live m c 4 t (by rw [idle4]; exact decide_eq_false (by omega)), after4, inv_rows m c t (by omega)]
    unfold outK
    rw [← e]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ (iblk m c 2 t) (rows m c)
      (fun h' => by have := (cond1_iff t).mp h'; omega) ((cond2_iff t).mpr (by omega)) (fun h' => by have := (cond3_iff t).mp h'; omega) (fun h' => by have := (cond4_iff t).mp h'; omega) Set.univ _)
    isplitl [H2]; · iexact H2
    isplitl [H4]; · iexists _; iexact H4
    isplitl [H6]; · iexists _; iexact H6
    isplitl [HS]; · iexact HS
    iintro ⟨H2, H4, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_idle m c 3 t (by rw [idle3]; exact decide_eq_true (by omega)) d3 (fun _ => idle3_ok m c t (by omega) d3))
      iexact H3
    isplitl [H4]; · iexact H4
    isplitl [H5]
    · iapply (leaves_idle m c 5 t (by rw [idle5]; exact decide_eq_true (by omega)) d5 (idle5_ok m c t (by omega) d5))
      iexact H5
    iexact H6
  · have e : t = p2 := Fin.ext (by simp only [p2]; omega)
    rw [leaves_live m c 5 t (by rw [idle5]; exact decide_eq_false (by omega)), after5, inv_rows m c t (by omega)]
    unfold outV
    rw [← e]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runC c (grid0.coords t) _ _ _ _ _ _ _ _ _ _ _ _ _ _ _ _ (iblk m c 2 t) (rows m c)
      (fun h' => by have := (cond1_iff t).mp h'; omega) (fun h' => by have := (cond2_iff t).mp h'; omega) ((cond3_iff t).mpr (by omega)) (fun h' => by have := (cond4_iff t).mp h'; omega) Set.univ _)
    isplitl [H2]; · iexact H2
    isplitl [H5]; · iexists _; iexact H5
    isplitl [H6]; · iexists _; iexact H6
    isplitl [HS]; · iexact HS
    iintro ⟨H2, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · iapply (leaves_idle m c 3 t (by rw [idle3]; exact decide_eq_true (by omega)) d3 (fun _ => idle3_ok m c t (by omega) d3))
      iexact H3
    isplitl [H4]
    · iapply (leaves_idle m c 4 t (by rw [idle4]; exact decide_eq_true (by omega)) d4 (idle4_ok m c t (by omega) d4))
      iexact H4
    isplitl [H5]; · iexact H5
    iexact H6
  · rw [leaves_live m c 3 t (by rw [idle3]; exact decide_eq_false (by omega)), after3, inv_rows m c t (by omega)]
    unfold outO
    rw [if_neg (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runD c (grid0.coords t) _ _ _ _ _ _ _ _ _ _ _ _ _ _ _ _ (iblk m c 2 t) (rows m c)
      (fun h' => by have := (cond1_iff t).mp h'; omega) (fun h' => by have := (cond2_iff t).mp h'; omega) (fun h' => by have := (cond3_iff t).mp h'; omega) ((cond4_iff t).mpr (by omega)) Set.univ _)
    isplitl [H2]; · iexact H2
    isplitl [H3]; · iexists _; iexact H3
    isplitl [H6]; · iexists _; iexact H6
    isplitl [HS]; · iexact HS
    iintro ⟨H2, H3, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · iapply (leaves_idle m c 4 t (by rw [idle4]; exact decide_eq_true (by omega)) d4 (idle4_ok m c t (by omega) d4))
      iexact H4
    isplitl [H5]
    · iapply (leaves_idle m c 5 t (by rw [idle5]; exact decide_eq_true (by omega)) d5 (idle5_ok m c t (by omega) d5))
      iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ inv m c 0
      rw [show (inv m c 0 : sProp 𝕄) = Pipeline.ΦA spec0 c from dif_pos rfl])
    (hout := fun c => by
      show inv m c (Fin.last cfg0.N) ⊢ _
      refine (inv_some m c _).trans ?_
      unfold Pipeline.ΦA; rw [scopedRest0_eq]; simp only [scM, owns_whole]; exact .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments as they were and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.InSample

end
-- ==== Proof.InSample.Ker.lean ====
module

public import proofs.«01_k».proof.Proof.InProj.Math
public import proofs.«01_k».proof.Proof.InSample.Frame

/-! What the sample batch's projection leaves in its four result arrays. -/

@[expose] public section

set_option maxRecDepth 16384

noncomputable section

namespace Cert.InSample

open Idealize.ShloMosaic Idealize.SL.Sem
open Cert.Kernel4Ideal Cert.Kernel4Ideal.Gen
open Cert.InProj (nrm dot proj slabs block colBlock col)

/-! ## A block, element by element -/

theorem hid_eq (x : Vec Ideal S256x2048 .f32) (g : Vec Ideal S1x2048 .f32) (r : Fin 256) (k : Fin 2048) :
    hid x g (ix2 r k) = nrm (fun k => x (ix2 r k)) (fun k => g (ix2 0 k)) k := by
  unfold hid
  frame_out
  pointwise [k0_pay1, nrm]
theorem cast_eq (w : Vec Ideal S2048x1024 .f32) (k : Fin 2048) (n : Fin 1024) : cast w (ix2 k n) = w (ix2 k n) := by
  unfold cast
  frame_out
  pointwise [k0_pay2]
theorem projK_eq (h : Vec Ideal S256x2048 .bf16) (w : Vec Ideal S2048x1024 .f32) (r : Fin 256) (n : Fin 1024) :
    projK h w (ix2 r n) = ∑ k : Fin 2048, h (ix2 r k) * w (ix2 k n) := by
  unfold projK
  frame_out
  pointwise [k0_pay3, k0_pay2]
theorem projV_eq (h : Vec Ideal S256x2048 .bf16) (w : Vec Ideal S2048x1024 .f32) (r : Fin 256) (n : Fin 1024) :
    projV h w (ix2 r n) = ∑ k : Fin 2048, h (ix2 r k) * w (ix2 k n) := by
  unfold projV
  frame_out
  pointwise [k0_pay5, k0_pay4]
theorem projO_eq (h : Vec Ideal S256x2048 .bf16) (w : Vec Ideal S2048x1024 .f32) (r : Fin 256) (n : Fin 1024) :
    projO h w (ix3 0 r n) = ∑ k : Fin 2048, h (ix2 r k) * w (ix2 k n) := by
  unfold projO
  frame_out
  pointwise [k0_pay7, k0_pay6]

/-! ## The blocks in their arrays -/

/-- Where the grid's point `t` finds each block. -/
theorem idx : ∀ t : Fin cfg0.N, win0_0.index t = ![0, 0] ∧ win0_1.index t = ![0, 0] ∧ win0_2.index t = ![0, t.val]
    ∧ win0_3.index t = ![if t.val ≤ 2 then 0 else t.val - 2, 0, 0]
    ∧ win0_4.index t = ![0, 0] ∧ win0_5.index t = ![0, 0] ∧ win0_6.index t = ![0, t.val] :=
  (by decide +kernel : ∀ t : Fin grid0.N, _)

/-- `t`'s column block. -/
abbrev colOf (t : Fin cfg0.N) : Fin 12 := ⟨t.val, lt_of_lt_of_eq t.isLt N_0⟩

variable (m : (ℓ : Loc nD τ sig) → Buf (Elt Ideal) ℓ) (c : Dev nD) (t : Fin cfg0.N)

abbrev X : FVec Ideal S256x2048 .f32 := m ((c.tc : Thread _ _).loc main_arg0)
abbrev G : FVec Ideal S2048 .f32 := m ((c.tc : Thread _ _).loc main_arg1)
abbrev W : FVec Ideal S2048x12288 .f32 := m ((c.tc : Thread _ _).loc main_arg2)

theorem read0 (r : Fin 256) (k : Fin 2048) : iblk m c 0 t (ix2 r k) = X m c (ix2 r k) := by
  have e := (idx t).1
  show V m c main_arg0 (((cfg0.win 0).blk t).view.emb (ix2 r k)) = _
  rw [V_main_arg0]
  congr 1
  blk_ext [e]

theorem read1 (k : Fin 2048) : iblk m c 1 t (ix2 0 k) = G m c (ix1 k) := by
  have e := (idx t).2.1
  have hi : ((cfg0.win 1).blk t).view.emb (ix2 0 k) = (ix2 0 k : S1x2048.Idx) := by blk_ext [e]
  show V m c main_v0 (((cfg0.win 1).blk t).view.emb (ix2 0 k)) = _
  rw [hi]
  unfold V
  entry_read
  pointwise

theorem read2 (k : Fin 2048) (n : Fin 1024) : iblk m c 2 t (ix2 k n) = W m c (ix2 k (col (colOf t) n)) := by
  have e := (idx t).2.2.1
  show V m c main_arg2 (((cfg0.win 2).blk t).view.emb (ix2 k n)) = _
  rw [V_main_arg2]
  congr 1
  unfold col
  blk_ext [e]

theorem rows_eq (r : Fin 256) (k : Fin 2048) :
    rows m c (ix2 r k) = nrm (fun k => X m c (ix2 r k)) (fun k => G m c (ix1 k)) k := by
  unfold rows
  rw [hid_eq]
  simp only [read0, read1]

theorem outO_eq (r : Fin 256) (n : Fin 1024) :
    outO m c t (ix3 0 r n) = proj (X m c) (G m c) (W m c) r (col (colOf (if t.val ≤ 2 then p0 else t)) n) := by
  unfold outO
  by_cases h : t.val ≤ 2
  · rw [if_pos h, if_pos h, projO_eq]
    simp only [rows_eq, read2]
    rfl
  · rw [if_neg h, if_neg h, projO_eq]
    simp only [rows_eq, read2]
    rfl

theorem outK_eq (r : Fin 256) (n : Fin 1024) : outK m c (ix2 r n) = proj (X m c) (G m c) (W m c) r (col 1 n) := by
  unfold outK
  rw [projK_eq]
  simp only [rows_eq, read2]
  rfl

theorem outV_eq (r : Fin 256) (n : Fin 1024) : outV m c (ix2 r n) = proj (X m c) (G m c) (W m c) r (col 2 n) := by
  unfold outV
  rw [projV_eq]
  simp only [rows_eq, read2]
  rfl

theorem place3 (r : Fin 256) (n : Fin 1024) : ((cfg0.win 3).blk t).view.emb (ix3 0 r n)
    = (ix3 (if h : t.val ≤ 2 then 0 else ⟨t.val - 2, by have := lt_of_lt_of_eq t.isLt N_0; omega⟩) r n : S10x256x1024.Idx) := by
  have e := (idx t).2.2.2.1
  split <;> rename_i h <;> simp only [h, if_true, if_false] at e <;> blk_ext [e]

theorem place4 (r : Fin 256) (n : Fin 1024) : ((cfg0.win 4).blk t).view.emb (ix2 r n) = (ix2 r n : S256x1024.Idx) := by
  have e := (idx t).2.2.2.2.1
  blk_ext [e]

theorem place5 (r : Fin 256) (n : Fin 1024) : ((cfg0.win 5).blk t).view.emb (ix2 r n) = (ix2 r n : S256x1024.Idx) := by
  have e := (idx t).2.2.2.2.2.1
  blk_ext [e]

theorem place6 (k : Fin 2048) (n : Fin 1024) : ((cfg0.win 6).blk t).view.emb (ix2 k n) = (ix2 k (col (colOf t) n) : S2048x12288.Idx) := by
  have e := (idx t).2.2.2.2.2.2
  unfold col
  blk_ext [e]

/-- The column block a slab holds is the one its stores come from. -/
theorem slab_col : colBlock (if h : t.val ≤ 2 then 0 else ⟨t.val - 2, by have := lt_of_lt_of_eq t.isLt N_0; omega⟩)
    = colOf (if t.val ≤ 2 then p0 else t) := by
  by_cases h : t.val ≤ 2
  · rw [dif_pos h, if_pos h]
    rfl
  · rw [dif_neg h, if_neg h]
    unfold colBlock
    rw [if_neg (by simp only; omega)]
    exact Fin.ext (by simp only; omega)

/-! ## The four results -/

theorem ker_slabs : (dats m 0 c).arrAt 3 cfg0.N = slabs (X m c) (G m c) (W m c) := by
  refine (dats m 0 c).arrAt_eq_of_covers 3 _ (by decide +kernel) fun t hf y => ?_
  obtain ⟨u, r, n, rfl⟩ : ∃ (u : Fin 1) (a : Fin 256) (b : Fin 1024), y = ix3 u a b := ⟨y 0, y 1, y 2, eq_ix3 y⟩
  obtain rfl : u = 0 := Subsingleton.elim _ _
  rw [place3]
  blk_simp
  rw [after3]
  refine (outO_eq m c t r n).trans ?_
  exact congrArg (fun b => proj (X m c) (G m c) (W m c) r (col b n)) (slab_col t).symm

theorem ker_keys : (dats m 0 c).arrAt 4 cfg0.N = block 1 (X m c) (G m c) (W m c) := by
  refine (dats m 0 c).arrAt_eq_of_covers 4 _ (by decide +kernel) fun t hf y => ?_
  obtain ⟨r, n, rfl⟩ : ∃ (a : Fin 256) (b : Fin 1024), y = ix2 a b := ⟨y 0, y 1, eq_ix2 y⟩
  rw [place4]
  blk_simp
  rw [after4]
  exact outK_eq m c r n

theorem ker_values : (dats m 0 c).arrAt 5 cfg0.N = block 2 (X m c) (G m c) (W m c) := by
  refine (dats m 0 c).arrAt_eq_of_covers 5 _ (by decide +kernel) fun t hf y => ?_
  obtain ⟨r, n, rfl⟩ : ∃ (a : Fin 256) (b : Fin 1024), y = ix2 a b := ⟨y 0, y 1, eq_ix2 y⟩
  rw [place5]
  blk_simp
  rw [after5]
  exact outV_eq m c r n

/-- The cast weights are the weights. -/
theorem ker_weights : (dats m 0 c).arrAt 6 cfg0.N = W m c := by
  refine (dats m 0 c).arrAt_eq_of_covers 6 _ (by decide +kernel) fun t hf y => ?_
  obtain ⟨k, n, rfl⟩ : ∃ (a : Fin 2048) (b : Fin 1024), y = ix2 a b := ⟨y 0, y 1, eq_ix2 y⟩
  rw [place6]
  blk_simp
  rw [after6]
  exact (cast_eq _ k n).trans (read2 m c t k n)

end Cert.InSample

end
-- ==== Proof.InSample.Ref.lean ====
module

public import proofs.«01_k».proof.Proof.InProj.Ref
public import proofs.«01_k».proof.Proof.Gen.Reference4Ideal.Run

/-! What the reference of the sample batch's input projection computes. -/

@[expose] public section

set_option maxRecDepth 16384
set_option maxHeartbeats 4000000

noncomputable section

namespace Cert.InSample

open Idealize.ShloMosaic Idealize.SL.Sem
open Cert.Reference4Ideal Cert.Reference4Ideal.Gen
open Cert.InProj (nrm dot proj slabs block colBlock col col_val of_cases)

variable (m : (ℓ : Loc nD τ sig) → Buf (Elt Ideal) ℓ) (c : Dev nD)

theorem ref_slabs : Cert.Reference4Ideal.Value.res_out0 m c
      = slabs (m ((c.tc : Thread _ _).loc main_arg0)) (m ((c.tc : Thread _ _).loc main_arg1)) (m ((c.tc : Thread _ _).loc main_arg2)) := by
  funext i
  obtain ⟨p, r, n, rfl⟩ : ∃ (p : Fin 10) (a : Fin 256) (b : Fin 1024), i = ix3 p a b := ⟨i 0, i 1, i 2, eq_ix3 i⟩
  unfold Cert.Reference4Ideal.Value.res_out0 Cert.Reference4Ideal.Value.res_main_v38
  clean_types
  pointwise [slabs, proj, dot, nrm]
  repeat' refine of_cases (fun h => ?_) (fun h => ?_)
  all_goals
    refine Finset.sum_congr rfl fun k _ => congrArg (_ * ·) (congrArg _ (congrArg (ix2 k) (Fin.ext ?_)))
    rw [col_val]
    simp only
    split <;> omega

/-- The keys' and the values' blocks, as the reference returns them. -/
theorem ref_block (b : Fin 12) (o : Fin 2 → ℕ) (h) (hb : o = ![0, b.val * 1024]) (x : FVec Ideal S256x2048 .f32) (g : FVec Ideal S2048 .f32)
    (w : FVec Ideal S2048x12288 .f32) :
    extractStridedSlice S256x1024 o (Host.dotGeneral dot_S256x2048_S2048x12288_S256x12288_1_0_0_1_n_n none (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 g))) w) h
      = block b x g w := by
  subst hb
  funext i
  obtain ⟨r, n, rfl⟩ : ∃ (a : Fin 256) (b : Fin 1024), i = ix2 a b := ⟨i 0, i 1, eq_ix2 i⟩
  pointwise [block, proj, dot, nrm, col]

/-- The cast weights are the weights. -/
theorem ref_weights (w : FVec Ideal S2048x12288 .f32) : (truncf .bf16 w bitsLt_bf16_f32 : FVec Ideal S2048x12288 .bf16) = w := by
  funext i
  obtain ⟨k, n, rfl⟩ : ∃ (a : Fin 2048) (b : Fin 12288), i = ix2 a b := ⟨i 0, i 1, eq_ix2 i⟩
  pointwise

end Cert.InSample

end
-- ==== Proof.InSample.Same.lean ====
module

public import proofs.«01_k».proof.Defs
public import proofs.«01_k».proof.Proof.InSample.Frame
public import proofs.«01_k».proof.Proof.Gen.Kernel4

/-! The kernel at the machine's own floats: its program is the idealized one's text, so the one run serves. -/

@[expose] public section

set_option maxRecDepth 16384

noncomputable section

namespace Cert.InSample

open Idealize.ShloMosaic Idealize.SL.Sem

theorem defs₀_same : Cert.Kernel4.defs₀ (F := Bits) = Cert.Kernel4Ideal.defs₀ (F := Bits) := by
  refine congrArg Defs.onTc ?_
  funext l a
  match l, a with
  | 0, (t, s) => rfl

theorem defs_same : Cert.Kernel4.defs (F := Bits) = Cert.Kernel4Ideal.defs (F := Bits) :=
  congrArg (Pipeline.defs Cert.Kernel4.pcfgs) defs₀_same

theorem frame_bits : Cert.quiescent_Kernel4 (hKernel4 := Cert.Kernel4.Gen.facts) := by
  intro m g _
  rw [defs_same]
  exact frame (F := Bits) m g

end Cert.InSample

end
-- ==== Proof.InSample.Claim.lean ====
module

public import proofs.«01_k».proof.Defs
public import proofs.«01_k».proof.Proof.InSample.Ker
public import proofs.«01_k».proof.Proof.InSample.Ref
public import proofs.«01_k».proof.Proof.InSample.Same
public import proofs.«01_k».proof.Proof.Gen.Reference4Ideal
public import proofs.«01_k».proof.Proof.Gen.Kernel4Ideal

/-! The sample batch's input projection: kernel and reference end with the same four arrays. -/

@[expose] public section

set_option maxRecDepth 16384

noncomputable section

namespace Cert.InSample

open Idealize.ShloMosaic Idealize.SL.Sem

/-- The run of the kernel, its four results and its arguments read off. -/
theorem run_values (m : (ℓ : Loc Cert.Kernel4Ideal.nD Cert.Kernel4Ideal.τ Cert.Kernel4Ideal.sig) → Buf (Elt Ideal) ℓ)
    (ρ : Dev Cert.Kernel4Ideal.nD → PrngReg) :
    θ_run (Cert.Kernel4Ideal.defs (F := Ideal)) (onTc (τ := Cert.Kernel4Ideal.τ) (Cert.Kernel4Ideal.main (F := Ideal))) ⟨m, fun _ => 0, ρ⟩
      (fun r => ∀ c : Dev Cert.Kernel4Ideal.nD,
        r.2.mem ((c.tc : Thread _ _).loc Cert.Kernel4Ideal.main_v1_0) = (dats m 0 c).arrAt 3 Cert.Kernel4Ideal.cfg0.N
        ∧ r.2.mem ((c.tc : Thread _ _).loc Cert.Kernel4Ideal.main_v1_1) = (dats m 0 c).arrAt 4 Cert.Kernel4Ideal.cfg0.N
        ∧ r.2.mem ((c.tc : Thread _ _).loc Cert.Kernel4Ideal.main_v1_2) = (dats m 0 c).arrAt 5 Cert.Kernel4Ideal.cfg0.N
        ∧ r.2.mem ((c.tc : Thread _ _).loc Cert.Kernel4Ideal.main_v1_3) = (dats m 0 c).arrAt 6 Cert.Kernel4Ideal.cfg0.N
        ∧ r.2.mem ((c.tc : Thread _ _).loc Cert.Kernel4Ideal.main_arg0) = m ((c.tc : Thread _ _).loc Cert.Kernel4Ideal.main_arg0)
        ∧ r.2.mem ((c.tc : Thread _ _).loc Cert.Kernel4Ideal.main_arg1) = m ((c.tc : Thread _ _).loc Cert.Kernel4Ideal.main_arg1)
        ∧ r.2.mem ((c.tc : Thread _ _).loc Cert.Kernel4Ideal.main_arg2) = m ((c.tc : Thread _ _).loc Cert.Kernel4Ideal.main_arg2)) :=
  (θ_run _ _ _).mono (fun _ h c => ⟨(h.1 c).1 3, (h.1 c).1 4, (h.1 c).1 5, (h.1 c).1 6, h.2 c⟩)
    (θ_run_and (run_main m ρ) (Cert.Kernel4Ideal.Gen.frame_of m ρ (dats m) (A_eq m) (run_main m ρ)))

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => _, fun c => _, fun c => _, fun c => _, run_values m g, ?_⟩
  refine (θ_run _ _ _).mono (fun r h c => ⟨(h c).1.trans ?_, (h c).2.1.trans ?_, (h c).2.2.1.trans ?_, (h c).2.2.2.1.trans ?_, (h c).2.2.2.2⟩) (Cert.Reference4Ideal.Value.run m' g')
  · obtain ⟨h0, h1, h2⟩ := hagree c
    refine (ref_slabs m' c).trans ?_
    rw [h0, h1, h2]
    exact (ker_slabs m c).symm
  · obtain ⟨h0, h1, h2⟩ := hagree c
    refine (ref_block 1 _ _ rfl _ _ _).trans ?_
    rw [h0, h1, h2]
    exact (ker_keys m c).symm
  · obtain ⟨h0, h1, h2⟩ := hagree c
    refine (ref_block 2 _ _ rfl _ _ _).trans ?_
    rw [h0, h1, h2]
    exact (ker_values m c).symm
  · obtain ⟨h0, h1, h2⟩ := hagree c
    refine (ref_weights _).trans ?_
    rw [h2]
    exact (ker_weights m c).symm

theorem frame_ref : Cert.quiescent_Reference4Ideal (hReference4Ideal := Cert.Reference4Ideal.Gen.facts) := fun m g _ =>
  (θ_run _ _ _).mono (fun r h => ⟨fun c => (h c).2.2.2.2, sem_eq_zero_of_no_sems (by decide) r.2⟩)
    (Cert.Reference4Ideal.Value.run m g)

theorem frame_ker : Cert.quiescent_Kernel4Ideal (hKernel4Ideal := Cert.Kernel4Ideal.Gen.facts) := fun m g _ => frame m g

end Cert.InSample

end
-- ==== Proof.Merge.Sample.lean ====
module

public import proofs.«01_k».proof.Defs
public import proofs.«01_k».proof.Proof.Merge.Block
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run

/-! The merge of the sample batch, 256 rows in one block: the same body and the same mathematics as over the prompt. -/

@[expose] public section

set_option maxRecDepth 16384
set_option maxHeartbeats 4000000

noncomputable section

namespace Cert.MergeSample

open Idealize.ShloMosaic Idealize.SL.Sem
open Cert.Merge (out normed mixed branch halves gate block_eq)

section Kernel
open Cert.Kernel5Ideal Cert.Kernel5Ideal.Gen

/-- Where the grid's point `t` finds each block. -/
theorem idx : ∀ t : Fin cfg0.N, win0_0.index t = ![t.val, 0] ∧ win0_1.index t = ![t.val, 0] ∧ win0_2.index t = ![t.val, 0]
    ∧ win0_3.index t = ![1, t.val, 0] ∧ win0_4.index t = ![5, t.val, 0] ∧ win0_5.index t = ![6, t.val, 0]
    ∧ win0_6.index t = ![7, t.val, 0] ∧ win0_7.index t = ![8, t.val, 0] ∧ win0_8.index t = ![9, t.val, 0]
    ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

theorem N_eq : cfg0.N = 1 := rfl

/-- The row of the whole array that is row `r` of block `t`. -/
abbrev row (t : Fin cfg0.N) (r : Fin 256) : Fin 256 :=
  ⟨t.val * 256 + r.val, by have := t.isLt; have := N_eq; omega⟩

variable (m : (ℓ : Loc nD τ sig) → Buf (Elt Ideal) ℓ) (c : Dev nD) (t : Fin cfg0.N)

theorem read0 (r : Fin 256) (n : Fin 2048) :
    iblk m c 0 t (ix2 r n) = m ((c.tc : Thread _ _).loc main_arg0) (ix2 (row t r) n) := by
  have e := (idx t).1
  show V m c main_arg0 (((cfg0.win 0).blk t).view.emb (ix2 r n)) = _
  rw [V_main_arg0]
  congr 1
  blk_ext [e]

theorem read1 (r : Fin 256) (n : Fin 1024) :
    iblk m c 1 t (ix2 r n) = m ((c.tc : Thread _ _).loc main_arg1) (ix2 (row t r) n) := by
  have e := (idx t).2.1
  show V m c main_arg1 (((cfg0.win 1).blk t).view.emb (ix2 r n)) = _
  rw [V_main_arg1]
  congr 1
  blk_ext [e]

theorem read2 (r : Fin 256) (n : Fin 1024) :
    iblk m c 2 t (ix2 r n) = m ((c.tc : Thread _ _).loc main_arg2) (ix2 (row t r) n) := by
  have e := (idx t).2.2.1
  show V m c main_arg2 (((cfg0.win 2).blk t).view.emb (ix2 r n)) = _
  rw [V_main_arg2]
  congr 1
  blk_ext [e]

theorem read3 (r : Fin 256) (n : Fin 1024) :
    iblk m c 3 t (ix3 0 r n) = m ((c.tc : Thread _ _).loc main_arg3) (ix3 1 (row t r) n) := by
  have e := (idx t).2.2.2.1
  show V m c main_arg3 (((cfg0.win 3).blk t).view.emb (ix3 0 r n)) = _
  rw [V_main_arg3]
  congr 1
  blk_ext [e]

theorem read4 (r : Fin 256) (n : Fin 1024) :
    iblk m c 4 t (ix3 0 r n) = m ((c.tc : Thread _ _).loc main_arg3) (ix3 5 (row t r) n) := by
  have e := (idx t).2.2.2.2.1
  show V m c main_arg3 (((cfg0.win 4).blk t).view.emb (ix3 0 r n)) = _
  rw [V_main_arg3]
  congr 1
  blk_ext [e]

theorem read5 (r : Fin 256) (n : Fin 1024) :
    iblk m c 5 t (ix3 0 r n) = m ((c.tc : Thread _ _).loc main_arg3) (ix3 6 (row t r) n) := by
  have e := (idx t).2.2.2.2.2.1
  show V m c main_arg3 (((cfg0.win 5).blk t).view.emb (ix3 0 r n)) = _
  rw [V_main_arg3]
  congr 1
  blk_ext [e]

theorem read6 (r : Fin 256) (n : Fin 1024) :
    iblk m c 6 t (ix3 0 r n) = m ((c.tc : Thread _ _).loc main_arg3) (ix3 7 (row t r) n) := by
  have e := (idx t).2.2.2.2.2.2.1
  show V m c main_arg3 (((cfg0.win 6).blk t).view.emb (ix3 0 r n)) = _
  rw [V_main_arg3]
  congr 1
  blk_ext [e]

theorem read7 (r : Fin 256) (n : Fin 1024) :
    iblk m c 7 t (ix3 0 r n) = m ((c.tc : Thread _ _).loc main_arg3) (ix3 8 (row t r) n) := by
  have e := (idx t).2.2.2.2.2.2.2.1
  show V m c main_arg3 (((cfg0.win 7).blk t).view.emb (ix3 0 r n)) = _
  rw [V_main_arg3]
  congr 1
  blk_ext [e]

theorem read8 (r : Fin 256) (n : Fin 1024) :
    iblk m c 8 t (ix3 0 r n) = m ((c.tc : Thread _ _).loc main_arg3) (ix3 9 (row t r) n) := by
  have e := (idx t).2.2.2.2.2.2.2.2.1
  show V m c main_arg3 (((cfg0.win 8).blk t).view.emb (ix3 0 r n)) = _
  rw [V_main_arg3]
  congr 1
  blk_ext [e]

theorem read9 (r : Fin 1024) (n : Fin 2048) :
    iblk m c 9 t (ix2 r n) = m ((c.tc : Thread _ _).loc main_arg4) (ix2 r n) := by
  have e := (idx t).2.2.2.2.2.2.2.2.2.1
  show V m c main_v0 (((cfg0.win 9).blk t).view.emb (ix2 r n)) = _
  unfold V
  entry_read
  show m ((c.tc : Thread _ _).loc main_arg4) _ = _
  congr 1
  blk_ext [e]

theorem read10 (r : Fin 1024) (n : Fin 2048) :
    iblk m c 10 t (ix2 r n) = m ((c.tc : Thread _ _).loc main_arg5) (ix2 r n) := by
  have e := (idx t).2.2.2.2.2.2.2.2.2.2.1
  show V m c main_v1 (((cfg0.win 10).blk t).view.emb (ix2 r n)) = _
  unfold V
  entry_read
  show m ((c.tc : Thread _ _).loc main_arg5) _ = _
  congr 1
  blk_ext [e]

theorem read11 (r : Fin 2048) (n : Fin 2048) :
    iblk m c 11 t (ix2 r n) = m ((c.tc : Thread _ _).loc main_arg6) (ix2 r n) := by
  have e := (idx t).2.2.2.2.2.2.2.2.2.2.2.1
  show V m c main_v2 (((cfg0.win 11).blk t).view.emb (ix2 r n)) = _
  unfold V
  entry_read
  show m ((c.tc : Thread _ _).loc main_arg6) _ = _
  congr 1
  blk_ext [e]

theorem read12 (n : Fin 2048) :
    iblk m c 12 t (ix2 0 n) = m ((c.tc : Thread _ _).loc main_arg7) (ix1 n) := by
  have e := (idx t).2.2.2.2.2.2.2.2.2.2.2.2.1
  have hi : ((cfg0.win 12).blk t).view.emb (ix2 0 n) = (ix2 0 n : S1x2048.Idx) := by blk_ext [e]
  show V m c main_v3 (((cfg0.win 12).blk t).view.emb (ix2 0 n)) = _
  rw [hi]
  unfold V
  entry_read
  pointwise

theorem place (r : Fin 256) (n : Fin 2048) :
    ((cfg0.win 13).blk t).view.emb (ix2 r n) = (ix2 (row t r) n : S256x2048.Idx) := by
  have e := (idx t).2.2.2.2.2.2.2.2.2.2.2.2.2
  blk_ext [e]

/-- The result array after the run, as the layer's function of the arguments. -/
theorem ker_eq :
    (dats m 0 c).arrAt 13 cfg0.N
      = out (m ((c.tc : Thread _ _).loc main_arg0)) (m ((c.tc : Thread _ _).loc main_arg1))
          (m ((c.tc : Thread _ _).loc main_arg2)) (m ((c.tc : Thread _ _).loc main_arg3))
          (m ((c.tc : Thread _ _).loc main_arg4)) (m ((c.tc : Thread _ _).loc main_arg5))
          (m ((c.tc : Thread _ _).loc main_arg6)) (m ((c.tc : Thread _ _).loc main_arg7)) := by
  refine (dats m 0 c).arrAt_eq_of_covers 13 _ (by decide +kernel) fun t hf y => ?_
  obtain ⟨r, n, rfl⟩ : ∃ (a : Fin 256) (b : Fin 2048), y = ix2 a b := ⟨y 0, y 1, eq_ix2 y⟩
  rw [place]
  blk_simp
  rw [after0_13]
  frame_out
  simp only [k0_pay7, k0_pay8, k0_pay9]
  frame_out
  refine (block_eq _ _ _ _ _ _ _ _ _ _ _ _ _ r n).trans ?_
  simp only [read0, read1, read2, read3, read4, read5, read6, read7, read8, read9, read10, read11, read12]
  rfl

end Kernel

theorem ref_eq (m : (ℓ : Loc Cert.Reference5Ideal.nD Cert.Reference5Ideal.τ Cert.Reference5Ideal.sig) → Buf (Elt Ideal) ℓ)
    (c : Dev Cert.Reference5Ideal.nD) :
    Cert.Reference5Ideal.Value.res_out0 m c
      = out (m ((c.tc : Thread _ _).loc Cert.Reference5Ideal.main_arg0)) (m ((c.tc : Thread _ _).loc Cert.Reference5Ideal.main_arg1))
          (m ((c.tc : Thread _ _).loc Cert.Reference5Ideal.main_arg2)) (m ((c.tc : Thread _ _).loc Cert.Reference5Ideal.main_arg3))
          (m ((c.tc : Thread _ _).loc Cert.Reference5Ideal.main_arg4)) (m ((c.tc : Thread _ _).loc Cert.Reference5Ideal.main_arg5))
          (m ((c.tc : Thread _ _).loc Cert.Reference5Ideal.main_arg6)) (m ((c.tc : Thread _ _).loc Cert.Reference5Ideal.main_arg7)) := by
  funext i
  obtain ⟨r, n, rfl⟩ : ∃ (a : Fin 256) (b : Fin 2048), i = ix2 a b := ⟨i 0, i 1, eq_ix2 i⟩
  unfold Cert.Reference5Ideal.Value.res_out0 Cert.Reference5Ideal.Value.res_main_v49
  clean_types
  pointwise [out, normed, mixed, branch, halves, gate]

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => _, Cert.Kernel5Ideal.Value.run_blocks m g, ?_⟩
  refine (θ_run _ _ _).mono (fun r h c => ⟨(h c).1.trans ?_, (h c).2⟩) (Cert.Reference5Ideal.Value.run m' g')
  obtain ⟨h0, h1, h2, h3, h4, h5, h6, h7⟩ := hagree c
  refine (ref_eq m' c).trans ?_
  rw [h0, h1, h2, h3, h4, h5, h6, h7]
  exact (ker_eq m c).symm

theorem frame_ref : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run m g)

end Cert.MergeSample

end
-- ==== Proof.Roll.Buffer.lean ====
module

public import proofs.«01_k».proof.Proof.Gen.Kernel6Ideal.Frame
public import Idealize.ShloMosaic.Lib.Writes
public import Idealize.ShloMosaic.Lib.Pointwise
public import Idealize.ShloMosaic.Lib.Pipeline.ValueKit
public import Idealize.ShloMosaic.Lib.Exec
public import Idealize.ShloMosaic.Lib.Tactic

/-! The rolled buffer of one sequence, and that the kernel's nine stores write it.

A buffer keeps 512 positions of 8 heads, its row `8 * position + head`. Rolling it by the 32 new positions drops the
first 256 rows, and the new rows come last: head `h` of new position `j` is row `3840 + 8 * j + h`, read off the columns
`128 * h` and on of the new block's row `j`. The kernel stores the kept rows at once and then each head with a stride
of 8 rows. -/

@[expose] public section

set_option maxRecDepth 65536

noncomputable section

namespace Cert.Roll

open Cert.Kernel6Ideal Cert.Kernel6Ideal.Gen
open Idealize.ShloMosaic

variable {F : FTy → Type} [FloatOps F]

/-- The buffer `b` rolled by the new block `n`. -/
def roll (b : Vec F S1x4096x128 .f32) (n : Vec F S1x32x1024 .f32) : Vec F S1x4096x128 .f32 := fun y =>
  if (y 1).val < 3840 then b (ix3 0 (Fin.ofNat 4096 ((y 1).val + 256)) (y 2))
  else n (ix3 0 (Fin.ofNat 32 (((y 1).val - 3840) / 8)) (Fin.ofNat 1024 (((y 1).val - 3840) % 8 * 128 + (y 2).val)))

/-- The rows kept. -/
abbrev kept : Rect S1x4096x128 := Rect.unit (s := S1x4096x128) ![0, 0, 0] S1x3840x128.size inb_S1x4096x128_S1x3840x128_0_0_0

theorem inb_strided (h : ℕ) (hh : h < 8) (a : Fin 3) : S1x32x128.size a = 0
    ∨ (![0, 3840 + h, 0] : Fin 3 → ℕ) a + (![1, 8, 1] : Fin 3 → ℕ) a * (S1x32x128.size a - 1) < S1x4096x128.size a := by
  refine .inr ?_
  match a with
  | 0 => show 0 + 1 * (1 - 1) < 1; omega
  | 1 => show 3840 + h + 8 * (32 - 1) < 4096; omega
  | 2 => show 0 + 1 * (128 - 1) < 128; omega

theorem inb_cols (h : ℕ) (hh : h < 8) (a : Fin 3) : (![0, 0, 128 * h] : Fin 3 → ℕ) a + S1x32x128.size a ≤ S1x32x1024.size a := by
  match a with
  | 0 => show 0 + 1 ≤ 1; omega
  | 1 => show 0 + 32 ≤ 32; omega
  | 2 => show 128 * h + 128 ≤ 1024; omega

/-- The new rows of head `h`. -/
abbrev strided (h : ℕ) (hh : h < 8) : Rect S1x4096x128 := ⟨⟨![0, 3840 + h, 0], S1x32x128.size, ![1, 8, 1], inb_strided h hh⟩, spos_1_8_1⟩

variable {sp sp' : Space} (v : View sig .tc sp S1x4096x128 .f32) (f : BufTy.Contents (Elt F) v.ty)
  (u : View sig .tc sp' S1x32x1024 .f32) (g : BufTy.Contents (Elt F) u.ty)

/-- The store of the rows kept. -/
abbrev keptPiece : View.Piece (Elt F) S1x4096x128 .f32 :=
  ⟨kept, shapeCast S1x3840x128 (shapeCast S3840x128 (v.readAt (Elt F) (Rect.unit (s := S1x4096x128) ![0, 256, 0] S1x3840x128.size
    inb_S1x4096x128_S1x3840x128_0_256_0).toLoadRect f) shapeCasts_S1x3840x128_S3840x128) shapeCasts_S3840x128_S1x3840x128⟩

/-- The store of head `h`'s new rows. -/
abbrev newPiece (h : ℕ) (hh : h < 8) : View.Piece (Elt F) S1x4096x128 .f32 :=
  ⟨strided h hh, shapeCast S1x32x128 (shapeCast S32x128 (u.readAt (Elt F) (Rect.unit (s := S1x32x1024) ![0, 0, 128 * h] S1x32x128.size
    (inb_cols h hh)).toLoadRect g) shapeCasts_S1x32x128_S32x128) shapeCasts_S32x128_S1x32x128⟩

/-- A kept row is the row 256 further on. -/
theorem kept_row (n : Vec F S1x32x1024 .f32) (x : kept.shape.Idx) : (keptPiece v f).2 x = roll (v.read (Elt F) f) n (kept.emb x) := by
  have h1 : (x 1).val < 3840 := (x 1).isLt
  have e : (kept.emb x 1).val = (x 1).val := by show 0 + 1 * (x 1).val = _; omega
  unfold roll
  rw [if_pos (by omega)]
  refine (congrFun (shapeCast_shapeCast (s := S1x3840x128) (t := S3840x128) (v.readAt (Elt F) (Rect.unit (s := S1x4096x128) ![0, 256, 0]
    S1x3840x128.size inb_S1x4096x128_S1x3840x128_0_256_0).toLoadRect f) shapeCasts_S1x3840x128_S3840x128 shapeCasts_S3840x128_S1x3840x128) x).trans ?_
  refine congrArg (v.read (Elt F) f) (funext fun a => Fin.ext ?_)
  match a with
  | 0 => show 0 + 1 * (x 0).val = 0; have h0 : (x 0).val < 1 := (x 0).isLt; omega
  | 1 => show 256 + 1 * (x 1).val = ((kept.emb x 1).val + 256) % 4096; omega
  | 2 => rfl

/-- A new row of head `h`. -/
theorem new_row (b : Vec F S1x4096x128 .f32) (h : ℕ) (hh : h < 8) (x : (strided h hh).shape.Idx) :
    (newPiece u g h hh).2 x = roll b (u.read (Elt F) g) ((strided h hh).emb x) := by
  have b1 : (x 1).val < 32 := (x 1).isLt
  have b2 : (x 2).val < 128 := (x 2).isLt
  have e1 : ((strided h hh).emb x 1).val = 3840 + h + 8 * (x 1).val := rfl
  have e2 : ((strided h hh).emb x 2).val = 0 + 1 * (x 2).val := rfl
  unfold roll
  rw [if_neg (by omega)]
  refine (congrFun (shapeCast_shapeCast (s := S1x32x128) (t := S32x128) (u.readAt (Elt F) (Rect.unit (s := S1x32x1024) ![0, 0, 128 * h]
    S1x32x128.size (inb_cols h hh)).toLoadRect g) shapeCasts_S1x32x128_S32x128 shapeCasts_S32x128_S1x32x128) x).trans ?_
  refine congrArg (u.read (Elt F) g) (funext fun a => Fin.ext ?_)
  match a with
  | 0 => show 0 + 1 * (x 0).val = 0; have h0 : (x 0).val < 1 := (x 0).isLt; omega
  | 1 => show 0 + 1 * (x 1).val = (((strided h hh).emb x 1).val - 3840) / 8 % 32; omega
  | 2 => show 128 * h + 1 * (x 2).val = ((((strided h hh).emb x 1).val - 3840) % 8 * 128 + ((strided h hh).emb x 2).val) % 1024; omega

theorem mem_kept (y : S1x4096x128.Idx) (hy : (y 1).val < 3840) : y ∈ kept.set := kept.mem_set.mpr fun a => by
  match a with
  | 0 => exact ⟨0, Nat.one_pos, by show (y 0).val = 0 + 1 * 0; have h0 : (y 0).val < 1 := (y 0).isLt; omega⟩
  | 1 => exact ⟨(y 1).val, hy, by show (y 1).val = 0 + 1 * (y 1).val; omega⟩
  | 2 => exact ⟨(y 2).val, (y 2).isLt, by show (y 2).val = 0 + 1 * (y 2).val; omega⟩

theorem mem_strided (y : S1x4096x128.Idx) (hy : 3840 ≤ (y 1).val) (h : ℕ) (hh : h < 8) (e : ((y 1).val - 3840) % 8 = h) :
    y ∈ (strided h hh).set := (strided h hh).mem_set.mpr fun a => by
  have h1 : (y 1).val < 4096 := (y 1).isLt
  match a with
  | 0 => exact ⟨0, Nat.one_pos, by show (y 0).val = 0 + 1 * 0; have h0 : (y 0).val < 1 := (y 0).isLt; omega⟩
  | 1 => exact ⟨((y 1).val - 3840) / 8, by show _ < 32; omega, by show (y 1).val = 3840 + h + 8 * (((y 1).val - 3840) / 8); omega⟩
  | 2 => exact ⟨(y 2).val, (y 2).isLt, by show (y 2).val = 0 + 1 * (y 2).val; omega⟩

/-- The kernel's stores of one buffer, the last first. -/
abbrev stores : List (View.Piece (Elt F) S1x4096x128 .f32) :=
  [newPiece u g 7 (by decide), newPiece u g 6 (by decide), newPiece u g 5 (by decide), newPiece u g 4 (by decide), newPiece u g 3 (by decide),
    newPiece u g 2 (by decide), newPiece u g 1 (by decide), newPiece u g 0 (by decide), keptPiece v f]

/-- The nine stores leave the rolled buffer. -/
theorem rolled {sp'' : Space} (t : View sig .tc sp'' S1x4096x128 .f32) (d : BufTy.Contents (Elt F) t.ty) :
    t.read (Elt F) (t.writes (Elt F) d (stores v f u g)) = roll (v.read (Elt F) f) (u.read (Elt F) g) := by
  funext y
  refine View.read_writes_apply_of_pieces t d _ (stores v f u g) ?_ y ?_
  · simp only [stores, List.forall_mem_cons, List.not_mem_nil, false_imp_iff, implies_true, and_true]
    exact ⟨new_row u g _ 7 _, new_row u g _ 6 _, new_row u g _ 5 _, new_row u g _ 4 _, new_row u g _ 3 _, new_row u g _ 2 _, new_row u g _ 1 _,
      new_row u g _ 0 _, kept_row v f _⟩
  · by_cases hy : (y 1).val < 3840
    · exact ⟨keptPiece v f, by simp only [stores, List.mem_cons, true_or, or_true], mem_kept y hy⟩
    · have hm : ∃ (h : ℕ) (hh : h < 8), newPiece u g h hh ∈ stores v f u g ∧ ((y 1).val - 3840) % 8 = h := by
        obtain e | e | e | e | e | e | e | e : ((y 1).val - 3840) % 8 = 7 ∨ ((y 1).val - 3840) % 8 = 6 ∨ ((y 1).val - 3840) % 8 = 5 ∨ ((y 1).val - 3840) % 8 = 4
          ∨ ((y 1).val - 3840) % 8 = 3 ∨ ((y 1).val - 3840) % 8 = 2 ∨ ((y 1).val - 3840) % 8 = 1 ∨ ((y 1).val - 3840) % 8 = 0 := by omega
        all_goals exact ⟨_, by decide, by simp only [stores, List.mem_cons, true_or, or_true], e⟩
      obtain ⟨h, hh, hmem, e⟩ := hm
      exact ⟨_, hmem, mem_strided y (by omega) h hh e⟩

end Cert.Roll

end
-- ==== Proof.Roll.Run.lean ====
module

public import proofs.«01_k».proof.Proof.Roll.Buffer
public import Idealize.ShloMosaic.Lib.Pipeline

/-! The body of the sample batch's attention, run for one sequence.

The first sequence's run also fills the two bias tables, which the later ones read. Either way the run ends, leaves
its operands as they were and the two rolled buffers; what it leaves in the two attention blocks and in the bias
tables is not told. -/

@[expose] public section

set_option maxRecDepth 65536

noncomputable section

namespace Cert.Roll

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether the grid's point is the first. -/
abbrev first (i : grid0.Coords) : BitVec 1 := Scalar.cmpi .ne (Scalar.extui (Scalar.cmpi .eq (BitVec.ofNat 32 (i 0).val) 0#32) : BitVec 32) 0#32

variable (c : Dev nD) (i : grid0.Coords)
    (arg1 : Memref sig .tc .smem S32x8 .f32) (harg1 : arg1.IsWhole) (arg2 : Memref sig .tc .smem S8x257 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole)
    (arg7 : Memref sig .tc .vmem S1x128 .f32) (harg7 : arg7.IsWhole) (arg8 : Memref sig .tc .vmem S1x32x1024 .f32) (harg8 : arg8.IsWhole) (arg9 : Memref sig .tc .vmem S32x1024 .f32) (harg9 : arg9.IsWhole)
    (arg10 : Memref sig .tc .vmem S32x1024 .f32) (harg10 : arg10.IsWhole) (arg11 : Memref sig .tc .vmem S1x2048x1024 .f32) (harg11 : arg11.IsWhole) (arg12 : Memref sig .tc .vmem S1x16384x128 .f32) (harg12 : arg12.IsWhole)
    (arg13 : Memref sig .tc .vmem S1x32x1024 .f32) (harg13 : arg13.IsWhole) (arg14 : Memref sig .tc .vmem S1x32x1024 .f32) (harg14 : arg14.IsWhole) (arg15 : Memref sig .tc .vmem S1x32x1024 .f32) (harg15 : arg15.IsWhole)
    (arg16 : Memref sig .tc .vmem S1x4096x128 .f32) (harg16 : arg16.IsWhole) (arg17 : Memref sig .tc .vmem S1x4096x128 .f32) (harg17 : arg17.IsWhole) (arg18 : Memref sig .tc .vmem S32x1024 .f32) (harg18 : arg18.IsWhole)
    (arg19 : Memref sig .tc .vmem S32x1024 .f32) (harg19 : arg19.IsWhole) (arg20 : Memref sig .tc .vmem S1x4096x128 .f32) (harg20 : arg20.IsWhole) (arg21 : Memref sig .tc .vmem S1x4096x128 .f32) (harg21 : arg21.IsWhole)
    (arg22 : Memref sig .tc .vmem S8x32x160 .f32) (harg22 : arg22.IsWhole) (arg23 : Memref sig .tc .vmem S8x32x160 .f32) (harg23 : arg23.IsWhole)
    (x1 : Vec F S32x8 .f32) (x2 : Vec F S8x257 .f32) (x3 : Vec F S1x64 .f32) (x4 : Vec F S1x64 .f32) (x5 : Vec F S1x64 .f32) (x6 : Vec F S1x64 .f32) (x7 : Vec F S1x128 .f32) (x8 : Vec F S1x32x1024 .f32) (x9 : Vec F S32x1024 .f32) (x10 : Vec F S32x1024 .f32) (x11 : Vec F S1x2048x1024 .f32) (x12 : Vec F S1x16384x128 .f32) (x13 : Vec F S1x32x1024 .f32) (x14 : Vec F S1x32x1024 .f32) (x15 : Vec F S1x32x1024 .f32) (x16 : Vec F S1x4096x128 .f32) (x17 : Vec F S1x4096x128 .f32)

set_option maxHeartbeats 64000000 in
theorem run (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10 ∗ owns (c : Thread nD τ) arg11 fullShare x11 ∗ owns (c : Thread nD τ) arg12 fullShare x12
      ∗ owns (c : Thread nD τ) arg13 fullShare x13 ∗ owns (c : Thread nD τ) arg14 fullShare x14 ∗ owns (c : Thread nD τ) arg15 fullShare x15 ∗ owns (c : Thread nD τ) arg16 fullShare x16
      ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
      ∗ (∃ d, owns (c : Thread nD τ) arg21 fullShare d) ∗ (∃ d, owns (c : Thread nD τ) arg22 fullShare d) ∗ (∃ d, owns (c : Thread nD τ) arg23 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7 ∗ owns (c : Thread nD τ) arg8 fullShare x8
          ∗ owns (c : Thread nD τ) arg9 fullShare x9 ∗ owns (c : Thread nD τ) arg10 fullShare x10 ∗ owns (c : Thread nD τ) arg11 fullShare x11 ∗ owns (c : Thread nD τ) arg12 fullShare x12
          ∗ owns (c : Thread nD τ) arg13 fullShare x13 ∗ owns (c : Thread nD τ) arg14 fullShare x14 ∗ owns (c : Thread nD τ) arg15 fullShare x15 ∗ owns (c : Thread nD τ) arg16 fullShare x16
          ∗ owns (c : Thread nD τ) arg17 fullShare x17 ∗ (∃ d, owns (c : Thread nD τ) arg18 fullShare d) ∗ (∃ d, owns (c : Thread nD τ) arg19 fullShare d) ∗ owns (c : Thread nD τ) arg20 fullShare (roll x16 x14)
          ∗ owns (c : Thread nD τ) arg21 fullShare (roll x17 x15) ∗ (∃ d, owns (c : Thread nD τ) arg22 fullShare d) ∗ (∃ d, owns (c : Thread nD τ) arg23 fullShare d)) -∗ K ⟨⟩))
    ⊢ wp frame (wpE (defs₀ (F := F)) Variants.none c none) E (cc0_attn_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  sl_unfold [cc0_attn_sample]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf1 hf2 hf3 hf4 hf5 hf6 hf7 hf8 hf9 hf10 hf11 hf12 hf13 hf14 hf15 hf16 hf17
  by_cases hc : first i = 1#1
  all_goals
    sl_exec (disch := first | exact hc | exact absurd ‹_› hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists _, _; isplitr; swap; · iexact H18
      ipureintro; rfl
    isplitl [H19]
    · iexists _, _; isplitr; swap; · iexact H19
      ipureintro; rfl
    isplitl [H20]
    · iexists _; isplitr; swap; · iexact H20
      ipureintro
      sl_unfold_words
      exact rolled arg16.view f16 arg14.view f14 arg20.view f20
    isplitl [H21]
    · iexists _; isplitr; swap; · iexact H21
      ipureintro
      sl_unfold_words
      exact rolled arg17.view f17 arg15.view f15 arg21.view f21
    isplitl [H22]
    · iexists _, _; isplitr; swap; · iexact H22
      ipureintro; rfl
    iexists _, _; isplitr; swap; · iexact H23
    ipureintro; rfl

end Cert.Roll

end
-- ==== Proof.Roll.Frame.lean ====
module

public import proofs.«01_k».proof.Proof.Roll.Run
public import Idealize.ShloMosaic.Lib.Pipeline.TableIdle
public import Idealize.ShloMosaic.Lib.Claim

/-! The sample batch's attention as a pipeline over its 8 sequences, and its run.

Every point reads its operands' blocks and leaves the sequence's two rolled buffers. The two attention blocks it also
leaves are not results here, so nothing is said of them; the bias tables kept between points may hold anything. -/

@[expose] public section

set_option maxRecDepth 16384

noncomputable section

namespace Cert.Roll

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows nothing is said of: the two attention blocks. -/
def untold : Fin cfg0.W → Bool
  | ⟨17, _⟩ => true
  | ⟨18, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => roll (iblk m c 15 t) (iblk m c 13 t)
    | ⟨20, _⟩ => roll (iblk m c 16 t) (iblk m c 14 t)
    | ⟨n + 21, h⟩ => absurd (show n + 21 < 21 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after19 (c : Dev nD) (t : Fin cfg0.N) : (dats m 0 c).after 19 t = roll (iblk m c 15 t) (iblk m c 13 t) := by dsimp only [dats]
theorem after20 (c : Dev nD) (t : Fin cfg0.N) : (dats m 0 c).after 20 t = roll (iblk m c 16 t) (iblk m c 14 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d

/-! ## The body obligation -/

/-- Between points the two bias tables hold anything. -/
theorem inv_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop(Pipeline.ΦA spec0 c ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d))
    ∗ (∃ d, owns (c : Thread nD τ) ((cfg0.win 16).stage (cfg0.slots t 16)) fullShare ((dats m 0 c).before 16 t d))
    ∗ (∃ X, owns (c : Thread nD τ) ((cfg0.win 17).stage (cfg0.slots t 17)) fullShare X)
    ∗ (∃ X, owns (c : Thread nD τ) ((cfg0.win 18).stage (cfg0.slots t 18)) fullShare X)
    ∗ (∃ d, owns (c : Thread nD τ) ((cfg0.win 19).stage (cfg0.slots t 19)) fullShare ((dats m 0 c).before 19 t d))
    ∗ (∃ d, owns (c : Thread nD τ) ((cfg0.win 20).stage (cfg0.slots t 20)) fullShare ((dats m 0 c).before 20 t d)))

def bodyPost (c : Dev nD) (t : Fin cfg0.N) : sProp 𝕄 :=
  iprop(Pipeline.ΦA spec0 c ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t)
    ∗ owns (c : Thread nD τ) ((cfg0.win 12).stage (cfg0.slots t 12)) fullShare ((dats m 0 c).after 12 t)
    ∗ owns (c : Thread nD τ) ((cfg0.win 13).stage (cfg0.slots t 13)) fullShare ((dats m 0 c).after 13 t)
    ∗ owns (c : Thread nD τ) ((cfg0.win 14).stage (cfg0.slots t 14)) fullShare ((dats m 0 c).after 14 t)
    ∗ owns (c : Thread nD τ) ((cfg0.win 15).stage (cfg0.slots t 15)) fullShare ((dats m 0 c).after 15 t)
    ∗ owns (c : Thread nD τ) ((cfg0.win 16).stage (cfg0.slots t 16)) fullShare ((dats m 0 c).after 16 t)
    ∗ (∃ X, owns (c : Thread nD τ) ((cfg0.win 17).stage (cfg0.slots t 17)) fullShare X)
    ∗ (∃ X, owns (c : Thread nD τ) ((cfg0.win 18).stage (cfg0.slots t 18)) fullShare X)
    ∗ owns (c : Thread nD τ) ((cfg0.win 19).stage (cfg0.slots t 19)) fullShare ((dats m 0 c).after 19 t)
    ∗ owns (c : Thread nD τ) ((cfg0.win 20).stage (cfg0.slots t 20)) fullShare ((dats m 0 c).after 20 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  simp only [after0, after1, after2, after3, after4, after5, after6, after7, after8, after9, after10, after11, after12, after13, after14, after15, after16, after19, after20]
  rw [show (dats m 0 c).owesAt () t.succ = (dats m 0 c).owesAt () t.castSucc from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (run c (grid0.coords t) _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, H9, H10, H11, H12, H13, H14, H15, H16, H17, H18, H19, H20, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ untold := fun t => by
  rw [bigSep_W0, bigSep_W0, defs₀_row]
  exact triple_restated (sound_body m c t) rfl .rfl fun _ => .rfl

/-! ## The run -/

/-- What the run ends with: every array but the two attention outputs as the points leave it. -/
abbrev Post (r : PUnit × MemSt nD τ sig (Elt F)) : Prop :=
  Pipeline.RDat.FramePost cfg0 (fun c => (dats m 0 c).toRForget untold) (V m) r

set_option backward.isDefEq.respectTransparency.types false in
theorem run_main : θ_run defs (onTc (τ := τ) (main (F := F))) (s₀ m ρ) (fun r => Post m r ∧ r.2.sem = fun _ => 0) :=
  Pipeline.θ_run_frame_forget_shared (Q' := _) cfgs (dats m) (0 : Fin 1) launch₀0 defs₀ Variants.none untold m ρ main
    (hbody := fun c => (body_obligation m c).loose) (hq := fun _ _ _ => rfl)
    (howed := fun _ _ => rfl) (V := V m) (hmain := hmain m Variants.none) (hA := A_eq m) (hΦ := fun _ _ => rfl)

/-- An operand's array ends as the run found it. -/
theorem operand {r : PUnit × MemSt nD τ sig (Elt F)} (h : Post m r) (c : Dev nD) (w : Fin cfg0.W) (hw : (cfg0.win w).isOut = false) :
    r.2.mem ((cfg0.spec w).arr.view.loc (c.tc : Thread nD τ)) = V m c (Pipeline.arrRef spec0 w) :=
  (Pipeline.RDat.FramePost.arr_in h c w hw).trans (A_eq m c w)

/-- The arguments are as the run found them. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)

theorem arguments {r : PUnit × MemSt nD τ sig (Elt F)} (h : Post m r) (c : Dev nD) : Kept m r c :=
  have rest (b : Ref sig .tc) (hb) : r.2.mem ((c.tc : Thread nD τ).loc b) = V m c b := (h c).2 b hb
  ⟨(operand m h c 14 rfl).trans (V_main_arg0 m c), (operand m h c 8 rfl).trans (V_main_arg1 m c), (operand m h c 9 rfl).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c),
    (rest main_arg6 (Pipeline.mem_restRefs_of main_arg6 (by decide) (by decide))).trans (V_main_arg6 m c),
    (operand m h c 0 rfl).trans (V_main_arg7 m c), (operand m h c 1 rfl).trans (V_main_arg8 m c),
    (rest main_arg9 (Pipeline.mem_restRefs_of main_arg9 (by decide) (by decide))).trans (V_main_arg9 m c),
    (rest main_arg10 (Pipeline.mem_restRefs_of main_arg10 (by decide) (by decide))).trans (V_main_arg10 m c),
    (rest main_arg11 (Pipeline.mem_restRefs_of main_arg11 (by decide) (by decide))).trans (V_main_arg11 m c),
    (rest main_arg12 (Pipeline.mem_restRefs_of main_arg12 (by decide) (by decide))).trans (V_main_arg12 m c),
    (rest main_arg13 (Pipeline.mem_restRefs_of main_arg13 (by decide) (by decide))).trans (V_main_arg13 m c)⟩

/-- A rolled buffer's array ends as the points leave it. -/
theorem result {r : PUnit × MemSt nD τ sig (Elt F)} (h : Post m r) (c : Dev nD) (w : Fin cfg0.W) (hw : untold w = false) :
    r.2.mem ((cfg0.spec w).arr.view.loc (c.tc : Thread nD τ)) = (dats m 0 c).arrAt w cfg0.N :=
  ((dats m 0 c).toRForget_arrAt_iff hw _ _).mp ((h c).1 w)

theorem frame : θ_run defs (onTc (τ := τ) (main (F := F))) (s₀ m ρ) (fun r => (∀ c, Kept m r c) ∧ r.2.sem = fun _ => 0) :=
  (θ_run _ _ _).mono (fun _ h => ⟨arguments m h.1, h.2⟩) (run_main m ρ)

end Cert.Roll

end
-- ==== Proof.Roll.Ref.lean ====
module

public import proofs.«01_k».proof.Proof.Gen.Reference6Ideal.Run
public import Idealize.ShloMosaic.Lib.Pointwise
public import Idealize.ShloMosaic.Lib.Pipeline.ValueKit

/-! The rolled buffers of all sequences, and that the reference computes them.

A cache holds 512 positions of 8 heads for each of 8 sequences. Its 32 oldest positions go, the other 480 move to the
front, and the 32 new positions, a slab of the projections, come behind them. -/

@[expose] public section

set_option maxRecDepth 16384

noncomputable section

namespace Cert.Roll

open Idealize.ShloMosaic Idealize.SL.Sem
open Cert.Reference6Ideal Cert.Reference6Ideal.Gen

/-- The cache `b` of all sequences rolled by the slab `s` of the projections `p`; a row is a position and a head. -/
def next (s : Fin 10) (b : FVec Ideal S8x512x8x128 .f32) (p : FVec Ideal S10x256x1024 .f32) : FVec Ideal S8x4096x128 .f32 := fun i =>
  if (i 1).val < 3840 then b (ix4 (i 0) (Fin.ofNat 512 ((i 1).val / 8 + 32)) (Fin.ofNat 8 ((i 1).val % 8)) (i 2))
  else p (ix3 s (Fin.ofNat 256 ((i 0).val * 32 + ((i 1).val - 3840) / 8)) (Fin.ofNat 1024 ((i 1).val % 8 * 128 + (i 2).val)))

/-- What the reference does to one cache. -/
theorem ref_next (s : Fin 10) (o : Fin 3 → ℕ) (hs) (ho : o = ![s.val, 0, 0]) (b : FVec Ideal S8x512x8x128 .f32) (p : FVec Ideal S10x256x1024 .f32) :
    (shapeCast S8x4096x128 (extractStridedSlice S8x512x8x128 ![0, 32, 0, 0] (concatenate S8x544x8x128 1 [⟨S8x512x8x128, b⟩, ⟨S8x32x8x128, (shapeCast _ (shapeCast _ (extractStridedSlice S1x256x1024 o p hs) shapeCasts_S1x256x1024_S256x1024) shapeCasts_S256x1024_S8x32x8x128)⟩] concatenates_S8x512x8x128_S8x32x8x128_S8x544x8x128_d1) slices_S8x544x8x128_S8x512x8x128_0_32_0_0) shapeCasts_S8x512x8x128_S8x4096x128
      : FVec Ideal S8x4096x128 .f32) = next s b p := by
  subst ho
  funext i
  obtain ⟨q, r, d, rfl⟩ : ∃ (a : Fin 8) (b : Fin 4096) (c : Fin 128), i = ix3 a b c := ⟨i 0, i 1, i 2, eq_ix3 i⟩
  have hq := q.isLt
  have hr := r.isLt
  have hd := d.isLt
  refine (shapeCast_apply _ _ _ (ix4 q ⟨r.val / 8, by omega⟩ ⟨r.val % 8, by omega⟩ d : S8x512x8x128.Idx) ?_).trans ?_
  · rw [Shape.rowMajor_val_four, Shape.rowMajor_val_three]
    show (((q.val * 512 + r.val / 8) * 8 + r.val % 8) * 128 + d.val) = ((q.val * 4096 + r.val) * 128 + d.val)
    omega
  refine (extractStridedSlice_apply _ _ _ _ (ix4 q ⟨r.val / 8 + 32, by omega⟩ ⟨r.val % 8, by omega⟩ d : S8x544x8x128.Idx) fun a => ?_).trans ?_
  · match a with
    | 0 => show q.val = 0 + q.val; omega
    | 1 => show r.val / 8 + 32 = 32 + r.val / 8; omega
    | 2 => show r.val % 8 = 0 + r.val % 8; omega
    | 3 => show d.val = 0 + d.val; omega
  unfold next
  by_cases h : r.val < 3840
  · refine Eq.trans ?_ (if_pos (c := r.val < 3840) h).symm
    refine concatenate_pair_apply_left (t := S8x544x8x128) (s₁ := S8x512x8x128) (s₂ := S8x32x8x128) 1 _ _ _ _ rfl _ fun a => ?_
    match a with
    | 0 => rfl
    | 1 => show (r.val / 8 + 32) % 512 = r.val / 8 + 32; omega
    | 2 => show r.val % 8 % 8 = r.val % 8; omega
    | 3 => rfl
  · refine Eq.trans ?_ (if_neg (c := r.val < 3840) h).symm
    refine (concatenate_pair_apply_right (t := S8x544x8x128) (s₁ := S8x512x8x128) (s₂ := S8x32x8x128) 1 _ _ _ _ rfl rfl (ix4 q ⟨(r.val - 3840) / 8, by omega⟩ ⟨r.val % 8, by omega⟩ d : S8x32x8x128.Idx) (fun a ha => ?_) ?_).trans ?_
    · match a with
      | 0 => rfl
      | 1 => exact absurd rfl ha
      | 2 => rfl
      | 3 => rfl
    · show (r.val - 3840) / 8 + 512 = r.val / 8 + 32
      omega
    refine (shapeCast_apply _ _ _ (ix2 ⟨q.val * 32 + (r.val - 3840) / 8, by omega⟩ ⟨r.val % 8 * 128 + d.val, by omega⟩ : S256x1024.Idx) ?_).trans ?_
    · rw [Shape.rowMajor_val_four, Shape.rowMajor_val_two]
      show ((q.val * 32 + (r.val - 3840) / 8) * 1024 + (r.val % 8 * 128 + d.val)) = (((q.val * 32 + (r.val - 3840) / 8) * 8 + r.val % 8) * 128 + d.val)
      omega
    refine (shapeCast_apply _ _ _ (ix3 0 ⟨q.val * 32 + (r.val - 3840) / 8, by omega⟩ ⟨r.val % 8 * 128 + d.val, by omega⟩ : S1x256x1024.Idx) ?_).trans ?_
    · rw [Shape.rowMajor_val_three, Shape.rowMajor_val_two]
      show (0 * 256 + (q.val * 32 + (r.val - 3840) / 8)) * 1024 + (r.val % 8 * 128 + d.val) = (q.val * 32 + (r.val - 3840) / 8) * 1024 + (r.val % 8 * 128 + d.val)
      omega
    refine congrArg p (funext fun a => Fin.ext ?_)
    match a with
    | 0 => show s.val + 0 = s.val; omega
    | 1 => show 0 + (q.val * 32 + (r.val - 3840) / 8) = (q.val * 32 + (r.val - 3840) / 8) % 256; omega
    | 2 => show 0 + (r.val % 8 * 128 + d.val) = (r.val % 8 * 128 + d.val) % 1024; omega

end Cert.Roll

end
-- ==== Proof.Roll.Ker.lean ====
module

public import proofs.«01_k».proof.Proof.Roll.Frame
public import proofs.«01_k».proof.Proof.Roll.Ref

/-! What the sample batch's attention leaves in its two rolled buffers. -/

@[expose] public section

set_option maxRecDepth 16384

noncomputable section

namespace Cert.Roll

open Idealize.ShloMosaic Idealize.SL.Sem
open Cert.Kernel6Ideal Cert.Kernel6Ideal.Gen

/-- Where the grid's point `t` finds each block. -/
theorem idx : ∀ t : Fin cfg0.N, win0_13.index t = ![3, t.val, 0] ∧ win0_14.index t = ![4, t.val, 0] ∧ win0_15.index t = ![t.val, 0, 0]
    ∧ win0_16.index t = ![t.val, 0, 0] ∧ win0_19.index t = ![t.val, 0, 0] ∧ win0_20.index t = ![t.val, 0, 0] :=
  (by decide +kernel : ∀ t : Fin grid0.N, _)

/-- The point's sequence. -/
abbrev seqOf (t : Fin cfg0.N) : Fin 8 := ⟨t.val, lt_of_lt_of_eq t.isLt N_0⟩

variable (m : (ℓ : Loc nD τ sig) → Buf (Elt Ideal) ℓ) (c : Dev nD) (t : Fin cfg0.N)

abbrev P : FVec Ideal S10x256x1024 .f32 := m ((c.tc : Thread _ _).loc main_arg0)
abbrev K : FVec Ideal S8x512x8x128 .f32 := m ((c.tc : Thread _ _).loc main_arg5)
abbrev U : FVec Ideal S8x512x8x128 .f32 := m ((c.tc : Thread _ _).loc main_arg6)

/-! ## The operands' blocks -/

/-- A cache with its heads under its positions. -/
theorem flat (b : FVec Ideal S8x512x8x128 .f32) (q : Fin 8) (r : Fin 4096) (d : Fin 128) :
    shapeCast S8x4096x128 b shapeCasts_S8x512x8x128_S8x4096x128 (ix3 q r d)
      = b (ix4 q (Fin.ofNat 512 (r.val / 8)) (Fin.ofNat 8 (r.val % 8)) d) := by
  refine shapeCast_apply _ _ _ (ix4 q (Fin.ofNat 512 (r.val / 8)) (Fin.ofNat 8 (r.val % 8)) d : S8x512x8x128.Idx) ?_
  rw [Shape.rowMajor_val_four, Shape.rowMajor_val_three]
  show (((q.val * 512 + r.val / 8 % 512) * 8 + r.val % 8 % 8) * 128 + d.val) = ((q.val * 4096 + r.val) * 128 + d.val)
  have hr := r.isLt
  omega

theorem read13 (r : Fin 32) (n : Fin 1024) : iblk m c 13 t (ix3 0 r n) = P m c (ix3 3 (Fin.ofNat 256 (t.val * 32 + r.val)) n) := by
  have e := (idx t).1
  have ht := (seqOf t).isLt
  show V m c main_arg0 (((cfg0.win 13).blk t).view.emb (ix3 0 r n)) = _
  rw [V_main_arg0]
  congr 1
  blk_ext [e]
  exact (Nat.mod_eq_of_lt (by omega)).symm

theorem read14 (r : Fin 32) (n : Fin 1024) : iblk m c 14 t (ix3 0 r n) = P m c (ix3 4 (Fin.ofNat 256 (t.val * 32 + r.val)) n) := by
  have e := (idx t).2.1
  have ht := (seqOf t).isLt
  show V m c main_arg0 (((cfg0.win 14).blk t).view.emb (ix3 0 r n)) = _
  rw [V_main_arg0]
  congr 1
  blk_ext [e]
  exact (Nat.mod_eq_of_lt (by omega)).symm

theorem read15 (r : Fin 4096) (d : Fin 128) : iblk m c 15 t (ix3 0 r d) = K m c (ix4 (seqOf t) (Fin.ofNat 512 (r.val / 8)) (Fin.ofNat 8 (r.val % 8)) d) := by
  have e := (idx t).2.2.1
  have hi : ((cfg0.win 15).blk t).view.emb (ix3 0 r d) = (ix3 (seqOf t) r d : S8x4096x128.Idx) := by blk_ext [e]
  show V m c main_v2 (((cfg0.win 15).blk t).view.emb (ix3 0 r d)) = _
  rw [hi]
  unfold V
  entry_read
  exact flat _ _ _ _

theorem read16 (r : Fin 4096) (d : Fin 128) : iblk m c 16 t (ix3 0 r d) = U m c (ix4 (seqOf t) (Fin.ofNat 512 (r.val / 8)) (Fin.ofNat 8 (r.val % 8)) d) := by
  have e := (idx t).2.2.2.1
  have hi : ((cfg0.win 16).blk t).view.emb (ix3 0 r d) = (ix3 (seqOf t) r d : S8x4096x128.Idx) := by blk_ext [e]
  show V m c main_v3 (((cfg0.win 16).blk t).view.emb (ix3 0 r d)) = _
  rw [hi]
  unfold V
  entry_read
  exact flat _ _ _ _

/-! ## A rolled block in its array -/

theorem place19 (r : Fin 4096) (d : Fin 128) : ((cfg0.win 19).blk t).view.emb (ix3 0 r d) = (ix3 (seqOf t) r d : S8x4096x128.Idx) := by
  have e := (idx t).2.2.2.2.1
  blk_ext [e]

theorem place20 (r : Fin 4096) (d : Fin 128) : ((cfg0.win 20).blk t).view.emb (ix3 0 r d) = (ix3 (seqOf t) r d : S8x4096x128.Idx) := by
  have e := (idx t).2.2.2.2.2
  blk_ext [e]

/-- The sequence's block rolled is the sequence's part of the whole. -/
theorem roll_next (s : Fin 10) (q : Fin 8) (b : FVec Ideal S8x512x8x128 .f32) (p : FVec Ideal S10x256x1024 .f32) (x : Vec Ideal S1x4096x128 .f32)
    (n : Vec Ideal S1x32x1024 .f32)
    (hx : ∀ (r : Fin 4096) (d : Fin 128), x (ix3 0 r d) = b (ix4 q (Fin.ofNat 512 (r.val / 8)) (Fin.ofNat 8 (r.val % 8)) d))
    (hn : ∀ (r : Fin 32) (k : Fin 1024), n (ix3 0 r k) = p (ix3 s (Fin.ofNat 256 (q.val * 32 + r.val)) k)) (r : Fin 4096) (d : Fin 128) :
    roll x n (ix3 0 r d) = next s b p (ix3 q r d) := by
  have hr := r.isLt
  have hd := d.isLt
  unfold roll next
  by_cases h : r.val < 3840
  · refine (if_pos (c := r.val < 3840) h).trans (Eq.trans ?_ (if_pos (c := r.val < 3840) h).symm)
    refine (hx (Fin.ofNat 4096 (r.val + 256)) d).trans (congrArg b (funext fun a => Fin.ext ?_))
    match a with
    | 0 => rfl
    | 1 => show (r.val + 256) % 4096 / 8 % 512 = (r.val / 8 + 32) % 512; omega
    | 2 => show (r.val + 256) % 4096 % 8 % 8 = r.val % 8 % 8; omega
    | 3 => rfl
  · refine (if_neg (c := r.val < 3840) h).trans (Eq.trans ?_ (if_neg (c := r.val < 3840) h).symm)
    refine (hn (Fin.ofNat 32 ((r.val - 3840) / 8)) (Fin.ofNat 1024 ((r.val - 3840) % 8 * 128 + d.val))).trans (congrArg p (funext fun a => Fin.ext ?_))
    match a with
    | 0 => rfl
    | 1 => show (q.val * 32 + (r.val - 3840) / 8 % 32) % 256 = (q.val * 32 + (r.val - 3840) / 8) % 256; omega
    | 2 => show ((r.val - 3840) % 8 * 128 + d.val) % 1024 = (r.val % 8 * 128 + d.val) % 1024; omega

/-! ## The two results -/

theorem ker_keys : (dats m 0 c).arrAt 19 cfg0.N = next 3 (K m c) (P m c) := by
  refine (dats m 0 c).arrAt_eq_of_covers 19 _ (by decide +kernel) fun t hf y => ?_
  obtain ⟨u, r, d, rfl⟩ : ∃ (u : Fin 1) (a : Fin 4096) (b : Fin 128), y = ix3 u a b := ⟨y 0, y 1, y 2, eq_ix3 y⟩
  obtain rfl : u = 0 := Subsingleton.elim _ _
  rw [place19]
  blk_simp
  rw [after19]
  exact roll_next 3 (seqOf t) _ _ _ _ (read15 m c t) (read13 m c t) r d

theorem ker_values : (dats m 0 c).arrAt 20 cfg0.N = next 4 (U m c) (P m c) := by
  refine (dats m 0 c).arrAt_eq_of_covers 20 _ (by decide +kernel) fun t hf y => ?_
  obtain ⟨u, r, d, rfl⟩ : ∃ (u : Fin 1) (a : Fin 4096) (b : Fin 128), y = ix3 u a b := ⟨y 0, y 1, y 2, eq_ix3 y⟩
  obtain rfl : u = 0 := Subsingleton.elim _ _
  rw [place20]
  blk_simp
  rw [after20]
  exact roll_next 4 (seqOf t) _ _ _ _ (read16 m c t) (read14 m c t) r d

end Cert.Roll

end
-- ==== Proof.Roll.Claim.lean ====
module

public import proofs.«01_k».proof.Defs
public import proofs.«01_k».proof.Proof.Roll.Ker
public import proofs.«01_k».proof.Proof.Gen.Reference6Ideal
public import proofs.«01_k».proof.Proof.Gen.Kernel6Ideal

/-! The sample batch's rolled buffers: kernel and reference end with the same two arrays. -/

@[expose] public section

set_option maxRecDepth 16384

noncomputable section

namespace Cert.Roll

open Idealize.ShloMosaic Idealize.SL.Sem

/-- The run of the kernel, its two results and its arguments read off. -/
theorem run_values (m : (ℓ : Loc Cert.Kernel6Ideal.nD Cert.Kernel6Ideal.τ Cert.Kernel6Ideal.sig) → Buf (Elt Ideal) ℓ)
    (ρ : Dev Cert.Kernel6Ideal.nD → PrngReg) :
    θ_run (Cert.Kernel6Ideal.defs (F := Ideal)) (onTc (τ := Cert.Kernel6Ideal.τ) (Cert.Kernel6Ideal.main (F := Ideal))) ⟨m, fun _ => 0, ρ⟩
      (fun r => ∀ c : Dev Cert.Kernel6Ideal.nD,
        r.2.mem ((c.tc : Thread _ _).loc Cert.Kernel6Ideal.main_v9_2) = (dats m 0 c).arrAt 19 Cert.Kernel6Ideal.cfg0.N
        ∧ r.2.mem ((c.tc : Thread _ _).loc Cert.Kernel6Ideal.main_v9_3) = (dats m 0 c).arrAt 20 Cert.Kernel6Ideal.cfg0.N
        ∧ Kept m r c) :=
  (θ_run _ _ _).mono (fun _ h c => ⟨result m h.1 c 19 rfl, result m h.1 c 20 rfl, arguments m h.1 c⟩) (run_main m ρ)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => _, fun c => _, run_values m g, ?_⟩
  refine (θ_run _ _ _).mono (fun r h c => ⟨(h c).1.trans ?_, (h c).2.1.trans ?_, (h c).2.2⟩) (Cert.Reference6Ideal.Value.run m' g')
  · obtain ⟨h0, -, -, -, -, h5, -⟩ := hagree c
    refine (ref_next 3 _ _ rfl _ _).trans ?_
    rw [h0, h5]
    exact (ker_keys m c).symm
  · obtain ⟨h0, -, -, -, -, -, h6, -⟩ := hagree c
    refine (ref_next 4 _ _ rfl _ _).trans ?_
    rw [h0, h6]
    exact (ker_values m c).symm

theorem frame_ref : Cert.quiescent_Reference6Ideal (hReference6Ideal := Cert.Reference6Ideal.Gen.facts) := fun m g _ =>
  (θ_run _ _ _).mono (fun r h => ⟨fun c => (h c).2.2, sem_eq_zero_of_no_sems (by decide) r.2⟩)
    (Cert.Reference6Ideal.Value.run m g)

theorem frame_ker : Cert.quiescent_Kernel6Ideal (hKernel6Ideal := Cert.Kernel6Ideal.Gen.facts) := fun m g _ => frame m g

end Cert.Roll

end
-- ==== Proof.Roll.Same.lean ====
module

public import proofs.«01_k».proof.Defs
public import proofs.«01_k».proof.Proof.Roll.Frame
public import proofs.«01_k».proof.Proof.Gen.Kernel6

/-! The kernel at the machine's own floats: its program is the idealized one's text, so the one run serves. -/

@[expose] public section

set_option maxRecDepth 65536

noncomputable section

namespace Cert.Roll

open Idealize.ShloMosaic Idealize.SL.Sem

set_option maxHeartbeats 8000000 in
theorem defs₀_same : Cert.Kernel6.defs₀ (F := Bits) = Cert.Kernel6Ideal.defs₀ (F := Bits) := by
  refine congrArg Defs.onTc ?_
  funext l a
  match l, a with
  | 0, (t, s) => rfl

set_option maxHeartbeats 8000000 in
theorem defs_same : Cert.Kernel6.defs (F := Bits) = Cert.Kernel6Ideal.defs (F := Bits) :=
  congrArg (Pipeline.defs Cert.Kernel6.pcfgs) defs₀_same

set_option maxHeartbeats 8000000 in
theorem frame_bits : Cert.quiescent_Kernel6 (hKernel6 := Cert.Kernel6.Gen.facts) := by
  intro m g _
  rw [defs_same]
  exact frame (F := Bits) m g

end Cert.Roll

end
-- ==== Proof.lean ====
/- The certificate: the band attention, the input projection and the merge of the prompt, the projection, the merge
   and the rolled buffers of the sample batch. Each part's runs and values are in the modules `Proof/AttnB`, `Proof/InProj`,
   `Proof/Merge`, `Proof/InSample` and `Proof/Roll`; this file puts them in the order of `Cert.Claim`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Reference6Ideal.Run
public import proofs.«01_k».proof.Proof.Gen.Kernel6
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.AttnB.Claim
public import proofs.«01_k».proof.Proof.AttnB.Same
public import proofs.«01_k».proof.Proof.InProj.Claim
public import proofs.«01_k».proof.Proof.InProj.Same
public import proofs.«01_k».proof.Proof.Merge.Claim
public import proofs.«01_k».proof.Proof.InSample.Claim
public import proofs.«01_k».proof.Proof.InSample.Same
public import proofs.«01_k».proof.Proof.Merge.Sample
public import proofs.«01_k».proof.Proof.Roll.Claim
public import proofs.«01_k».proof.Proof.Roll.Same

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  AttnB.frame_bits, AttnB.frame_ker, fun m g _ => AttnB.frame_ker m g trivial,
  AttnB.frame_ref, fun m g _ => AttnB.frame_ref m g trivial,
  InProj.frame_bits, InProj.frame_ker, InProj.frame_ref,
  fun m g _ => Cert.Kernel3.Gen.frame m g, fun m g _ => Cert.Kernel3Ideal.Gen.frame m g, Merge.frame_ref,
  InSample.frame_bits, InSample.frame_ker, InSample.frame_ref,
  fun m g _ => Cert.Kernel5.Gen.frame m g, fun m g _ => Cert.Kernel5Ideal.Gen.frame m g, MergeSample.frame_ref,
  Roll.frame_bits, Roll.frame_ker, Roll.frame_ref,
  ⟨IdealRules.named_const.statement Cert.KernelIdeal.κ "log2e" .f32 0x3FB8AA3B#32 _ rfl,
    IdealRules.named_const.statement Cert.KernelIdeal.κ "scale_log2e" .f32 0x3E0293EE#32 _ rfl⟩,
  AttnB.algebraic, trivial, InProj.algebraic, trivial, Merge.algebraic,
  trivial, InSample.algebraic, trivial, MergeSample.algebraic, trivial, Roll.algebraic⟩

end Cert.Proof

end
